-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def Pre_InProjA (m : (ℓ : Loc Cert.InProjA.nD Cert.InProjA.τ Cert.InProjA.sig) → Buf (Elt Bits) ℓ) : Prop :=
  True

def Pre_InProjAIdeal (m : (ℓ : Loc Cert.InProjAIdeal.nD Cert.InProjAIdeal.τ Cert.InProjAIdeal.sig) → Buf (Elt Ideal) ℓ) : Prop :=
  True

def Pre_RefInProjAIdeal (m : (ℓ : Loc Cert.RefInProjAIdeal.nD Cert.RefInProjAIdeal.τ Cert.RefInProjAIdeal.sig) → Buf (Elt Ideal) ℓ) : Prop :=
  True

def Pre_OutProjA (m : (ℓ : Loc Cert.OutProjA.nD Cert.OutProjA.τ Cert.OutProjA.sig) → Buf (Elt Bits) ℓ) : Prop :=
  True

def Pre_OutProjAIdeal (m : (ℓ : Loc Cert.OutProjAIdeal.nD Cert.OutProjAIdeal.τ Cert.OutProjAIdeal.sig) → Buf (Elt Ideal) ℓ) : Prop :=
  True

def Pre_RefOutProjAIdeal (m : (ℓ : Loc Cert.RefOutProjAIdeal.nD Cert.RefOutProjAIdeal.τ Cert.RefOutProjAIdeal.sig) → Buf (Elt Ideal) ℓ) : Prop :=
  True

def Pre_InProjC (m : (ℓ : Loc Cert.InProjC.nD Cert.InProjC.τ Cert.InProjC.sig) → Buf (Elt Bits) ℓ) : Prop :=
  True

def Pre_InProjCIdeal (m : (ℓ : Loc Cert.InProjCIdeal.nD Cert.InProjCIdeal.τ Cert.InProjCIdeal.sig) → Buf (Elt Ideal) ℓ) : Prop :=
  True

def Pre_RefInProjCIdeal (m : (ℓ : Loc Cert.RefInProjCIdeal.nD Cert.RefInProjCIdeal.τ Cert.RefInProjCIdeal.sig) → Buf (Elt Ideal) ℓ) : Prop :=
  True

def Pre_OutProjC (m : (ℓ : Loc Cert.OutProjC.nD Cert.OutProjC.τ Cert.OutProjC.sig) → Buf (Elt Bits) ℓ) : Prop :=
  True

def Pre_OutProjCIdeal (m : (ℓ : Loc Cert.OutProjCIdeal.nD Cert.OutProjCIdeal.τ Cert.OutProjCIdeal.sig) → Buf (Elt Ideal) ℓ) : Prop :=
  True

def Pre_RefOutProjCIdeal (m : (ℓ : Loc Cert.RefOutProjCIdeal.nD Cert.RefOutProjCIdeal.τ Cert.RefOutProjCIdeal.sig) → Buf (Elt Ideal) ℓ) : Prop :=
  True

def Pre_InProjB (m : (ℓ : Loc Cert.InProjB.nD Cert.InProjB.τ Cert.InProjB.sig) → Buf (Elt Bits) ℓ) : Prop :=
  True

def Pre_InProjBIdeal (m : (ℓ : Loc Cert.InProjBIdeal.nD Cert.InProjBIdeal.τ Cert.InProjBIdeal.sig) → Buf (Elt Ideal) ℓ) : Prop :=
  True

def Pre_RefInProjBIdeal (m : (ℓ : Loc Cert.RefInProjBIdeal.nD Cert.RefInProjBIdeal.τ Cert.RefInProjBIdeal.sig) → Buf (Elt Ideal) ℓ) : Prop :=
  True

def Pre_OutProjB (m : (ℓ : Loc Cert.OutProjB.nD Cert.OutProjB.τ Cert.OutProjB.sig) → Buf (Elt Bits) ℓ) : Prop :=
  True

def Pre_OutProjBIdeal (m : (ℓ : Loc Cert.OutProjBIdeal.nD Cert.OutProjBIdeal.τ Cert.OutProjBIdeal.sig) → Buf (Elt Ideal) ℓ) : Prop :=
  True

def Pre_RefOutProjBIdeal (m : (ℓ : Loc Cert.RefOutProjBIdeal.nD Cert.RefOutProjBIdeal.τ Cert.RefOutProjBIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_RefReadoutIdeal (m : (ℓ : Loc Cert.RefReadoutIdeal.nD Cert.RefReadoutIdeal.τ Cert.RefReadoutIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4))
      ∧ r.2.sem = fun _ => 0)

def quiescent_InProjA [hInProjA : Cert.InProjA.Facts] : Prop :=
  ∀ (m : (ℓ : Loc Cert.InProjA.nD Cert.InProjA.τ Cert.InProjA.sig) → Buf (Elt Bits) ℓ) (g : Dev Cert.InProjA.nD → PrngReg), Pre_InProjA m →
    θ_run (Cert.InProjA.defs (F := Bits)) (onTc (τ := Cert.InProjA.τ) (Cert.InProjA.main (F := Bits))) ⟨m, fun _ => 0, g⟩ (fun r => (∀ c : Dev Cert.InProjA.nD,
      r.2.mem ((c.tc : Thread Cert.InProjA.nD Cert.InProjA.τ).loc Cert.InProjA.main_arg0) = m ((c.tc : Thread Cert.InProjA.nD Cert.InProjA.τ).loc Cert.InProjA.main_arg0)
      ∧ r.2.mem ((c.tc : Thread Cert.InProjA.nD Cert.InProjA.τ).loc Cert.InProjA.main_arg1) = m ((c.tc : Thread Cert.InProjA.nD Cert.InProjA.τ).loc Cert.InProjA.main_arg1)
      ∧ r.2.mem ((c.tc : Thread Cert.InProjA.nD Cert.InProjA.τ).loc Cert.InProjA.main_arg2) = m ((c.tc : Thread Cert.InProjA.nD Cert.InProjA.τ).loc Cert.InProjA.main_arg2)
      ∧ r.2.mem ((c.tc : Thread Cert.InProjA.nD Cert.InProjA.τ).loc Cert.InProjA.main_arg3) = m ((c.tc : Thread Cert.InProjA.nD Cert.InProjA.τ).loc Cert.InProjA.main_arg3))
      ∧ r.2.sem = fun _ => 0)

def quiescent_InProjAIdeal [hInProjAIdeal : Cert.InProjAIdeal.Facts] : Prop :=
  ∀ (m : (ℓ : Loc Cert.InProjAIdeal.nD Cert.InProjAIdeal.τ Cert.InProjAIdeal.sig) → Buf (Elt Ideal) ℓ) (g : Dev Cert.InProjAIdeal.nD → PrngReg), Pre_InProjAIdeal m →
    θ_run (Cert.InProjAIdeal.defs (F := Ideal)) (onTc (τ := Cert.InProjAIdeal.τ) (Cert.InProjAIdeal.main (F := Ideal))) ⟨m, fun _ => 0, g⟩ (fun r => (∀ c : Dev Cert.InProjAIdeal.nD,
      r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
      ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
      ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2)
      ∧ r.2.mem ((c.tc : Thread Cert.InProjAIdeal.nD Cert.InProjAIdeal.τ).loc Cert.InProjAIdeal.main_arg3) = m ((c.tc : Thread Cert.InProjAIdeal.nD Cert.InProjAIdeal.τ).loc Cert.InProjAIdeal.main_arg3))
      ∧ r.2.sem = fun _ => 0)

def quiescent_RefInProjAIdeal [hRefInProjAIdeal : Cert.RefInProjAIdeal.Facts] : Prop :=
  ∀ (m : (ℓ : Loc Cert.RefInProjAIdeal.nD Cert.RefInProjAIdeal.τ Cert.RefInProjAIdeal.sig) → Buf (Elt Ideal) ℓ) (g : Dev Cert.RefInProjAIdeal.nD → PrngReg), Pre_RefInProjAIdeal m →
    θ_run (Cert.RefInProjAIdeal.defs (F := Ideal)) (onTc (τ := Cert.RefInProjAIdeal.τ) (Cert.RefInProjAIdeal.main (F := Ideal))) ⟨m, fun _ => 0, g⟩ (fun r => (∀ c : Dev Cert.RefInProjAIdeal.nD,
      r.2.mem ((c.tc : Thread Cert.RefInProjAIdeal.nD Cert.RefInProjAIdeal.τ).loc Cert.RefInProjAIdeal.main_arg0) = m ((c.tc : Thread Cert.RefInProjAIdeal.nD Cert.RefInProjAIdeal.τ).loc Cert.RefInProjAIdeal.main_arg0)
      ∧ r.2.mem ((c.tc : Thread Cert.RefInProjAIdeal.nD Cert.RefInProjAIdeal.τ).loc Cert.RefInProjAIdeal.main_arg1) = m ((c.tc : Thread Cert.RefInProjAIdeal.nD Cert.RefInProjAIdeal.τ).loc Cert.RefInProjAIdeal.main_arg1)
      ∧ r.2.mem ((c.tc : Thread Cert.RefInProjAIdeal.nD Cert.RefInProjAIdeal.τ).loc Cert.RefInProjAIdeal.main_arg2) = m ((c.tc : Thread Cert.RefInProjAIdeal.nD Cert.RefInProjAIdeal.τ).loc Cert.RefInProjAIdeal.main_arg2)
      ∧ r.2.mem ((c.tc : Thread Cert.RefInProjAIdeal.nD Cert.RefInProjAIdeal.τ).loc Cert.RefInProjAIdeal.main_arg3) = m ((c.tc : Thread Cert.RefInProjAIdeal.nD Cert.RefInProjAIdeal.τ).loc Cert.RefInProjAIdeal.main_arg3))
      ∧ r.2.sem = fun _ => 0)

def quiescent_OutProjA [hOutProjA : Cert.OutProjA.Facts] : Prop :=
  ∀ (m : (ℓ : Loc Cert.OutProjA.nD Cert.OutProjA.τ Cert.OutProjA.sig) → Buf (Elt Bits) ℓ) (g : Dev Cert.OutProjA.nD → PrngReg), Pre_OutProjA m →
    θ_run (Cert.OutProjA.defs (F := Bits)) (onTc (τ := Cert.OutProjA.τ) (Cert.OutProjA.main (F := Bits))) ⟨m, fun _ => 0, g⟩ (fun r => (∀ c : Dev Cert.OutProjA.nD,
      r.2.mem ((c.tc : Thread Cert.OutProjA.nD Cert.OutProjA.τ).loc Cert.OutProjA.main_arg0) = m ((c.tc : Thread Cert.OutProjA.nD Cert.OutProjA.τ).loc Cert.OutProjA.main_arg0)
      ∧ r.2.mem ((c.tc : Thread Cert.OutProjA.nD Cert.OutProjA.τ).loc Cert.OutProjA.main_arg1) = m ((c.tc : Thread Cert.OutProjA.nD Cert.OutProjA.τ).loc Cert.OutProjA.main_arg1)
      ∧ r.2.mem ((c.tc : Thread Cert.OutProjA.nD Cert.OutProjA.τ).loc Cert.OutProjA.main_arg2) = m ((c.tc : Thread Cert.OutProjA.nD Cert.OutProjA.τ).loc Cert.OutProjA.main_arg2)
      ∧ r.2.mem ((c.tc : Thread Cert.OutProjA.nD Cert.OutProjA.τ).loc Cert.OutProjA.main_arg3) = m ((c.tc : Thread Cert.OutProjA.nD Cert.OutProjA.τ).loc Cert.OutProjA.main_arg3)
      ∧ r.2.mem ((c.tc : Thread Cert.OutProjA.nD Cert.OutProjA.τ).loc Cert.OutProjA.main_arg4) = m ((c.tc : Thread Cert.OutProjA.nD Cert.OutProjA.τ).loc Cert.OutProjA.main_arg4)
      ∧ r.2.mem ((c.tc : Thread Cert.OutProjA.nD Cert.OutProjA.τ).loc Cert.OutProjA.main_arg5) = m ((c.tc : Thread Cert.OutProjA.nD Cert.OutProjA.τ).loc Cert.OutProjA.main_arg5)
      ∧ r.2.mem ((c.tc : Thread Cert.OutProjA.nD Cert.OutProjA.τ).loc Cert.OutProjA.main_arg6) = m ((c.tc : Thread Cert.OutProjA.nD Cert.OutProjA.τ).loc Cert.OutProjA.main_arg6)
      ∧ r.2.mem ((c.tc : Thread Cert.OutProjA.nD Cert.OutProjA.τ).loc Cert.OutProjA.main_arg7) = m ((c.tc : Thread Cert.OutProjA.nD Cert.OutProjA.τ).loc Cert.OutProjA.main_arg7))
      ∧ r.2.sem = fun _ => 0)

def quiescent_OutProjAIdeal [hOutProjAIdeal : Cert.OutProjAIdeal.Facts] : Prop :=
  ∀ (m : (ℓ : Loc Cert.OutProjAIdeal.nD Cert.OutProjAIdeal.τ Cert.OutProjAIdeal.sig) → Buf (Elt Ideal) ℓ) (g : Dev Cert.OutProjAIdeal.nD → PrngReg), Pre_OutProjAIdeal m →
    θ_run (Cert.OutProjAIdeal.defs (F := Ideal)) (onTc (τ := Cert.OutProjAIdeal.τ) (Cert.OutProjAIdeal.main (F := Ideal))) ⟨m, fun _ => 0, g⟩ (fun r => (∀ c : Dev Cert.OutProjAIdeal.nD,
      r.2.mem ((c.tc : Thread Cert.OutProjAIdeal.nD Cert.OutProjAIdeal.τ).loc Cert.OutProjAIdeal.main_arg0) = m ((c.tc : Thread Cert.OutProjAIdeal.nD Cert.OutProjAIdeal.τ).loc Cert.OutProjAIdeal.main_arg0)
      ∧ r.2.mem ((c.tc : Thread Cert.OutProjAIdeal.nD Cert.OutProjAIdeal.τ).loc Cert.OutProjAIdeal.main_arg1) = m ((c.tc : Thread Cert.OutProjAIdeal.nD Cert.OutProjAIdeal.τ).loc Cert.OutProjAIdeal.main_arg1)
      ∧ r.2.mem ((c.tc : Thread Cert.OutProjAIdeal.nD Cert.OutProjAIdeal.τ).loc Cert.OutProjAIdeal.main_arg2) = m ((c.tc : Thread Cert.OutProjAIdeal.nD Cert.OutProjAIdeal.τ).loc Cert.OutProjAIdeal.main_arg2)
      ∧ r.2.mem ((c.tc : Thread Cert.OutProjAIdeal.nD Cert.OutProjAIdeal.τ).loc Cert.OutProjAIdeal.main_arg3) = m ((c.tc : Thread Cert.OutProjAIdeal.nD Cert.OutProjAIdeal.τ).loc Cert.OutProjAIdeal.main_arg3)
      ∧ r.2.mem ((c.tc : Thread Cert.OutProjAIdeal.nD Cert.OutProjAIdeal.τ).loc Cert.OutProjAIdeal.main_arg4) = m ((c.tc : Thread Cert.OutProjAIdeal.nD Cert.OutProjAIdeal.τ).loc Cert.OutProjAIdeal.main_arg4)
      ∧ r.2.mem ((c.tc : Thread Cert.OutProjAIdeal.nD Cert.OutProjAIdeal.τ).loc Cert.OutProjAIdeal.main_arg5) = m ((c.tc : Thread Cert.OutProjAIdeal.nD Cert.OutProjAIdeal.τ).loc Cert.OutProjAIdeal.main_arg5)
      ∧ r.2.mem ((c.tc : Thread Cert.OutProjAIdeal.nD Cert.OutProjAIdeal.τ).loc Cert.OutProjAIdeal.main_arg6) = m ((c.tc : Thread Cert.OutProjAIdeal.nD Cert.OutProjAIdeal.τ).loc Cert.OutProjAIdeal.main_arg6)
      ∧ r.2.mem ((c.tc : Thread Cert.OutProjAIdeal.nD Cert.OutProjAIdeal.τ).loc Cert.OutProjAIdeal.main_arg7) = m ((c.tc : Thread Cert.OutProjAIdeal.nD Cert.OutProjAIdeal.τ).loc Cert.OutProjAIdeal.main_arg7))
      ∧ r.2.sem = fun _ => 0)

def quiescent_RefOutProjAIdeal [hRefOutProjAIdeal : Cert.RefOutProjAIdeal.Facts] : Prop :=
  ∀ (m : (ℓ : Loc Cert.RefOutProjAIdeal.nD Cert.RefOutProjAIdeal.τ Cert.RefOutProjAIdeal.sig) → Buf (Elt Ideal) ℓ) (g : Dev Cert.RefOutProjAIdeal.nD → PrngReg), Pre_RefOutProjAIdeal m →
    θ_run (Cert.RefOutProjAIdeal.defs (F := Ideal)) (onTc (τ := Cert.RefOutProjAIdeal.τ) (Cert.RefOutProjAIdeal.main (F := Ideal))) ⟨m, fun _ => 0, g⟩ (fun r => (∀ c : Dev Cert.RefOutProjAIdeal.nD,
      r.2.mem ((c.tc : Thread Cert.RefOutProjAIdeal.nD Cert.RefOutProjAIdeal.τ).loc Cert.RefOutProjAIdeal.main_arg0) = m ((c.tc : Thread Cert.RefOutProjAIdeal.nD Cert.RefOutProjAIdeal.τ).loc Cert.RefOutProjAIdeal.main_arg0)
      ∧ r.2.mem ((c.tc : Thread Cert.RefOutProjAIdeal.nD Cert.RefOutProjAIdeal.τ).loc Cert.RefOutProjAIdeal.main_arg1) = m ((c.tc : Thread Cert.RefOutProjAIdeal.nD Cert.RefOutProjAIdeal.τ).loc Cert.RefOutProjAIdeal.main_arg1)
      ∧ r.2.mem ((c.tc : Thread Cert.RefOutProjAIdeal.nD Cert.RefOutProjAIdeal.τ).loc Cert.RefOutProjAIdeal.main_arg2) = m ((c.tc : Thread Cert.RefOutProjAIdeal.nD Cert.RefOutProjAIdeal.τ).loc Cert.RefOutProjAIdeal.main_arg2)
      ∧ r.2.mem ((c.tc : Thread Cert.RefOutProjAIdeal.nD Cert.RefOutProjAIdeal.τ).loc Cert.RefOutProjAIdeal.main_arg3) = m ((c.tc : Thread Cert.RefOutProjAIdeal.nD Cert.RefOutProjAIdeal.τ).loc Cert.RefOutProjAIdeal.main_arg3)
      ∧ r.2.mem ((c.tc : Thread Cert.RefOutProjAIdeal.nD Cert.RefOutProjAIdeal.τ).loc Cert.RefOutProjAIdeal.main_arg4) = m ((c.tc : Thread Cert.RefOutProjAIdeal.nD Cert.RefOutProjAIdeal.τ).loc Cert.RefOutProjAIdeal.main_arg4)
      ∧ r.2.mem ((c.tc : Thread Cert.RefOutProjAIdeal.nD Cert.RefOutProjAIdeal.τ).loc Cert.RefOutProjAIdeal.main_arg5) = m ((c.tc : Thread Cert.RefOutProjAIdeal.nD Cert.RefOutProjAIdeal.τ).loc Cert.RefOutProjAIdeal.main_arg5)
      ∧ r.2.mem ((c.tc : Thread Cert.RefOutProjAIdeal.nD Cert.RefOutProjAIdeal.τ).loc Cert.RefOutProjAIdeal.main_arg6) = m ((c.tc : Thread Cert.RefOutProjAIdeal.nD Cert.RefOutProjAIdeal.τ).loc Cert.RefOutProjAIdeal.main_arg6)
      ∧ r.2.mem ((c.tc : Thread Cert.RefOutProjAIdeal.nD Cert.RefOutProjAIdeal.τ).loc Cert.RefOutProjAIdeal.main_arg7) = m ((c.tc : Thread Cert.RefOutProjAIdeal.nD Cert.RefOutProjAIdeal.τ).loc Cert.RefOutProjAIdeal.main_arg7))
      ∧ r.2.sem = fun _ => 0)

def quiescent_InProjC [hInProjC : Cert.InProjC.Facts] : Prop :=
  ∀ (m : (ℓ : Loc Cert.InProjC.nD Cert.InProjC.τ Cert.InProjC.sig) → Buf (Elt Bits) ℓ) (g : Dev Cert.InProjC.nD → PrngReg), Pre_InProjC m →
    θ_run (Cert.InProjC.defs (F := Bits)) (onTc (τ := Cert.InProjC.τ) (Cert.InProjC.main (F := Bits))) ⟨m, fun _ => 0, g⟩ (fun r => (∀ c : Dev Cert.InProjC.nD,
      r.2.mem ((c.tc : Thread Cert.InProjC.nD Cert.InProjC.τ).loc Cert.InProjC.main_arg0) = m ((c.tc : Thread Cert.InProjC.nD Cert.InProjC.τ).loc Cert.InProjC.main_arg0)
      ∧ r.2.mem ((c.tc : Thread Cert.InProjC.nD Cert.InProjC.τ).loc Cert.InProjC.main_arg1) = m ((c.tc : Thread Cert.InProjC.nD Cert.InProjC.τ).loc Cert.InProjC.main_arg1)
      ∧ r.2.mem ((c.tc : Thread Cert.InProjC.nD Cert.InProjC.τ).loc Cert.InProjC.main_arg2) = m ((c.tc : Thread Cert.InProjC.nD Cert.InProjC.τ).loc Cert.InProjC.main_arg2)
      ∧ r.2.mem ((c.tc : Thread Cert.InProjC.nD Cert.InProjC.τ).loc Cert.InProjC.main_arg3) = m ((c.tc : Thread Cert.InProjC.nD Cert.InProjC.τ).loc Cert.InProjC.main_arg3))
      ∧ r.2.sem = fun _ => 0)

def quiescent_InProjCIdeal [hInProjCIdeal : Cert.InProjCIdeal.Facts] : Prop :=
  ∀ (m : (ℓ : Loc Cert.InProjCIdeal.nD Cert.InProjCIdeal.τ Cert.InProjCIdeal.sig) → Buf (Elt Ideal) ℓ) (g : Dev Cert.InProjCIdeal.nD → PrngReg), Pre_InProjCIdeal m →
    θ_run (Cert.InProjCIdeal.defs (F := Ideal)) (onTc (τ := Cert.InProjCIdeal.τ) (Cert.InProjCIdeal.main (F := Ideal))) ⟨m, fun _ => 0, g⟩ (fun r => (∀ c : Dev Cert.InProjCIdeal.nD,
      r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
      ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1)
      ∧ r.2.mem ((c.tc : Thread Cert.InProjCIdeal.nD Cert.InProjCIdeal.τ).loc Cert.InProjCIdeal.main_arg2) = m ((c.tc : Thread Cert.InProjCIdeal.nD Cert.InProjCIdeal.τ).loc Cert.InProjCIdeal.main_arg2)
      ∧ r.2.mem ((c.tc : Thread Cert.InProjCIdeal.nD Cert.InProjCIdeal.τ).loc Cert.InProjCIdeal.main_arg3) = m ((c.tc : Thread Cert.InProjCIdeal.nD Cert.InProjCIdeal.τ).loc Cert.InProjCIdeal.main_arg3))
      ∧ r.2.sem = fun _ => 0)

def quiescent_RefInProjCIdeal [hRefInProjCIdeal : Cert.RefInProjCIdeal.Facts] : Prop :=
  ∀ (m : (ℓ : Loc Cert.RefInProjCIdeal.nD Cert.RefInProjCIdeal.τ Cert.RefInProjCIdeal.sig) → Buf (Elt Ideal) ℓ) (g : Dev Cert.RefInProjCIdeal.nD → PrngReg), Pre_RefInProjCIdeal m →
    θ_run (Cert.RefInProjCIdeal.defs (F := Ideal)) (onTc (τ := Cert.RefInProjCIdeal.τ) (Cert.RefInProjCIdeal.main (F := Ideal))) ⟨m, fun _ => 0, g⟩ (fun r => (∀ c : Dev Cert.RefInProjCIdeal.nD,
      r.2.mem ((c.tc : Thread Cert.RefInProjCIdeal.nD Cert.RefInProjCIdeal.τ).loc Cert.RefInProjCIdeal.main_arg0) = m ((c.tc : Thread Cert.RefInProjCIdeal.nD Cert.RefInProjCIdeal.τ).loc Cert.RefInProjCIdeal.main_arg0)
      ∧ r.2.mem ((c.tc : Thread Cert.RefInProjCIdeal.nD Cert.RefInProjCIdeal.τ).loc Cert.RefInProjCIdeal.main_arg1) = m ((c.tc : Thread Cert.RefInProjCIdeal.nD Cert.RefInProjCIdeal.τ).loc Cert.RefInProjCIdeal.main_arg1)
      ∧ r.2.mem ((c.tc : Thread Cert.RefInProjCIdeal.nD Cert.RefInProjCIdeal.τ).loc Cert.RefInProjCIdeal.main_arg2) = m ((c.tc : Thread Cert.RefInProjCIdeal.nD Cert.RefInProjCIdeal.τ).loc Cert.RefInProjCIdeal.main_arg2)
      ∧ r.2.mem ((c.tc : Thread Cert.RefInProjCIdeal.nD Cert.RefInProjCIdeal.τ).loc Cert.RefInProjCIdeal.main_arg3) = m ((c.tc : Thread Cert.RefInProjCIdeal.nD Cert.RefInProjCIdeal.τ).loc Cert.RefInProjCIdeal.main_arg3))
      ∧ r.2.sem = fun _ => 0)

def quiescent_OutProjC [hOutProjC : Cert.OutProjC.Facts] : Prop :=
  ∀ (m : (ℓ : Loc Cert.OutProjC.nD Cert.OutProjC.τ Cert.OutProjC.sig) → Buf (Elt Bits) ℓ) (g : Dev Cert.OutProjC.nD → PrngReg), Pre_OutProjC m →
    θ_run (Cert.OutProjC.defs (F := Bits)) (onTc (τ := Cert.OutProjC.τ) (Cert.OutProjC.main (F := Bits))) ⟨m, fun _ => 0, g⟩ (fun r => (∀ c : Dev Cert.OutProjC.nD,
      r.2.mem ((c.tc : Thread Cert.OutProjC.nD Cert.OutProjC.τ).loc Cert.OutProjC.main_arg0) = m ((c.tc : Thread Cert.OutProjC.nD Cert.OutProjC.τ).loc Cert.OutProjC.main_arg0)
      ∧ r.2.mem ((c.tc : Thread Cert.OutProjC.nD Cert.OutProjC.τ).loc Cert.OutProjC.main_arg1) = m ((c.tc : Thread Cert.OutProjC.nD Cert.OutProjC.τ).loc Cert.OutProjC.main_arg1)
      ∧ r.2.mem ((c.tc : Thread Cert.OutProjC.nD Cert.OutProjC.τ).loc Cert.OutProjC.main_arg2) = m ((c.tc : Thread Cert.OutProjC.nD Cert.OutProjC.τ).loc Cert.OutProjC.main_arg2)
      ∧ r.2.mem ((c.tc : Thread Cert.OutProjC.nD Cert.OutProjC.τ).loc Cert.OutProjC.main_arg3) = m ((c.tc : Thread Cert.OutProjC.nD Cert.OutProjC.τ).loc Cert.OutProjC.main_arg3)
      ∧ r.2.mem ((c.tc : Thread Cert.OutProjC.nD Cert.OutProjC.τ).loc Cert.OutProjC.main_arg4) = m ((c.tc : Thread Cert.OutProjC.nD Cert.OutProjC.τ).loc Cert.OutProjC.main_arg4))
      ∧ r.2.sem = fun _ => 0)

def quiescent_OutProjCIdeal [hOutProjCIdeal : Cert.OutProjCIdeal.Facts] : Prop :=
  ∀ (m : (ℓ : Loc Cert.OutProjCIdeal.nD Cert.OutProjCIdeal.τ Cert.OutProjCIdeal.sig) → Buf (Elt Ideal) ℓ) (g : Dev Cert.OutProjCIdeal.nD → PrngReg), Pre_OutProjCIdeal m →
    θ_run (Cert.OutProjCIdeal.defs (F := Ideal)) (onTc (τ := Cert.OutProjCIdeal.τ) (Cert.OutProjCIdeal.main (F := Ideal))) ⟨m, fun _ => 0, g⟩ (fun r => (∀ c : Dev Cert.OutProjCIdeal.nD,
      r.2.mem ((c.tc : Thread Cert.OutProjCIdeal.nD Cert.OutProjCIdeal.τ).loc Cert.OutProjCIdeal.main_arg0) = m ((c.tc : Thread Cert.OutProjCIdeal.nD Cert.OutProjCIdeal.τ).loc Cert.OutProjCIdeal.main_arg0)
      ∧ r.2.mem ((c.tc : Thread Cert.OutProjCIdeal.nD Cert.OutProjCIdeal.τ).loc Cert.OutProjCIdeal.main_arg1) = m ((c.tc : Thread Cert.OutProjCIdeal.nD Cert.OutProjCIdeal.τ).loc Cert.OutProjCIdeal.main_arg1)
      ∧ r.2.mem ((c.tc : Thread Cert.OutProjCIdeal.nD Cert.OutProjCIdeal.τ).loc Cert.OutProjCIdeal.main_arg2) = m ((c.tc : Thread Cert.OutProjCIdeal.nD Cert.OutProjCIdeal.τ).loc Cert.OutProjCIdeal.main_arg2)
      ∧ r.2.mem ((c.tc : Thread Cert.OutProjCIdeal.nD Cert.OutProjCIdeal.τ).loc Cert.OutProjCIdeal.main_arg3) = m ((c.tc : Thread Cert.OutProjCIdeal.nD Cert.OutProjCIdeal.τ).loc Cert.OutProjCIdeal.main_arg3)
      ∧ r.2.mem ((c.tc : Thread Cert.OutProjCIdeal.nD Cert.OutProjCIdeal.τ).loc Cert.OutProjCIdeal.main_arg4) = m ((c.tc : Thread Cert.OutProjCIdeal.nD Cert.OutProjCIdeal.τ).loc Cert.OutProjCIdeal.main_arg4))
      ∧ r.2.sem = fun _ => 0)

def quiescent_RefOutProjCIdeal [hRefOutProjCIdeal : Cert.RefOutProjCIdeal.Facts] : Prop :=
  ∀ (m : (ℓ : Loc Cert.RefOutProjCIdeal.nD Cert.RefOutProjCIdeal.τ Cert.RefOutProjCIdeal.sig) → Buf (Elt Ideal) ℓ) (g : Dev Cert.RefOutProjCIdeal.nD → PrngReg), Pre_RefOutProjCIdeal m →
    θ_run (Cert.RefOutProjCIdeal.defs (F := Ideal)) (onTc (τ := Cert.RefOutProjCIdeal.τ) (Cert.RefOutProjCIdeal.main (F := Ideal))) ⟨m, fun _ => 0, g⟩ (fun r => (∀ c : Dev Cert.RefOutProjCIdeal.nD,
      r.2.mem ((c.tc : Thread Cert.RefOutProjCIdeal.nD Cert.RefOutProjCIdeal.τ).loc Cert.RefOutProjCIdeal.main_arg0) = m ((c.tc : Thread Cert.RefOutProjCIdeal.nD Cert.RefOutProjCIdeal.τ).loc Cert.RefOutProjCIdeal.main_arg0)
      ∧ r.2.mem ((c.tc : Thread Cert.RefOutProjCIdeal.nD Cert.RefOutProjCIdeal.τ).loc Cert.RefOutProjCIdeal.main_arg1) = m ((c.tc : Thread Cert.RefOutProjCIdeal.nD Cert.RefOutProjCIdeal.τ).loc Cert.RefOutProjCIdeal.main_arg1)
      ∧ r.2.mem ((c.tc : Thread Cert.RefOutProjCIdeal.nD Cert.RefOutProjCIdeal.τ).loc Cert.RefOutProjCIdeal.main_arg2) = m ((c.tc : Thread Cert.RefOutProjCIdeal.nD Cert.RefOutProjCIdeal.τ).loc Cert.RefOutProjCIdeal.main_arg2)
      ∧ r.2.mem ((c.tc : Thread Cert.RefOutProjCIdeal.nD Cert.RefOutProjCIdeal.τ).loc Cert.RefOutProjCIdeal.main_arg3) = m ((c.tc : Thread Cert.RefOutProjCIdeal.nD Cert.RefOutProjCIdeal.τ).loc Cert.RefOutProjCIdeal.main_arg3)
      ∧ r.2.mem ((c.tc : Thread Cert.RefOutProjCIdeal.nD Cert.RefOutProjCIdeal.τ).loc Cert.RefOutProjCIdeal.main_arg4) = m ((c.tc : Thread Cert.RefOutProjCIdeal.nD Cert.RefOutProjCIdeal.τ).loc Cert.RefOutProjCIdeal.main_arg4))
      ∧ r.2.sem = fun _ => 0)

def quiescent_InProjB [hInProjB : Cert.InProjB.Facts] : Prop :=
  ∀ (m : (ℓ : Loc Cert.InProjB.nD Cert.InProjB.τ Cert.InProjB.sig) → Buf (Elt Bits) ℓ) (g : Dev Cert.InProjB.nD → PrngReg), Pre_InProjB m →
    θ_run (Cert.InProjB.defs (F := Bits)) (onTc (τ := Cert.InProjB.τ) (Cert.InProjB.main (F := Bits))) ⟨m, fun _ => 0, g⟩ (fun r => (∀ c : Dev Cert.InProjB.nD,
      r.2.mem ((c.tc : Thread Cert.InProjB.nD Cert.InProjB.τ).loc Cert.InProjB.main_arg0) = m ((c.tc : Thread Cert.InProjB.nD Cert.InProjB.τ).loc Cert.InProjB.main_arg0)
      ∧ r.2.mem ((c.tc : Thread Cert.InProjB.nD Cert.InProjB.τ).loc Cert.InProjB.main_arg1) = m ((c.tc : Thread Cert.InProjB.nD Cert.InProjB.τ).loc Cert.InProjB.main_arg1)
      ∧ r.2.mem ((c.tc : Thread Cert.InProjB.nD Cert.InProjB.τ).loc Cert.InProjB.main_arg2) = m ((c.tc : Thread Cert.InProjB.nD Cert.InProjB.τ).loc Cert.InProjB.main_arg2)
      ∧ r.2.mem ((c.tc : Thread Cert.InProjB.nD Cert.InProjB.τ).loc Cert.InProjB.main_arg3) = m ((c.tc : Thread Cert.InProjB.nD Cert.InProjB.τ).loc Cert.InProjB.main_arg3))
      ∧ r.2.sem = fun _ => 0)

def quiescent_InProjBIdeal [hInProjBIdeal : Cert.InProjBIdeal.Facts] : Prop :=
  ∀ (m : (ℓ : Loc Cert.InProjBIdeal.nD Cert.InProjBIdeal.τ Cert.InProjBIdeal.sig) → Buf (Elt Ideal) ℓ) (g : Dev Cert.InProjBIdeal.nD → PrngReg), Pre_InProjBIdeal m →
    θ_run (Cert.InProjBIdeal.defs (F := Ideal)) (onTc (τ := Cert.InProjBIdeal.τ) (Cert.InProjBIdeal.main (F := Ideal))) ⟨m, fun _ => 0, g⟩ (fun r => (∀ c : Dev Cert.InProjBIdeal.nD,
      r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
      ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1)
      ∧ r.2.mem ((c.tc : Thread Cert.InProjBIdeal.nD Cert.InProjBIdeal.τ).loc Cert.InProjBIdeal.main_arg2) = m ((c.tc : Thread Cert.InProjBIdeal.nD Cert.InProjBIdeal.τ).loc Cert.InProjBIdeal.main_arg2)
      ∧ r.2.mem ((c.tc : Thread Cert.InProjBIdeal.nD Cert.InProjBIdeal.τ).loc Cert.InProjBIdeal.main_arg3) = m ((c.tc : Thread Cert.InProjBIdeal.nD Cert.InProjBIdeal.τ).loc Cert.InProjBIdeal.main_arg3))
      ∧ r.2.sem = fun _ => 0)

def quiescent_RefInProjBIdeal [hRefInProjBIdeal : Cert.RefInProjBIdeal.Facts] : Prop :=
  ∀ (m : (ℓ : Loc Cert.RefInProjBIdeal.nD Cert.RefInProjBIdeal.τ Cert.RefInProjBIdeal.sig) → Buf (Elt Ideal) ℓ) (g : Dev Cert.RefInProjBIdeal.nD → PrngReg), Pre_RefInProjBIdeal m →
    θ_run (Cert.RefInProjBIdeal.defs (F := Ideal)) (onTc (τ := Cert.RefInProjBIdeal.τ) (Cert.RefInProjBIdeal.main (F := Ideal))) ⟨m, fun _ => 0, g⟩ (fun r => (∀ c : Dev Cert.RefInProjBIdeal.nD,
      r.2.mem ((c.tc : Thread Cert.RefInProjBIdeal.nD Cert.RefInProjBIdeal.τ).loc Cert.RefInProjBIdeal.main_arg0) = m ((c.tc : Thread Cert.RefInProjBIdeal.nD Cert.RefInProjBIdeal.τ).loc Cert.RefInProjBIdeal.main_arg0)
      ∧ r.2.mem ((c.tc : Thread Cert.RefInProjBIdeal.nD Cert.RefInProjBIdeal.τ).loc Cert.RefInProjBIdeal.main_arg1) = m ((c.tc : Thread Cert.RefInProjBIdeal.nD Cert.RefInProjBIdeal.τ).loc Cert.RefInProjBIdeal.main_arg1)
      ∧ r.2.mem ((c.tc : Thread Cert.RefInProjBIdeal.nD Cert.RefInProjBIdeal.τ).loc Cert.RefInProjBIdeal.main_arg2) = m ((c.tc : Thread Cert.RefInProjBIdeal.nD Cert.RefInProjBIdeal.τ).loc Cert.RefInProjBIdeal.main_arg2)
      ∧ r.2.mem ((c.tc : Thread Cert.RefInProjBIdeal.nD Cert.RefInProjBIdeal.τ).loc Cert.RefInProjBIdeal.main_arg3) = m ((c.tc : Thread Cert.RefInProjBIdeal.nD Cert.RefInProjBIdeal.τ).loc Cert.RefInProjBIdeal.main_arg3))
      ∧ r.2.sem = fun _ => 0)

def quiescent_OutProjB [hOutProjB : Cert.OutProjB.Facts] : Prop :=
  ∀ (m : (ℓ : Loc Cert.OutProjB.nD Cert.OutProjB.τ Cert.OutProjB.sig) → Buf (Elt Bits) ℓ) (g : Dev Cert.OutProjB.nD → PrngReg), Pre_OutProjB m →
    θ_run (Cert.OutProjB.defs (F := Bits)) (onTc (τ := Cert.OutProjB.τ) (Cert.OutProjB.main (F := Bits))) ⟨m, fun _ => 0, g⟩ (fun r => (∀ c : Dev Cert.OutProjB.nD,
      r.2.mem ((c.tc : Thread Cert.OutProjB.nD Cert.OutProjB.τ).loc Cert.OutProjB.main_arg0) = m ((c.tc : Thread Cert.OutProjB.nD Cert.OutProjB.τ).loc Cert.OutProjB.main_arg0)
      ∧ r.2.mem ((c.tc : Thread Cert.OutProjB.nD Cert.OutProjB.τ).loc Cert.OutProjB.main_arg1) = m ((c.tc : Thread Cert.OutProjB.nD Cert.OutProjB.τ).loc Cert.OutProjB.main_arg1)
      ∧ r.2.mem ((c.tc : Thread Cert.OutProjB.nD Cert.OutProjB.τ).loc Cert.OutProjB.main_arg2) = m ((c.tc : Thread Cert.OutProjB.nD Cert.OutProjB.τ).loc Cert.OutProjB.main_arg2)
      ∧ r.2.mem ((c.tc : Thread Cert.OutProjB.nD Cert.OutProjB.τ).loc Cert.OutProjB.main_arg3) = m ((c.tc : Thread Cert.OutProjB.nD Cert.OutProjB.τ).loc Cert.OutProjB.main_arg3)
      ∧ r.2.mem ((c.tc : Thread Cert.OutProjB.nD Cert.OutProjB.τ).loc Cert.OutProjB.main_arg4) = m ((c.tc : Thread Cert.OutProjB.nD Cert.OutProjB.τ).loc Cert.OutProjB.main_arg4))
      ∧ r.2.sem = fun _ => 0)

def quiescent_OutProjBIdeal [hOutProjBIdeal : Cert.OutProjBIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg), Pre_OutProjBIdeal m →
    θ_run (Cert.OutProjBIdeal.defs (F := Ideal)) (onTc (τ := Cert.OutProjBIdeal.τ) (Cert.OutProjBIdeal.main (F := Ideal))) ⟨m, fun _ => 0, g⟩ (fun r => (∀ c : Dev Cert.OutProjBIdeal.nD,
      r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
      ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
      ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
      ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3)
      ∧ r.2.mem ((c.tc : Thread Cert.OutProjBIdeal.nD Cert.OutProjBIdeal.τ).loc Cert.OutProjBIdeal.main_arg4) = m ((c.tc : Thread Cert.OutProjBIdeal.nD Cert.OutProjBIdeal.τ).loc Cert.OutProjBIdeal.main_arg4))
      ∧ r.2.sem = fun _ => 0)

def quiescent_RefOutProjBIdeal [hRefOutProjBIdeal : Cert.RefOutProjBIdeal.Facts] : Prop :=
  ∀ (m : (ℓ : Loc Cert.RefOutProjBIdeal.nD Cert.RefOutProjBIdeal.τ Cert.RefOutProjBIdeal.sig) → Buf (Elt Ideal) ℓ) (g : Dev Cert.RefOutProjBIdeal.nD → PrngReg), Pre_RefOutProjBIdeal m →
    θ_run (Cert.RefOutProjBIdeal.defs (F := Ideal)) (onTc (τ := Cert.RefOutProjBIdeal.τ) (Cert.RefOutProjBIdeal.main (F := Ideal))) ⟨m, fun _ => 0, g⟩ (fun r => (∀ c : Dev Cert.RefOutProjBIdeal.nD,
      r.2.mem ((c.tc : Thread Cert.RefOutProjBIdeal.nD Cert.RefOutProjBIdeal.τ).loc Cert.RefOutProjBIdeal.main_arg0) = m ((c.tc : Thread Cert.RefOutProjBIdeal.nD Cert.RefOutProjBIdeal.τ).loc Cert.RefOutProjBIdeal.main_arg0)
      ∧ r.2.mem ((c.tc : Thread Cert.RefOutProjBIdeal.nD Cert.RefOutProjBIdeal.τ).loc Cert.RefOutProjBIdeal.main_arg1) = m ((c.tc : Thread Cert.RefOutProjBIdeal.nD Cert.RefOutProjBIdeal.τ).loc Cert.RefOutProjBIdeal.main_arg1)
      ∧ r.2.mem ((c.tc : Thread Cert.RefOutProjBIdeal.nD Cert.RefOutProjBIdeal.τ).loc Cert.RefOutProjBIdeal.main_arg2) = m ((c.tc : Thread Cert.RefOutProjBIdeal.nD Cert.RefOutProjBIdeal.τ).loc Cert.RefOutProjBIdeal.main_arg2)
      ∧ r.2.mem ((c.tc : Thread Cert.RefOutProjBIdeal.nD Cert.RefOutProjBIdeal.τ).loc Cert.RefOutProjBIdeal.main_arg3) = m ((c.tc : Thread Cert.RefOutProjBIdeal.nD Cert.RefOutProjBIdeal.τ).loc Cert.RefOutProjBIdeal.main_arg3)
      ∧ r.2.mem ((c.tc : Thread Cert.RefOutProjBIdeal.nD Cert.RefOutProjBIdeal.τ).loc Cert.RefOutProjBIdeal.main_arg4) = m ((c.tc : Thread Cert.RefOutProjBIdeal.nD Cert.RefOutProjBIdeal.τ).loc Cert.RefOutProjBIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3)
      ∧ r.2.mem ((c.tc : Thread Cert.Readout.nD Cert.Readout.τ).loc Cert.Readout.main_arg4) = m ((c.tc : Thread Cert.Readout.nD Cert.Readout.τ).loc Cert.Readout.main_arg4)
      ∧ r.2.mem ((c.tc : Thread Cert.Readout.nD Cert.Readout.τ).loc Cert.Readout.main_arg5) = m ((c.tc : Thread Cert.Readout.nD Cert.Readout.τ).loc Cert.Readout.main_arg5))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
      ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
      ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5))
      ∧ r.2.sem = fun _ => 0)

def quiescent_RefReadoutIdeal [hRefReadoutIdeal : Cert.RefReadoutIdeal.Facts] : Prop :=
  ∀ (m : (ℓ : Loc Cert.RefReadoutIdeal.nD Cert.RefReadoutIdeal.τ Cert.RefReadoutIdeal.sig) → Buf (Elt Ideal) ℓ) (g : Dev Cert.RefReadoutIdeal.nD → PrngReg), Pre_RefReadoutIdeal m →
    θ_run (Cert.RefReadoutIdeal.defs (F := Ideal)) (onTc (τ := Cert.RefReadoutIdeal.τ) (Cert.RefReadoutIdeal.main (F := Ideal))) ⟨m, fun _ => 0, g⟩ (fun r => (∀ c : Dev Cert.RefReadoutIdeal.nD,
      r.2.mem ((c.tc : Thread Cert.RefReadoutIdeal.nD Cert.RefReadoutIdeal.τ).loc Cert.RefReadoutIdeal.main_arg0) = m ((c.tc : Thread Cert.RefReadoutIdeal.nD Cert.RefReadoutIdeal.τ).loc Cert.RefReadoutIdeal.main_arg0)
      ∧ r.2.mem ((c.tc : Thread Cert.RefReadoutIdeal.nD Cert.RefReadoutIdeal.τ).loc Cert.RefReadoutIdeal.main_arg1) = m ((c.tc : Thread Cert.RefReadoutIdeal.nD Cert.RefReadoutIdeal.τ).loc Cert.RefReadoutIdeal.main_arg1)
      ∧ r.2.mem ((c.tc : Thread Cert.RefReadoutIdeal.nD Cert.RefReadoutIdeal.τ).loc Cert.RefReadoutIdeal.main_arg2) = m ((c.tc : Thread Cert.RefReadoutIdeal.nD Cert.RefReadoutIdeal.τ).loc Cert.RefReadoutIdeal.main_arg2)
      ∧ r.2.mem ((c.tc : Thread Cert.RefReadoutIdeal.nD Cert.RefReadoutIdeal.τ).loc Cert.RefReadoutIdeal.main_arg3) = m ((c.tc : Thread Cert.RefReadoutIdeal.nD Cert.RefReadoutIdeal.τ).loc Cert.RefReadoutIdeal.main_arg3)
      ∧ r.2.mem ((c.tc : Thread Cert.RefReadoutIdeal.nD Cert.RefReadoutIdeal.τ).loc Cert.RefReadoutIdeal.main_arg4) = m ((c.tc : Thread Cert.RefReadoutIdeal.nD Cert.RefReadoutIdeal.τ).loc Cert.RefReadoutIdeal.main_arg4)
      ∧ r.2.mem ((c.tc : Thread Cert.RefReadoutIdeal.nD Cert.RefReadoutIdeal.τ).loc Cert.RefReadoutIdeal.main_arg5) = m ((c.tc : Thread Cert.RefReadoutIdeal.nD Cert.RefReadoutIdeal.τ).loc Cert.RefReadoutIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2)
      ∧ r.2.mem ((c.tc : Thread Cert.RefAdaIdeal.nD Cert.RefAdaIdeal.τ).loc Cert.RefAdaIdeal.main_arg3) = m ((c.tc : Thread Cert.RefAdaIdeal.nD Cert.RefAdaIdeal.τ).loc Cert.RefAdaIdeal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v53) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4))

def preserves_InProjA_InProjAIdeal : Prop :=
  True

def algebraic_InProjAIdeal_RefInProjAIdeal [hInProjAIdeal : Cert.InProjAIdeal.Facts] [hRefInProjAIdeal : Cert.RefInProjAIdeal.Facts] : Prop :=
  ∀ (m : (ℓ : Loc Cert.InProjAIdeal.nD Cert.InProjAIdeal.τ Cert.InProjAIdeal.sig) → Buf (Elt Ideal) ℓ) (g : Dev Cert.InProjAIdeal.nD → PrngReg)
    (m' : (ℓ : Loc Cert.RefInProjAIdeal.nD Cert.RefInProjAIdeal.τ Cert.RefInProjAIdeal.sig) → Buf (Elt Ideal) ℓ) (g' : Dev Cert.RefInProjAIdeal.nD → PrngReg), Pre_InProjAIdeal m →
    (∀ c : Dev Cert.InProjAIdeal.nD,
      m' ((c.tc : Thread Cert.RefInProjAIdeal.nD Cert.RefInProjAIdeal.τ).loc Cert.RefInProjAIdeal.main_arg0) = m ((c.tc : Thread Cert.InProjAIdeal.nD Cert.InProjAIdeal.τ).loc Cert.InProjAIdeal.main_arg0)
      ∧ m' ((c.tc : Thread Cert.RefInProjAIdeal.nD Cert.RefInProjAIdeal.τ).loc Cert.RefInProjAIdeal.main_arg1) = m ((c.tc : Thread Cert.InProjAIdeal.nD Cert.InProjAIdeal.τ).loc Cert.InProjAIdeal.main_arg1)
      ∧ m' ((c.tc : Thread Cert.RefInProjAIdeal.nD Cert.RefInProjAIdeal.τ).loc Cert.RefInProjAIdeal.main_arg2) = m ((c.tc : Thread Cert.InProjAIdeal.nD Cert.InProjAIdeal.τ).loc Cert.InProjAIdeal.main_arg2)
      ∧ m' ((c.tc : Thread Cert.RefInProjAIdeal.nD Cert.RefInProjAIdeal.τ).loc Cert.RefInProjAIdeal.main_arg3) = m ((c.tc : Thread Cert.InProjAIdeal.nD Cert.InProjAIdeal.τ).loc Cert.InProjAIdeal.main_arg3)) →
    ∃ (v0 : (c : Dev Cert.InProjAIdeal.nD) → Buf (Elt Ideal) ((c.tc : Thread Cert.InProjAIdeal.nD Cert.InProjAIdeal.τ).loc Cert.InProjAIdeal.main_v1)),
      θ_run (Cert.InProjAIdeal.defs (F := Ideal)) (onTc (τ := Cert.InProjAIdeal.τ) (Cert.InProjAIdeal.main (F := Ideal))) ⟨m, fun _ => 0, g⟩ (fun r => ∀ c : Dev Cert.InProjAIdeal.nD,
          r.2.mem ((c.tc : Thread Cert.InProjAIdeal.nD Cert.InProjAIdeal.τ).loc Cert.InProjAIdeal.main_v1) = v0 c
          ∧ r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
          ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1)
          ∧ r.2.mem ((c.tc : Thread Cert.InProjAIdeal.nD Cert.InProjAIdeal.τ).loc Cert.InProjAIdeal.main_arg2) = m ((c.tc : Thread Cert.InProjAIdeal.nD Cert.InProjAIdeal.τ).loc Cert.InProjAIdeal.main_arg2)
          ∧ r.2.mem ((c.tc : Thread Cert.InProjAIdeal.nD Cert.InProjAIdeal.τ).loc Cert.InProjAIdeal.main_arg3) = m ((c.tc : Thread Cert.InProjAIdeal.nD Cert.InProjAIdeal.τ).loc Cert.InProjAIdeal.main_arg3))
      ∧ θ_run (Cert.RefInProjAIdeal.defs (F := Ideal)) (onTc (τ := Cert.RefInProjAIdeal.τ) (Cert.RefInProjAIdeal.main (F := Ideal))) ⟨m', fun _ => 0, g'⟩ (fun r => ∀ c : Dev Cert.RefInProjAIdeal.nD,
          r.2.mem ((c.tc : Thread Cert.RefInProjAIdeal.nD Cert.RefInProjAIdeal.τ).loc Cert.RefInProjAIdeal.main_v29) = v0 c
          ∧ r.2.mem ((c.tc : Thread Cert.RefInProjAIdeal.nD Cert.RefInProjAIdeal.τ).loc Cert.RefInProjAIdeal.main_arg0) = m' ((c.tc : Thread Cert.RefInProjAIdeal.nD Cert.RefInProjAIdeal.τ).loc Cert.RefInProjAIdeal.main_arg0)
          ∧ r.2.mem ((c.tc : Thread Cert.RefInProjAIdeal.nD Cert.RefInProjAIdeal.τ).loc Cert.RefInProjAIdeal.main_arg1) = m' ((c.tc : Thread Cert.RefInProjAIdeal.nD Cert.RefInProjAIdeal.τ).loc Cert.RefInProjAIdeal.main_arg1)
          ∧ r.2.mem ((c.tc : Thread Cert.RefInProjAIdeal.nD Cert.RefInProjAIdeal.τ).loc Cert.RefInProjAIdeal.main_arg2) = m' ((c.tc : Thread Cert.RefInProjAIdeal.nD Cert.RefInProjAIdeal.τ).loc Cert.RefInProjAIdeal.main_arg2)
          ∧ r.2.mem ((c.tc : Thread Cert.RefInProjAIdeal.nD Cert.RefInProjAIdeal.τ).loc Cert.RefInProjAIdeal.main_arg3) = m' ((c.tc : Thread Cert.RefInProjAIdeal.nD Cert.RefInProjAIdeal.τ).loc Cert.RefInProjAIdeal.main_arg3))

def preserves_OutProjA_OutProjAIdeal : Prop :=
  True

def algebraic_OutProjAIdeal_RefOutProjAIdeal [hOutProjAIdeal : Cert.OutProjAIdeal.Facts] [hRefOutProjAIdeal : Cert.RefOutProjAIdeal.Facts] : Prop :=
  ∀ (m : (ℓ : Loc Cert.OutProjAIdeal.nD Cert.OutProjAIdeal.τ Cert.OutProjAIdeal.sig) → Buf (Elt Ideal) ℓ) (g : Dev Cert.OutProjAIdeal.nD → PrngReg)
    (m' : (ℓ : Loc Cert.RefOutProjAIdeal.nD Cert.RefOutProjAIdeal.τ Cert.RefOutProjAIdeal.sig) → Buf (Elt Ideal) ℓ) (g' : Dev Cert.RefOutProjAIdeal.nD → PrngReg), Pre_OutProjAIdeal m →
    (∀ c : Dev Cert.OutProjAIdeal.nD,
      m' ((c.tc : Thread Cert.RefOutProjAIdeal.nD Cert.RefOutProjAIdeal.τ).loc Cert.RefOutProjAIdeal.main_arg0) = m ((c.tc : Thread Cert.OutProjAIdeal.nD Cert.OutProjAIdeal.τ).loc Cert.OutProjAIdeal.main_arg0)
      ∧ m' ((c.tc : Thread Cert.RefOutProjAIdeal.nD Cert.RefOutProjAIdeal.τ).loc Cert.RefOutProjAIdeal.main_arg1) = m ((c.tc : Thread Cert.OutProjAIdeal.nD Cert.OutProjAIdeal.τ).loc Cert.OutProjAIdeal.main_arg1)
      ∧ m' ((c.tc : Thread Cert.RefOutProjAIdeal.nD Cert.RefOutProjAIdeal.τ).loc Cert.RefOutProjAIdeal.main_arg2) = m ((c.tc : Thread Cert.OutProjAIdeal.nD Cert.OutProjAIdeal.τ).loc Cert.OutProjAIdeal.main_arg2)
      ∧ m' ((c.tc : Thread Cert.RefOutProjAIdeal.nD Cert.RefOutProjAIdeal.τ).loc Cert.RefOutProjAIdeal.main_arg3) = m ((c.tc : Thread Cert.OutProjAIdeal.nD Cert.OutProjAIdeal.τ).loc Cert.OutProjAIdeal.main_arg3)
      ∧ m' ((c.tc : Thread Cert.RefOutProjAIdeal.nD Cert.RefOutProjAIdeal.τ).loc Cert.RefOutProjAIdeal.main_arg4) = m ((c.tc : Thread Cert.OutProjAIdeal.nD Cert.OutProjAIdeal.τ).loc Cert.OutProjAIdeal.main_arg4)
      ∧ m' ((c.tc : Thread Cert.RefOutProjAIdeal.nD Cert.RefOutProjAIdeal.τ).loc Cert.RefOutProjAIdeal.main_arg5) = m ((c.tc : Thread Cert.OutProjAIdeal.nD Cert.OutProjAIdeal.τ).loc Cert.OutProjAIdeal.main_arg5)
      ∧ m' ((c.tc : Thread Cert.RefOutProjAIdeal.nD Cert.RefOutProjAIdeal.τ).loc Cert.RefOutProjAIdeal.main_arg6) = m ((c.tc : Thread Cert.OutProjAIdeal.nD Cert.OutProjAIdeal.τ).loc Cert.OutProjAIdeal.main_arg6)
      ∧ m' ((c.tc : Thread Cert.RefOutProjAIdeal.nD Cert.RefOutProjAIdeal.τ).loc Cert.RefOutProjAIdeal.main_arg7) = m ((c.tc : Thread Cert.OutProjAIdeal.nD Cert.OutProjAIdeal.τ).loc Cert.OutProjAIdeal.main_arg7)) →
    ∃ (v0 : (c : Dev Cert.OutProjAIdeal.nD) → Buf (Elt Ideal) ((c.tc : Thread Cert.OutProjAIdeal.nD Cert.OutProjAIdeal.τ).loc Cert.OutProjAIdeal.main_v5)),
      θ_run (Cert.OutProjAIdeal.defs (F := Ideal)) (onTc (τ := Cert.OutProjAIdeal.τ) (Cert.OutProjAIdeal.main (F := Ideal))) ⟨m, fun _ => 0, g⟩ (fun r => ∀ c : Dev Cert.OutProjAIdeal.nD,
          r.2.mem ((c.tc : Thread Cert.OutProjAIdeal.nD Cert.OutProjAIdeal.τ).loc Cert.OutProjAIdeal.main_v5) = v0 c
          ∧ r.2.mem ((c.tc : Thread Cert.OutProjAIdeal.nD Cert.OutProjAIdeal.τ).loc Cert.OutProjAIdeal.main_arg0) = m ((c.tc : Thread Cert.OutProjAIdeal.nD Cert.OutProjAIdeal.τ).loc Cert.OutProjAIdeal.main_arg0)
          ∧ r.2.mem ((c.tc : Thread Cert.OutProjAIdeal.nD Cert.OutProjAIdeal.τ).loc Cert.OutProjAIdeal.main_arg1) = m ((c.tc : Thread Cert.OutProjAIdeal.nD Cert.OutProjAIdeal.τ).loc Cert.OutProjAIdeal.main_arg1)
          ∧ r.2.mem ((c.tc : Thread Cert.OutProjAIdeal.nD Cert.OutProjAIdeal.τ).loc Cert.OutProjAIdeal.main_arg2) = m ((c.tc : Thread Cert.OutProjAIdeal.nD Cert.OutProjAIdeal.τ).loc Cert.OutProjAIdeal.main_arg2)
          ∧ r.2.mem ((c.tc : Thread Cert.OutProjAIdeal.nD Cert.OutProjAIdeal.τ).loc Cert.OutProjAIdeal.main_arg3) = m ((c.tc : Thread Cert.OutProjAIdeal.nD Cert.OutProjAIdeal.τ).loc Cert.OutProjAIdeal.main_arg3)
          ∧ r.2.mem ((c.tc : Thread Cert.OutProjAIdeal.nD Cert.OutProjAIdeal.τ).loc Cert.OutProjAIdeal.main_arg4) = m ((c.tc : Thread Cert.OutProjAIdeal.nD Cert.OutProjAIdeal.τ).loc Cert.OutProjAIdeal.main_arg4)
          ∧ r.2.mem ((c.tc : Thread Cert.OutProjAIdeal.nD Cert.OutProjAIdeal.τ).loc Cert.OutProjAIdeal.main_arg5) = m ((c.tc : Thread Cert.OutProjAIdeal.nD Cert.OutProjAIdeal.τ).loc Cert.OutProjAIdeal.main_arg5)
          ∧ r.2.mem ((c.tc : Thread Cert.OutProjAIdeal.nD Cert.OutProjAIdeal.τ).loc Cert.OutProjAIdeal.main_arg6) = m ((c.tc : Thread Cert.OutProjAIdeal.nD Cert.OutProjAIdeal.τ).loc Cert.OutProjAIdeal.main_arg6)
          ∧ r.2.mem ((c.tc : Thread Cert.OutProjAIdeal.nD Cert.OutProjAIdeal.τ).loc Cert.OutProjAIdeal.main_arg7) = m ((c.tc : Thread Cert.OutProjAIdeal.nD Cert.OutProjAIdeal.τ).loc Cert.OutProjAIdeal.main_arg7))
      ∧ θ_run (Cert.RefOutProjAIdeal.defs (F := Ideal)) (onTc (τ := Cert.RefOutProjAIdeal.τ) (Cert.RefOutProjAIdeal.main (F := Ideal))) ⟨m', fun _ => 0, g'⟩ (fun r => ∀ c : Dev Cert.RefOutProjAIdeal.nD,
          r.2.mem ((c.tc : Thread Cert.RefOutProjAIdeal.nD Cert.RefOutProjAIdeal.τ).loc Cert.RefOutProjAIdeal.main_v49) = v0 c
          ∧ r.2.mem ((c.tc : Thread Cert.RefOutProjAIdeal.nD Cert.RefOutProjAIdeal.τ).loc Cert.RefOutProjAIdeal.main_arg0) = m' ((c.tc : Thread Cert.RefOutProjAIdeal.nD Cert.RefOutProjAIdeal.τ).loc Cert.RefOutProjAIdeal.main_arg0)
          ∧ r.2.mem ((c.tc : Thread Cert.RefOutProjAIdeal.nD Cert.RefOutProjAIdeal.τ).loc Cert.RefOutProjAIdeal.main_arg1) = m' ((c.tc : Thread Cert.RefOutProjAIdeal.nD Cert.RefOutProjAIdeal.τ).loc Cert.RefOutProjAIdeal.main_arg1)
          ∧ r.2.mem ((c.tc : Thread Cert.RefOutProjAIdeal.nD Cert.RefOutProjAIdeal.τ).loc Cert.RefOutProjAIdeal.main_arg2) = m' ((c.tc : Thread Cert.RefOutProjAIdeal.nD Cert.RefOutProjAIdeal.τ).loc Cert.RefOutProjAIdeal.main_arg2)
          ∧ r.2.mem ((c.tc : Thread Cert.RefOutProjAIdeal.nD Cert.RefOutProjAIdeal.τ).loc Cert.RefOutProjAIdeal.main_arg3) = m' ((c.tc : Thread Cert.RefOutProjAIdeal.nD Cert.RefOutProjAIdeal.τ).loc Cert.RefOutProjAIdeal.main_arg3)
          ∧ r.2.mem ((c.tc : Thread Cert.RefOutProjAIdeal.nD Cert.RefOutProjAIdeal.τ).loc Cert.RefOutProjAIdeal.main_arg4) = m' ((c.tc : Thread Cert.RefOutProjAIdeal.nD Cert.RefOutProjAIdeal.τ).loc Cert.RefOutProjAIdeal.main_arg4)
          ∧ r.2.mem ((c.tc : Thread Cert.RefOutProjAIdeal.nD Cert.RefOutProjAIdeal.τ).loc Cert.RefOutProjAIdeal.main_arg5) = m' ((c.tc : Thread Cert.RefOutProjAIdeal.nD Cert.RefOutProjAIdeal.τ).loc Cert.RefOutProjAIdeal.main_arg5)
          ∧ r.2.mem ((c.tc : Thread Cert.RefOutProjAIdeal.nD Cert.RefOutProjAIdeal.τ).loc Cert.RefOutProjAIdeal.main_arg6) = m' ((c.tc : Thread Cert.RefOutProjAIdeal.nD Cert.RefOutProjAIdeal.τ).loc Cert.RefOutProjAIdeal.main_arg6)
          ∧ r.2.mem ((c.tc : Thread Cert.RefOutProjAIdeal.nD Cert.RefOutProjAIdeal.τ).loc Cert.RefOutProjAIdeal.main_arg7) = m' ((c.tc : Thread Cert.RefOutProjAIdeal.nD Cert.RefOutProjAIdeal.τ).loc Cert.RefOutProjAIdeal.main_arg7))

def preserves_InProjC_InProjCIdeal : Prop :=
  True

def algebraic_InProjCIdeal_RefInProjCIdeal [hInProjCIdeal : Cert.InProjCIdeal.Facts] [hRefInProjCIdeal : Cert.RefInProjCIdeal.Facts] : Prop :=
  ∀ (m : (ℓ : Loc Cert.InProjCIdeal.nD Cert.InProjCIdeal.τ Cert.InProjCIdeal.sig) → Buf (Elt Ideal) ℓ) (g : Dev Cert.InProjCIdeal.nD → PrngReg)
    (m' : (ℓ : Loc Cert.RefInProjCIdeal.nD Cert.RefInProjCIdeal.τ Cert.RefInProjCIdeal.sig) → Buf (Elt Ideal) ℓ) (g' : Dev Cert.RefInProjCIdeal.nD → PrngReg), Pre_InProjCIdeal m →
    (∀ c : Dev Cert.InProjCIdeal.nD,
      m' ((c.tc : Thread Cert.RefInProjCIdeal.nD Cert.RefInProjCIdeal.τ).loc Cert.RefInProjCIdeal.main_arg0) = m ((c.tc : Thread Cert.InProjCIdeal.nD Cert.InProjCIdeal.τ).loc Cert.InProjCIdeal.main_arg0)
      ∧ m' ((c.tc : Thread Cert.RefInProjCIdeal.nD Cert.RefInProjCIdeal.τ).loc Cert.RefInProjCIdeal.main_arg1) = m ((c.tc : Thread Cert.InProjCIdeal.nD Cert.InProjCIdeal.τ).loc Cert.InProjCIdeal.main_arg1)
      ∧ m' ((c.tc : Thread Cert.RefInProjCIdeal.nD Cert.RefInProjCIdeal.τ).loc Cert.RefInProjCIdeal.main_arg2) = m ((c.tc : Thread Cert.InProjCIdeal.nD Cert.InProjCIdeal.τ).loc Cert.InProjCIdeal.main_arg2)
      ∧ m' ((c.tc : Thread Cert.RefInProjCIdeal.nD Cert.RefInProjCIdeal.τ).loc Cert.RefInProjCIdeal.main_arg3) = m ((c.tc : Thread Cert.InProjCIdeal.nD Cert.InProjCIdeal.τ).loc Cert.InProjCIdeal.main_arg3)) →
    ∃ (v0 : (c : Dev Cert.InProjCIdeal.nD) → Buf (Elt Ideal) ((c.tc : Thread Cert.InProjCIdeal.nD Cert.InProjCIdeal.τ).loc Cert.InProjCIdeal.main_v1)),
      θ_run (Cert.InProjCIdeal.defs (F := Ideal)) (onTc (τ := Cert.InProjCIdeal.τ) (Cert.InProjCIdeal.main (F := Ideal))) ⟨m, fun _ => 0, g⟩ (fun r => ∀ c : Dev Cert.InProjCIdeal.nD,
          r.2.mem ((c.tc : Thread Cert.InProjCIdeal.nD Cert.InProjCIdeal.τ).loc Cert.InProjCIdeal.main_v1) = v0 c
          ∧ r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
          ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1)
          ∧ r.2.mem ((c.tc : Thread Cert.InProjCIdeal.nD Cert.InProjCIdeal.τ).loc Cert.InProjCIdeal.main_arg2) = m ((c.tc : Thread Cert.InProjCIdeal.nD Cert.InProjCIdeal.τ).loc Cert.InProjCIdeal.main_arg2)
          ∧ r.2.mem ((c.tc : Thread Cert.InProjCIdeal.nD Cert.InProjCIdeal.τ).loc Cert.InProjCIdeal.main_arg3) = m ((c.tc : Thread Cert.InProjCIdeal.nD Cert.InProjCIdeal.τ).loc Cert.InProjCIdeal.main_arg3))
      ∧ θ_run (Cert.RefInProjCIdeal.defs (F := Ideal)) (onTc (τ := Cert.RefInProjCIdeal.τ) (Cert.RefInProjCIdeal.main (F := Ideal))) ⟨m', fun _ => 0, g'⟩ (fun r => ∀ c : Dev Cert.RefInProjCIdeal.nD,
          r.2.mem ((c.tc : Thread Cert.RefInProjCIdeal.nD Cert.RefInProjCIdeal.τ).loc Cert.RefInProjCIdeal.main_v29) = v0 c
          ∧ r.2.mem ((c.tc : Thread Cert.RefInProjCIdeal.nD Cert.RefInProjCIdeal.τ).loc Cert.RefInProjCIdeal.main_arg0) = m' ((c.tc : Thread Cert.RefInProjCIdeal.nD Cert.RefInProjCIdeal.τ).loc Cert.RefInProjCIdeal.main_arg0)
          ∧ r.2.mem ((c.tc : Thread Cert.RefInProjCIdeal.nD Cert.RefInProjCIdeal.τ).loc Cert.RefInProjCIdeal.main_arg1) = m' ((c.tc : Thread Cert.RefInProjCIdeal.nD Cert.RefInProjCIdeal.τ).loc Cert.RefInProjCIdeal.main_arg1)
          ∧ r.2.mem ((c.tc : Thread Cert.RefInProjCIdeal.nD Cert.RefInProjCIdeal.τ).loc Cert.RefInProjCIdeal.main_arg2) = m' ((c.tc : Thread Cert.RefInProjCIdeal.nD Cert.RefInProjCIdeal.τ).loc Cert.RefInProjCIdeal.main_arg2)
          ∧ r.2.mem ((c.tc : Thread Cert.RefInProjCIdeal.nD Cert.RefInProjCIdeal.τ).loc Cert.RefInProjCIdeal.main_arg3) = m' ((c.tc : Thread Cert.RefInProjCIdeal.nD Cert.RefInProjCIdeal.τ).loc Cert.RefInProjCIdeal.main_arg3))

def preserves_OutProjC_OutProjCIdeal : Prop :=
  True

def algebraic_OutProjCIdeal_RefOutProjCIdeal [hOutProjCIdeal : Cert.OutProjCIdeal.Facts] [hRefOutProjCIdeal : Cert.RefOutProjCIdeal.Facts] : Prop :=
  ∀ (m : (ℓ : Loc Cert.OutProjCIdeal.nD Cert.OutProjCIdeal.τ Cert.OutProjCIdeal.sig) → Buf (Elt Ideal) ℓ) (g : Dev Cert.OutProjCIdeal.nD → PrngReg)
    (m' : (ℓ : Loc Cert.RefOutProjCIdeal.nD Cert.RefOutProjCIdeal.τ Cert.RefOutProjCIdeal.sig) → Buf (Elt Ideal) ℓ) (g' : Dev Cert.RefOutProjCIdeal.nD → PrngReg), Pre_OutProjCIdeal m →
    (∀ c : Dev Cert.OutProjCIdeal.nD,
      m' ((c.tc : Thread Cert.RefOutProjCIdeal.nD Cert.RefOutProjCIdeal.τ).loc Cert.RefOutProjCIdeal.main_arg0) = m ((c.tc : Thread Cert.OutProjCIdeal.nD Cert.OutProjCIdeal.τ).loc Cert.OutProjCIdeal.main_arg0)
      ∧ m' ((c.tc : Thread Cert.RefOutProjCIdeal.nD Cert.RefOutProjCIdeal.τ).loc Cert.RefOutProjCIdeal.main_arg1) = m ((c.tc : Thread Cert.OutProjCIdeal.nD Cert.OutProjCIdeal.τ).loc Cert.OutProjCIdeal.main_arg1)
      ∧ m' ((c.tc : Thread Cert.RefOutProjCIdeal.nD Cert.RefOutProjCIdeal.τ).loc Cert.RefOutProjCIdeal.main_arg2) = m ((c.tc : Thread Cert.OutProjCIdeal.nD Cert.OutProjCIdeal.τ).loc Cert.OutProjCIdeal.main_arg2)
      ∧ m' ((c.tc : Thread Cert.RefOutProjCIdeal.nD Cert.RefOutProjCIdeal.τ).loc Cert.RefOutProjCIdeal.main_arg3) = m ((c.tc : Thread Cert.OutProjCIdeal.nD Cert.OutProjCIdeal.τ).loc Cert.OutProjCIdeal.main_arg3)
      ∧ m' ((c.tc : Thread Cert.RefOutProjCIdeal.nD Cert.RefOutProjCIdeal.τ).loc Cert.RefOutProjCIdeal.main_arg4) = m ((c.tc : Thread Cert.OutProjCIdeal.nD Cert.OutProjCIdeal.τ).loc Cert.OutProjCIdeal.main_arg4)) →
    ∃ (v0 : (c : Dev Cert.OutProjCIdeal.nD) → Buf (Elt Ideal) ((c.tc : Thread Cert.OutProjCIdeal.nD Cert.OutProjCIdeal.τ).loc Cert.OutProjCIdeal.main_v1)),
      θ_run (Cert.OutProjCIdeal.defs (F := Ideal)) (onTc (τ := Cert.OutProjCIdeal.τ) (Cert.OutProjCIdeal.main (F := Ideal))) ⟨m, fun _ => 0, g⟩ (fun r => ∀ c : Dev Cert.OutProjCIdeal.nD,
          r.2.mem ((c.tc : Thread Cert.OutProjCIdeal.nD Cert.OutProjCIdeal.τ).loc Cert.OutProjCIdeal.main_v1) = v0 c
          ∧ r.2.mem ((c.tc : Thread Cert.OutProjCIdeal.nD Cert.OutProjCIdeal.τ).loc Cert.OutProjCIdeal.main_arg0) = m ((c.tc : Thread Cert.OutProjCIdeal.nD Cert.OutProjCIdeal.τ).loc Cert.OutProjCIdeal.main_arg0)
          ∧ r.2.mem ((c.tc : Thread Cert.OutProjCIdeal.nD Cert.OutProjCIdeal.τ).loc Cert.OutProjCIdeal.main_arg1) = m ((c.tc : Thread Cert.OutProjCIdeal.nD Cert.OutProjCIdeal.τ).loc Cert.OutProjCIdeal.main_arg1)
          ∧ r.2.mem ((c.tc : Thread Cert.OutProjCIdeal.nD Cert.OutProjCIdeal.τ).loc Cert.OutProjCIdeal.main_arg2) = m ((c.tc : Thread Cert.OutProjCIdeal.nD Cert.OutProjCIdeal.τ).loc Cert.OutProjCIdeal.main_arg2)
          ∧ r.2.mem ((c.tc : Thread Cert.OutProjCIdeal.nD Cert.OutProjCIdeal.τ).loc Cert.OutProjCIdeal.main_arg3) = m ((c.tc : Thread Cert.OutProjCIdeal.nD Cert.OutProjCIdeal.τ).loc Cert.OutProjCIdeal.main_arg3)
          ∧ r.2.mem ((c.tc : Thread Cert.OutProjCIdeal.nD Cert.OutProjCIdeal.τ).loc Cert.OutProjCIdeal.main_arg4) = m ((c.tc : Thread Cert.OutProjCIdeal.nD Cert.OutProjCIdeal.τ).loc Cert.OutProjCIdeal.main_arg4))
      ∧ θ_run (Cert.RefOutProjCIdeal.defs (F := Ideal)) (onTc (τ := Cert.RefOutProjCIdeal.τ) (Cert.RefOutProjCIdeal.main (F := Ideal))) ⟨m', fun _ => 0, g'⟩ (fun r => ∀ c : Dev Cert.RefOutProjCIdeal.nD,
          r.2.mem ((c.tc : Thread Cert.RefOutProjCIdeal.nD Cert.RefOutProjCIdeal.τ).loc Cert.RefOutProjCIdeal.main_v25) = v0 c
          ∧ r.2.mem ((c.tc : Thread Cert.RefOutProjCIdeal.nD Cert.RefOutProjCIdeal.τ).loc Cert.RefOutProjCIdeal.main_arg0) = m' ((c.tc : Thread Cert.RefOutProjCIdeal.nD Cert.RefOutProjCIdeal.τ).loc Cert.RefOutProjCIdeal.main_arg0)
          ∧ r.2.mem ((c.tc : Thread Cert.RefOutProjCIdeal.nD Cert.RefOutProjCIdeal.τ).loc Cert.RefOutProjCIdeal.main_arg1) = m' ((c.tc : Thread Cert.RefOutProjCIdeal.nD Cert.RefOutProjCIdeal.τ).loc Cert.RefOutProjCIdeal.main_arg1)
          ∧ r.2.mem ((c.tc : Thread Cert.RefOutProjCIdeal.nD Cert.RefOutProjCIdeal.τ).loc Cert.RefOutProjCIdeal.main_arg2) = m' ((c.tc : Thread Cert.RefOutProjCIdeal.nD Cert.RefOutProjCIdeal.τ).loc Cert.RefOutProjCIdeal.main_arg2)
          ∧ r.2.mem ((c.tc : Thread Cert.RefOutProjCIdeal.nD Cert.RefOutProjCIdeal.τ).loc Cert.RefOutProjCIdeal.main_arg3) = m' ((c.tc : Thread Cert.RefOutProjCIdeal.nD Cert.RefOutProjCIdeal.τ).loc Cert.RefOutProjCIdeal.main_arg3)
          ∧ r.2.mem ((c.tc : Thread Cert.RefOutProjCIdeal.nD Cert.RefOutProjCIdeal.τ).loc Cert.RefOutProjCIdeal.main_arg4) = m' ((c.tc : Thread Cert.RefOutProjCIdeal.nD Cert.RefOutProjCIdeal.τ).loc Cert.RefOutProjCIdeal.main_arg4))

def preserves_InProjB_InProjBIdeal : Prop :=
  True

def algebraic_InProjBIdeal_RefInProjBIdeal [hInProjBIdeal : Cert.InProjBIdeal.Facts] [hRefInProjBIdeal : Cert.RefInProjBIdeal.Facts] : Prop :=
  ∀ (m : (ℓ : Loc Cert.InProjBIdeal.nD Cert.InProjBIdeal.τ Cert.InProjBIdeal.sig) → Buf (Elt Ideal) ℓ) (g : Dev Cert.InProjBIdeal.nD → PrngReg)
    (m' : (ℓ : Loc Cert.RefInProjBIdeal.nD Cert.RefInProjBIdeal.τ Cert.RefInProjBIdeal.sig) → Buf (Elt Ideal) ℓ) (g' : Dev Cert.RefInProjBIdeal.nD → PrngReg), Pre_InProjBIdeal m →
    (∀ c : Dev Cert.InProjBIdeal.nD,
      m' ((c.tc : Thread Cert.RefInProjBIdeal.nD Cert.RefInProjBIdeal.τ).loc Cert.RefInProjBIdeal.main_arg0) = m ((c.tc : Thread Cert.InProjBIdeal.nD Cert.InProjBIdeal.τ).loc Cert.InProjBIdeal.main_arg0)
      ∧ m' ((c.tc : Thread Cert.RefInProjBIdeal.nD Cert.RefInProjBIdeal.τ).loc Cert.RefInProjBIdeal.main_arg1) = m ((c.tc : Thread Cert.InProjBIdeal.nD Cert.InProjBIdeal.τ).loc Cert.InProjBIdeal.main_arg1)
      ∧ m' ((c.tc : Thread Cert.RefInProjBIdeal.nD Cert.RefInProjBIdeal.τ).loc Cert.RefInProjBIdeal.main_arg2) = m ((c.tc : Thread Cert.InProjBIdeal.nD Cert.InProjBIdeal.τ).loc Cert.InProjBIdeal.main_arg2)
      ∧ m' ((c.tc : Thread Cert.RefInProjBIdeal.nD Cert.RefInProjBIdeal.τ).loc Cert.RefInProjBIdeal.main_arg3) = m ((c.tc : Thread Cert.InProjBIdeal.nD Cert.InProjBIdeal.τ).loc Cert.InProjBIdeal.main_arg3)) →
    ∃ (v0 : (c : Dev Cert.InProjBIdeal.nD) → Buf (Elt Ideal) ((c.tc : Thread Cert.InProjBIdeal.nD Cert.InProjBIdeal.τ).loc Cert.InProjBIdeal.main_v1)),
      θ_run (Cert.InProjBIdeal.defs (F := Ideal)) (onTc (τ := Cert.InProjBIdeal.τ) (Cert.InProjBIdeal.main (F := Ideal))) ⟨m, fun _ => 0, g⟩ (fun r => ∀ c : Dev Cert.InProjBIdeal.nD,
          r.2.mem ((c.tc : Thread Cert.InProjBIdeal.nD Cert.InProjBIdeal.τ).loc Cert.InProjBIdeal.main_v1) = v0 c
          ∧ r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
          ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1)
          ∧ r.2.mem ((c.tc : Thread Cert.InProjBIdeal.nD Cert.InProjBIdeal.τ).loc Cert.InProjBIdeal.main_arg2) = m ((c.tc : Thread Cert.InProjBIdeal.nD Cert.InProjBIdeal.τ).loc Cert.InProjBIdeal.main_arg2)
          ∧ r.2.mem ((c.tc : Thread Cert.InProjBIdeal.nD Cert.InProjBIdeal.τ).loc Cert.InProjBIdeal.main_arg3) = m ((c.tc : Thread Cert.InProjBIdeal.nD Cert.InProjBIdeal.τ).loc Cert.InProjBIdeal.main_arg3))
      ∧ θ_run (Cert.RefInProjBIdeal.defs (F := Ideal)) (onTc (τ := Cert.RefInProjBIdeal.τ) (Cert.RefInProjBIdeal.main (F := Ideal))) ⟨m', fun _ => 0, g'⟩ (fun r => ∀ c : Dev Cert.RefInProjBIdeal.nD,
          r.2.mem ((c.tc : Thread Cert.RefInProjBIdeal.nD Cert.RefInProjBIdeal.τ).loc Cert.RefInProjBIdeal.main_v29) = v0 c
          ∧ r.2.mem ((c.tc : Thread Cert.RefInProjBIdeal.nD Cert.RefInProjBIdeal.τ).loc Cert.RefInProjBIdeal.main_arg0) = m' ((c.tc : Thread Cert.RefInProjBIdeal.nD Cert.RefInProjBIdeal.τ).loc Cert.RefInProjBIdeal.main_arg0)
          ∧ r.2.mem ((c.tc : Thread Cert.RefInProjBIdeal.nD Cert.RefInProjBIdeal.τ).loc Cert.RefInProjBIdeal.main_arg1) = m' ((c.tc : Thread Cert.RefInProjBIdeal.nD Cert.RefInProjBIdeal.τ).loc Cert.RefInProjBIdeal.main_arg1)
          ∧ r.2.mem ((c.tc : Thread Cert.RefInProjBIdeal.nD Cert.RefInProjBIdeal.τ).loc Cert.RefInProjBIdeal.main_arg2) = m' ((c.tc : Thread Cert.RefInProjBIdeal.nD Cert.RefInProjBIdeal.τ).loc Cert.RefInProjBIdeal.main_arg2)
          ∧ r.2.mem ((c.tc : Thread Cert.RefInProjBIdeal.nD Cert.RefInProjBIdeal.τ).loc Cert.RefInProjBIdeal.main_arg3) = m' ((c.tc : Thread Cert.RefInProjBIdeal.nD Cert.RefInProjBIdeal.τ).loc Cert.RefInProjBIdeal.main_arg3))

def preserves_OutProjB_OutProjBIdeal : Prop :=
  True

def algebraic_OutProjBIdeal_RefOutProjBIdeal [hOutProjBIdeal : Cert.OutProjBIdeal.Facts] [hRefOutProjBIdeal : Cert.RefOutProjBIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg)
    (m' : (ℓ : Loc Cert.RefOutProjBIdeal.nD Cert.RefOutProjBIdeal.τ Cert.RefOutProjBIdeal.sig) → Buf (Elt Ideal) ℓ) (g' : Dev Cert.RefOutProjBIdeal.nD → PrngReg), Pre_OutProjBIdeal m →
    (∀ c : Dev Cert.OutProjBIdeal.nD,
      m' ((c.tc : Thread Cert.RefOutProjBIdeal.nD Cert.RefOutProjBIdeal.τ).loc Cert.RefOutProjBIdeal.main_arg0) = m ((c.tc : Thread Cert.OutProjBIdeal.nD Cert.OutProjBIdeal.τ).loc Cert.OutProjBIdeal.main_arg0)
      ∧ m' ((c.tc : Thread Cert.RefOutProjBIdeal.nD Cert.RefOutProjBIdeal.τ).loc Cert.RefOutProjBIdeal.main_arg1) = m ((c.tc : Thread Cert.OutProjBIdeal.nD Cert.OutProjBIdeal.τ).loc Cert.OutProjBIdeal.main_arg1)
      ∧ m' ((c.tc : Thread Cert.RefOutProjBIdeal.nD Cert.RefOutProjBIdeal.τ).loc Cert.RefOutProjBIdeal.main_arg2) = m ((c.tc : Thread Cert.OutProjBIdeal.nD Cert.OutProjBIdeal.τ).loc Cert.OutProjBIdeal.main_arg2)
      ∧ m' ((c.tc : Thread Cert.RefOutProjBIdeal.nD Cert.RefOutProjBIdeal.τ).loc Cert.RefOutProjBIdeal.main_arg3) = m ((c.tc : Thread Cert.OutProjBIdeal.nD Cert.OutProjBIdeal.τ).loc Cert.OutProjBIdeal.main_arg3)
      ∧ m' ((c.tc : Thread Cert.RefOutProjBIdeal.nD Cert.RefOutProjBIdeal.τ).loc Cert.RefOutProjBIdeal.main_arg4) = m ((c.tc : Thread Cert.OutProjBIdeal.nD Cert.OutProjBIdeal.τ).loc Cert.OutProjBIdeal.main_arg4)) →
    ∃ (v0 : (c : Dev Cert.OutProjBIdeal.nD) → Buf (Elt Ideal) ((c.tc : Thread Cert.OutProjBIdeal.nD Cert.OutProjBIdeal.τ).loc Cert.OutProjBIdeal.main_v1)),
      θ_run (Cert.OutProjBIdeal.defs (F := Ideal)) (onTc (τ := Cert.OutProjBIdeal.τ) (Cert.OutProjBIdeal.main (F := Ideal))) ⟨m, fun _ => 0, g⟩ (fun r => ∀ c : Dev Cert.OutProjBIdeal.nD,
          r.2.mem ((c.tc : Thread Cert.OutProjBIdeal.nD Cert.OutProjBIdeal.τ).loc Cert.OutProjBIdeal.main_v1) = v0 c
          ∧ r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
          ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
          ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
          ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3)
          ∧ r.2.mem ((c.tc : Thread Cert.OutProjBIdeal.nD Cert.OutProjBIdeal.τ).loc Cert.OutProjBIdeal.main_arg4) = m ((c.tc : Thread Cert.OutProjBIdeal.nD Cert.OutProjBIdeal.τ).loc Cert.OutProjBIdeal.main_arg4))
      ∧ θ_run (Cert.RefOutProjBIdeal.defs (F := Ideal)) (onTc (τ := Cert.RefOutProjBIdeal.τ) (Cert.RefOutProjBIdeal.main (F := Ideal))) ⟨m', fun _ => 0, g'⟩ (fun r => ∀ c : Dev Cert.RefOutProjBIdeal.nD,
          r.2.mem ((c.tc : Thread Cert.RefOutProjBIdeal.nD Cert.RefOutProjBIdeal.τ).loc Cert.RefOutProjBIdeal.main_v25) = v0 c
          ∧ r.2.mem ((c.tc : Thread Cert.RefOutProjBIdeal.nD Cert.RefOutProjBIdeal.τ).loc Cert.RefOutProjBIdeal.main_arg0) = m' ((c.tc : Thread Cert.RefOutProjBIdeal.nD Cert.RefOutProjBIdeal.τ).loc Cert.RefOutProjBIdeal.main_arg0)
          ∧ r.2.mem ((c.tc : Thread Cert.RefOutProjBIdeal.nD Cert.RefOutProjBIdeal.τ).loc Cert.RefOutProjBIdeal.main_arg1) = m' ((c.tc : Thread Cert.RefOutProjBIdeal.nD Cert.RefOutProjBIdeal.τ).loc Cert.RefOutProjBIdeal.main_arg1)
          ∧ r.2.mem ((c.tc : Thread Cert.RefOutProjBIdeal.nD Cert.RefOutProjBIdeal.τ).loc Cert.RefOutProjBIdeal.main_arg2) = m' ((c.tc : Thread Cert.RefOutProjBIdeal.nD Cert.RefOutProjBIdeal.τ).loc Cert.RefOutProjBIdeal.main_arg2)
          ∧ r.2.mem ((c.tc : Thread Cert.RefOutProjBIdeal.nD Cert.RefOutProjBIdeal.τ).loc Cert.RefOutProjBIdeal.main_arg3) = m' ((c.tc : Thread Cert.RefOutProjBIdeal.nD Cert.RefOutProjBIdeal.τ).loc Cert.RefOutProjBIdeal.main_arg3)
          ∧ r.2.mem ((c.tc : Thread Cert.RefOutProjBIdeal.nD Cert.RefOutProjBIdeal.τ).loc Cert.RefOutProjBIdeal.main_arg4) = m' ((c.tc : Thread Cert.RefOutProjBIdeal.nD Cert.RefOutProjBIdeal.τ).loc Cert.RefOutProjBIdeal.main_arg4))

def preserves_Conv_ConvIdeal : Prop :=
  True

def algebraic_ConvIdeal_RefConvIdeal [hConvIdeal : Cert.ConvIdeal.Facts] [hRefConvIdeal : Cert.RefConvIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          r.2.mem ((c.tc : Thread Cert.RefConvIdeal.nD Cert.RefConvIdeal.τ).loc Cert.RefConvIdeal.main_v47) = v0 c
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2))

def preserves_Readout_ReadoutIdeal : Prop :=
  True

def algebraic_ReadoutIdeal_RefReadoutIdeal [hReadoutIdeal : Cert.ReadoutIdeal.Facts] [hRefReadoutIdeal : Cert.RefReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.RefReadoutIdeal.nD Cert.RefReadoutIdeal.τ Cert.RefReadoutIdeal.sig) → Buf (Elt Ideal) ℓ) (g' : Dev Cert.RefReadoutIdeal.nD → PrngReg), Pre_ReadoutIdeal m →
    (∀ c : Dev Cert.ReadoutIdeal.nD,
      m' ((c.tc : Thread Cert.RefReadoutIdeal.nD Cert.RefReadoutIdeal.τ).loc Cert.RefReadoutIdeal.main_arg0) = m ((c.tc : Thread Cert.ReadoutIdeal.nD Cert.ReadoutIdeal.τ).loc Cert.ReadoutIdeal.main_arg0)
      ∧ m' ((c.tc : Thread Cert.RefReadoutIdeal.nD Cert.RefReadoutIdeal.τ).loc Cert.RefReadoutIdeal.main_arg1) = m ((c.tc : Thread Cert.ReadoutIdeal.nD Cert.ReadoutIdeal.τ).loc Cert.ReadoutIdeal.main_arg1)
      ∧ m' ((c.tc : Thread Cert.RefReadoutIdeal.nD Cert.RefReadoutIdeal.τ).loc Cert.RefReadoutIdeal.main_arg2) = m ((c.tc : Thread Cert.ReadoutIdeal.nD Cert.ReadoutIdeal.τ).loc Cert.ReadoutIdeal.main_arg2)
      ∧ m' ((c.tc : Thread Cert.RefReadoutIdeal.nD Cert.RefReadoutIdeal.τ).loc Cert.RefReadoutIdeal.main_arg3) = m ((c.tc : Thread Cert.ReadoutIdeal.nD Cert.ReadoutIdeal.τ).loc Cert.ReadoutIdeal.main_arg3)
      ∧ m' ((c.tc : Thread Cert.RefReadoutIdeal.nD Cert.RefReadoutIdeal.τ).loc Cert.RefReadoutIdeal.main_arg4) = m ((c.tc : Thread Cert.ReadoutIdeal.nD Cert.ReadoutIdeal.τ).loc Cert.ReadoutIdeal.main_arg4)
      ∧ m' ((c.tc : Thread Cert.RefReadoutIdeal.nD Cert.RefReadoutIdeal.τ).loc Cert.RefReadoutIdeal.main_arg5) = m ((c.tc : Thread Cert.ReadoutIdeal.nD Cert.ReadoutIdeal.τ).loc Cert.ReadoutIdeal.main_arg5)) →
    ∃ (v0 : (c : Dev Cert.ReadoutIdeal.nD) → Buf (Elt Ideal) ((c.tc : Thread Cert.ReadoutIdeal.nD Cert.ReadoutIdeal.τ).loc Cert.ReadoutIdeal.main_v8)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v8) = v0 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3)
          ∧ r.2.mem ((c.tc : Thread Cert.ReadoutIdeal.nD Cert.ReadoutIdeal.τ).loc Cert.ReadoutIdeal.main_arg4) = m ((c.tc : Thread Cert.ReadoutIdeal.nD Cert.ReadoutIdeal.τ).loc Cert.ReadoutIdeal.main_arg4)
          ∧ r.2.mem ((c.tc : Thread Cert.ReadoutIdeal.nD Cert.ReadoutIdeal.τ).loc Cert.ReadoutIdeal.main_arg5) = m ((c.tc : Thread Cert.ReadoutIdeal.nD Cert.ReadoutIdeal.τ).loc Cert.ReadoutIdeal.main_arg5))
      ∧ θ_run (Cert.RefReadoutIdeal.defs (F := Ideal)) (onTc (τ := Cert.RefReadoutIdeal.τ) (Cert.RefReadoutIdeal.main (F := Ideal))) ⟨m', fun _ => 0, g'⟩ (fun r => ∀ c : Dev Cert.RefReadoutIdeal.nD,
          r.2.mem ((c.tc : Thread Cert.RefReadoutIdeal.nD Cert.RefReadoutIdeal.τ).loc Cert.RefReadoutIdeal.main_v35) = v0 c
          ∧ r.2.mem ((c.tc : Thread Cert.RefReadoutIdeal.nD Cert.RefReadoutIdeal.τ).loc Cert.RefReadoutIdeal.main_arg0) = m' ((c.tc : Thread Cert.RefReadoutIdeal.nD Cert.RefReadoutIdeal.τ).loc Cert.RefReadoutIdeal.main_arg0)
          ∧ r.2.mem ((c.tc : Thread Cert.RefReadoutIdeal.nD Cert.RefReadoutIdeal.τ).loc Cert.RefReadoutIdeal.main_arg1) = m' ((c.tc : Thread Cert.RefReadoutIdeal.nD Cert.RefReadoutIdeal.τ).loc Cert.RefReadoutIdeal.main_arg1)
          ∧ r.2.mem ((c.tc : Thread Cert.RefReadoutIdeal.nD Cert.RefReadoutIdeal.τ).loc Cert.RefReadoutIdeal.main_arg2) = m' ((c.tc : Thread Cert.RefReadoutIdeal.nD Cert.RefReadoutIdeal.τ).loc Cert.RefReadoutIdeal.main_arg2)
          ∧ r.2.mem ((c.tc : Thread Cert.RefReadoutIdeal.nD Cert.RefReadoutIdeal.τ).loc Cert.RefReadoutIdeal.main_arg3) = m' ((c.tc : Thread Cert.RefReadoutIdeal.nD Cert.RefReadoutIdeal.τ).loc Cert.RefReadoutIdeal.main_arg3)
          ∧ r.2.mem ((c.tc : Thread Cert.RefReadoutIdeal.nD Cert.RefReadoutIdeal.τ).loc Cert.RefReadoutIdeal.main_arg4) = m' ((c.tc : Thread Cert.RefReadoutIdeal.nD Cert.RefReadoutIdeal.τ).loc Cert.RefReadoutIdeal.main_arg4)
          ∧ r.2.mem ((c.tc : Thread Cert.RefReadoutIdeal.nD Cert.RefReadoutIdeal.τ).loc Cert.RefReadoutIdeal.main_arg5) = m' ((c.tc : Thread Cert.RefReadoutIdeal.nD Cert.RefReadoutIdeal.τ).loc Cert.RefReadoutIdeal.main_arg5))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)
      ∧ m' ((c.tc : Thread Cert.RefAdaIdeal.nD Cert.RefAdaIdeal.τ).loc Cert.RefAdaIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v14) = v0 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2)
          ∧ r.2.mem ((c.tc : Thread Cert.RefAdaIdeal.nD Cert.RefAdaIdeal.τ).loc Cert.RefAdaIdeal.main_arg3) = m' ((c.tc : Thread Cert.RefAdaIdeal.nD Cert.RefAdaIdeal.τ).loc Cert.RefAdaIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hRefMlpIdeal : Cert.RefMlpIdeal.Facts) (hInProjA : Cert.InProjA.Facts) (hInProjAIdeal : Cert.InProjAIdeal.Facts) (hRefInProjAIdeal : Cert.RefInProjAIdeal.Facts) (hOutProjA : Cert.OutProjA.Facts) (hOutProjAIdeal : Cert.OutProjAIdeal.Facts) (hRefOutProjAIdeal : Cert.RefOutProjAIdeal.Facts) (hInProjC : Cert.InProjC.Facts) (hInProjCIdeal : Cert.InProjCIdeal.Facts) (hRefInProjCIdeal : Cert.RefInProjCIdeal.Facts) (hOutProjC : Cert.OutProjC.Facts) (hOutProjCIdeal : Cert.OutProjCIdeal.Facts) (hRefOutProjCIdeal : Cert.RefOutProjCIdeal.Facts) (hInProjB : Cert.InProjB.Facts) (hInProjBIdeal : Cert.InProjBIdeal.Facts) (hRefInProjBIdeal : Cert.RefInProjBIdeal.Facts) (hOutProjB : Cert.OutProjB.Facts) (hOutProjBIdeal : Cert.OutProjBIdeal.Facts) (hRefOutProjBIdeal : Cert.RefOutProjBIdeal.Facts) (hConv : Cert.Conv.Facts) (hConvIdeal : Cert.ConvIdeal.Facts) (hRefConvIdeal : Cert.RefConvIdeal.Facts) (hReadout : Cert.Readout.Facts) (hReadoutIdeal : Cert.ReadoutIdeal.Facts) (hRefReadoutIdeal : Cert.RefReadoutIdeal.Facts) (hAda : Cert.Ada.Facts) (hAdaIdeal : Cert.AdaIdeal.Facts) (hRefAdaIdeal : Cert.RefAdaIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Mlp (hMlp := hMlp)
    ∧ quiescent_MlpIdeal (hMlpIdeal := hMlpIdeal)
    ∧ quiescent_RefMlpIdeal (hRefMlpIdeal := hRefMlpIdeal)
    ∧ quiescent_InProjA (hInProjA := hInProjA)
    ∧ quiescent_InProjAIdeal (hInProjAIdeal := hInProjAIdeal)
    ∧ quiescent_RefInProjAIdeal (hRefInProjAIdeal := hRefInProjAIdeal)
    ∧ quiescent_OutProjA (hOutProjA := hOutProjA)
    ∧ quiescent_OutProjAIdeal (hOutProjAIdeal := hOutProjAIdeal)
    ∧ quiescent_RefOutProjAIdeal (hRefOutProjAIdeal := hRefOutProjAIdeal)
    ∧ quiescent_InProjC (hInProjC := hInProjC)
    ∧ quiescent_InProjCIdeal (hInProjCIdeal := hInProjCIdeal)
    ∧ quiescent_RefInProjCIdeal (hRefInProjCIdeal := hRefInProjCIdeal)
    ∧ quiescent_OutProjC (hOutProjC := hOutProjC)
    ∧ quiescent_OutProjCIdeal (hOutProjCIdeal := hOutProjCIdeal)
    ∧ quiescent_RefOutProjCIdeal (hRefOutProjCIdeal := hRefOutProjCIdeal)
    ∧ quiescent_InProjB (hInProjB := hInProjB)
    ∧ quiescent_InProjBIdeal (hInProjBIdeal := hInProjBIdeal)
    ∧ quiescent_RefInProjBIdeal (hRefInProjBIdeal := hRefInProjBIdeal)
    ∧ quiescent_OutProjB (hOutProjB := hOutProjB)
    ∧ quiescent_OutProjBIdeal (hOutProjBIdeal := hOutProjBIdeal)
    ∧ quiescent_RefOutProjBIdeal (hRefOutProjBIdeal := hRefOutProjBIdeal)
    ∧ quiescent_Conv (hConv := hConv)
    ∧ quiescent_ConvIdeal (hConvIdeal := hConvIdeal)
    ∧ quiescent_RefConvIdeal (hRefConvIdeal := hRefConvIdeal)
    ∧ quiescent_Readout (hReadout := hReadout)
    ∧ quiescent_ReadoutIdeal (hReadoutIdeal := hReadoutIdeal)
    ∧ quiescent_RefReadoutIdeal (hRefReadoutIdeal := hRefReadoutIdeal)
    ∧ quiescent_Ada (hAda := hAda)
    ∧ quiescent_AdaIdeal (hAdaIdeal := hAdaIdeal)
    ∧ quiescent_RefAdaIdeal (hRefAdaIdeal := hRefAdaIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Mlp_MlpIdeal
    ∧ algebraic_MlpIdeal_RefMlpIdeal (hMlpIdeal := hMlpIdeal) (hRefMlpIdeal := hRefMlpIdeal)
    ∧ preserves_InProjA_InProjAIdeal
    ∧ algebraic_InProjAIdeal_RefInProjAIdeal (hInProjAIdeal := hInProjAIdeal) (hRefInProjAIdeal := hRefInProjAIdeal)
    ∧ preserves_OutProjA_OutProjAIdeal
    ∧ algebraic_OutProjAIdeal_RefOutProjAIdeal (hOutProjAIdeal := hOutProjAIdeal) (hRefOutProjAIdeal := hRefOutProjAIdeal)
    ∧ preserves_InProjC_InProjCIdeal
    ∧ algebraic_InProjCIdeal_RefInProjCIdeal (hInProjCIdeal := hInProjCIdeal) (hRefInProjCIdeal := hRefInProjCIdeal)
    ∧ preserves_OutProjC_OutProjCIdeal
    ∧ algebraic_OutProjCIdeal_RefOutProjCIdeal (hOutProjCIdeal := hOutProjCIdeal) (hRefOutProjCIdeal := hRefOutProjCIdeal)
    ∧ preserves_InProjB_InProjBIdeal
    ∧ algebraic_InProjBIdeal_RefInProjBIdeal (hInProjBIdeal := hInProjBIdeal) (hRefInProjBIdeal := hRefInProjBIdeal)
    ∧ preserves_OutProjB_OutProjBIdeal
    ∧ algebraic_OutProjBIdeal_RefOutProjBIdeal (hOutProjBIdeal := hOutProjBIdeal) (hRefOutProjBIdeal := hRefOutProjBIdeal)
    ∧ preserves_Conv_ConvIdeal
    ∧ algebraic_ConvIdeal_RefConvIdeal (hConvIdeal := hConvIdeal) (hRefConvIdeal := hRefConvIdeal)
    ∧ preserves_Readout_ReadoutIdeal
    ∧ algebraic_ReadoutIdeal_RefReadoutIdeal (hReadoutIdeal := hReadoutIdeal) (hRefReadoutIdeal := hRefReadoutIdeal)
    ∧ preserves_Ada_AdaIdeal
    ∧ algebraic_AdaIdeal_RefAdaIdeal (hAdaIdeal := hAdaIdeal) (hRefAdaIdeal := hRefAdaIdeal)
-- ==== Pre_scores_finite.lean ====
abbrev S16 : Shape := ⟨1, ![16]⟩
abbrev S4x8192x3072 : Shape := ⟨3, ![4, 8192, 3072]⟩
abbrev S4x256x3072 : Shape := ⟨3, ![4, 256, 3072]⟩
abbrev S4x8192x2560 : Shape := ⟨3, ![4, 8192, 2560]⟩
abbrev S4x256x512 : Shape := ⟨3, ![4, 256, 512]⟩
abbrev S_ : Shape := ⟨0, ![]⟩

class Facts : Prop where
  slices_S4x8192x3072_S4x8192x2560_0_0_0 : S4x8192x3072.Slices ![0, 0, 0] S4x8192x2560
  bitsLt_bf16_f32 : FTy.bits .bf16 < FTy.bits .f32
  slices_S4x256x3072_S4x256x512_0_0_2048 : S4x256x3072.Slices ![0, 0, 2048] S4x256x512
  bcast_S_S16 : S_.BroadcastsInDim S16 (![] : Fin 0 → Fin S16.rank)
  bcast_S_S4x8192x2560 : S_.BroadcastsInDim S4x8192x2560 (![] : Fin 0 → Fin S4x8192x2560.rank)
  bcast_S_S4x256x512 : S_.BroadcastsInDim S4x256x512 (![] : Fin 0 → Fin S4x256x512.rank)

variable [Facts]

def fn {F : FTy → Type} [FloatOps F] (main_arg0 : FVec F S16 .f32) (main_arg1 : FVec F S4x8192x3072 .bf16) (main_arg2 : FVec F S4x256x3072 .bf16) : IVec S16 1 × IVec S4x8192x2560 1 × IVec S4x256x512 1 :=
  let main_v0 : FVec F S4x8192x2560 .bf16 := (extractStridedSlice S4x8192x2560 ![0, 0, 0] · slices_S4x8192x3072_S4x8192x2560_0_0_0) main_arg1
  let main_v1 : FVec F S4x8192x2560 .f32 := (extf .f32 · bitsLt_bf16_f32) main_v0
  let main_v2 : FVec F S4x256x512 .bf16 := (extractStridedSlice S4x256x512 ![0, 0, 2048] · slices_S4x256x3072_S4x256x512_0_0_2048) main_arg2
  let main_v3 : FVec F S4x256x512 .f32 := (extf .f32 · bitsLt_bf16_f32) main_v2
  let main_v4 : FVec F S16 .f32 := Host.absf main_arg0
  let main_cst : FVec F S_ .f32 := constant S_ .f32 0x7F800000#32
  let main_v5 : FVec F S16 .f32 := broadcastInDim S16 ![] bcast_S_S16 main_cst
  let main_v6 : IVec S16 1 := cmpf .olt main_v4 main_v5
  let main_v7 : FVec F S4x8192x2560 .f32 := Host.absf main_v1
  let main_cst_0 : FVec F S_ .f32 := constant S_ .f32 0x7F800000#32
  let main_v8 : FVec F S4x8192x2560 .f32 := broadcastInDim S4x8192x2560 ![] bcast_S_S4x8192x2560 main_cst_0
  let main_v9 : IVec S4x8192x2560 1 := cmpf .olt main_v7 main_v8
  let main_v10 : FVec F S4x256x512 .f32 := Host.absf main_v3
  let main_cst_1 : FVec F S_ .f32 := constant S_ .f32 0x7F800000#32
  let main_v11 : FVec F S4x256x512 .f32 := broadcastInDim S4x256x512 ![] bcast_S_S4x256x512 main_cst_1
  let main_v12 : IVec S4x256x512 1 := cmpf .olt main_v10 main_v11
  (main_v6, main_v9, main_v12)
-- ==== Kernel.lean ====
abbrev S16 : Shape := ⟨1, ![16]⟩
abbrev S4x8192x3072 : Shape := ⟨3, ![4, 8192, 3072]⟩
abbrev S4x256x3072 : Shape := ⟨3, ![4, 256, 3072]⟩
abbrev S4x4 : Shape := ⟨2, ![4, 4]⟩
abbrev S4x8192x2048 : Shape := ⟨3, ![4, 8192, 2048]⟩
abbrev S1x512x512 : Shape := ⟨3, ![1, 512, 512]⟩
abbrev S1x128x128 : Shape := ⟨3, ![1, 128, 128]⟩
abbrev S1x512x128 : Shape := ⟨3, ![1, 512, 128]⟩
abbrev S1x256x128 : Shape := ⟨3, ![1, 256, 128]⟩
abbrev S128x128 : Shape := ⟨2, ![128, 128]⟩
abbrev S512x128 : Shape := ⟨2, ![512, 128]⟩
abbrev S768x128 : Shape := ⟨2, ![768, 128]⟩
abbrev S768x256 : Shape := ⟨2, ![768, 256]⟩
abbrev S256x128 : Shape := ⟨2, ![256, 128]⟩
abbrev S256x256 : Shape := ⟨2, ![256, 256]⟩
abbrev S1x1 : Shape := ⟨2, ![1, 1]⟩
abbrev S128x1 : Shape := ⟨2, ![128, 1]⟩
abbrev S512x1 : Shape := ⟨2, ![512, 1]⟩
abbrev S512x384 : Shape := ⟨2, ![512, 384]⟩
abbrev S1x128x512 : Shape := ⟨3, ![1, 128, 512]⟩
abbrev S128x512 : Shape := ⟨2, ![128, 512]⟩
abbrev S384x128 : Shape := ⟨2, ![384, 128]⟩
abbrev S512x256 : Shape := ⟨2, ![512, 256]⟩
abbrev S512 : Shape := ⟨1, ![512]⟩
abbrev S384x256 : Shape := ⟨2, ![384, 256]⟩

abbrev nBuf : Space → Nat
  | .hbm => 5
  | .vmem => 20
  | .smem => 1
  | _ => 0

abbrev bufTy : (tb : Table) → Fin (tcTables nBuf tb) → BufTy
  | .hbm, ⟨0, _⟩ => ⟨S16, .f32⟩
  | .hbm, ⟨1, _⟩ => ⟨S4x8192x3072, .bf16⟩
  | .hbm, ⟨2, _⟩ => ⟨S4x256x3072, .bf16⟩
  | .hbm, ⟨3, _⟩ => ⟨S4x4, .f32⟩
  | .hbm, ⟨4, _⟩ => ⟨S4x8192x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x512x512, .bf16⟩
  | .local _ .vmem, ⟨19, _⟩ => ⟨S1x512x512, .bf16⟩
  | .local _ .smem, ⟨0, _⟩ => ⟨S4x4, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 2 → Nat :=
  let arg1 : BitVec 32 := BitVec.ofNat 32 (i 1).val
  let v22 : Index := Scalar.indexCast arg1
  let c0_24 : Index := 0#32
  ![v22.toNat, 0]
def k0_off2 (i : grid0.Coords) : Fin 2 → Nat :=
  let arg1 : BitVec 32 := BitVec.ofNat 32 (i 1).val
  let v25 : Index := Scalar.indexCast arg1
  let c1 : Index := 1#32
  ![v25.toNat, 1]
def k0_off3 (i : grid0.Coords) : Fin 2 → Nat :=
  let arg1 : BitVec 32 := BitVec.ofNat 32 (i 1).val
  let v28 : Index := Scalar.indexCast arg1
  let c2 : Index := 2#32
  ![v28.toNat, 2]
def k0_off4 (i : grid0.Coords) : Fin 2 → Nat :=
  let arg1 : BitVec 32 := BitVec.ofNat 32 (i 1).val
  let v31 : Index := Scalar.indexCast arg1
  let c3 : Index := 3#32
  ![v31.toNat, 3]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c16_i32 : BitVec 32 := 16#32
  let v4 : BitVec 32 := Scalar.addi c16_i32 arg1
  let c0_i32_0 : BitVec 32 := 0#32
  ![arg0.toNat, v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c0_i32 : BitVec 32 := 0#32
  let c63_i32 : BitVec 32 := 63#32
  let v2 : BitVec 32 := Scalar.maxsi c0_i32 v1
  let v3 : BitVec 32 := Scalar.minsi c63_i32 v2
  let c16_i32 : BitVec 32 := 16#32
  let v4 : BitVec 32 := Scalar.addi c16_i32 arg1
  let c0_i32_1 : BitVec 32 := 0#32
  ![arg0.toNat, v3.toNat, v4.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c_m1_i32 : BitVec 32 := 4294967295#32
  let v1 : BitVec 32 := Scalar.addi v0 c_m1_i32
  let c0_i32 : BitVec 32 := 0#32
  let c63_i32 : BitVec 32 := 63#32
  let v2 : BitVec 32 := Scalar.maxsi c0_i32 v1
  let v3 : BitVec 32 := Scalar.minsi c63_i32 v2
  let c20_i32 : BitVec 32 := 20#32
  let v4 : BitVec 32 := Scalar.addi c20_i32 arg1
  let c0_i32_0 : BitVec 32 := 0#32
  ![arg0.toNat, v3.toNat, v4.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.addi v0 c4_i32_0
  let c0_i32 : BitVec 32 := 0#32
  let c63_i32 : BitVec 32 := 63#32
  let v2 : BitVec 32 := Scalar.maxsi c0_i32 v1
  let v3 : BitVec 32 := Scalar.minsi c63_i32 v2
  let c20_i32 : BitVec 32 := 20#32
  let v4 : BitVec 32 := Scalar.addi c20_i32 arg1
  let c0_i32_1 : BitVec 32 := 0#32
  ![arg0.toNat, v3.toNat, v4.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S16 : Shape := ⟨1, ![16]⟩
abbrev S4x8192x3072 : Shape := ⟨3, ![4, 8192, 3072]⟩
abbrev S4x256x3072 : Shape := ⟨3, ![4, 256, 3072]⟩
abbrev S4x8192x2048 : Shape := ⟨3, ![4, 8192, 2048]⟩
abbrev S4x8192x4x4x128 : Shape := ⟨5, ![4, 8192, 4, 4, 128]⟩
abbrev S4x8192x512 : Shape := ⟨3, ![4, 8192, 512]⟩
abbrev S4x8192x4x128 : Shape := ⟨4, ![4, 8192, 4, 128]⟩
abbrev S4x256x512 : Shape := ⟨3, ![4, 256, 512]⟩
abbrev S4x256x4x128 : Shape := ⟨4, ![4, 256, 4, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x4x8192x8192x4 : Shape := ⟨5, ![4, 4, 8192, 8192, 4]⟩
abbrev S4x4x4x8192x8192 : Shape := ⟨5, ![4, 4, 4, 8192, 8192]⟩
abbrev S4x4x256x8192x4 : Shape := ⟨5, ![4, 4, 256, 8192, 4]⟩
abbrev S4x4x4x8192x256 : Shape := ⟨5, ![4, 4, 4, 8192, 256]⟩
abbrev S1x4x4x1x1 : Shape := ⟨5, ![1, 4, 4, 1, 1]⟩
abbrev S4x4x4x8192x1 : Shape := ⟨5, ![4, 4, 4, 8192, 1]⟩
abbrev S4x4x4x8192x8449 : Shape := ⟨5, ![4, 4, 4, 8192, 8449]⟩
abbrev S4x4x4x8192 : Shape := ⟨4, ![4, 4, 4, 8192]⟩
abbrev S4x4x128x4x8192 : Shape := ⟨5, ![4, 4, 128, 4, 8192]⟩

abbrev nBuf : Space → Nat
  | .hbm => 60
  | .vmem => 0
  | .smem => 0
  | _ => 0

abbrev bufTy : (tb : Table) → Fin (tcTables nBuf tb) → BufTy
  | .hbm, ⟨0, _⟩ => ⟨S16, .f32⟩
  | .hbm, ⟨1, _⟩ => ⟨S4x8192x3072, .bf16⟩
  | .hbm, ⟨2, _⟩ => ⟨S4x256x3072, .bf16⟩
  | .hbm, ⟨3, _⟩ => ⟨S4x8192x3072, .f32⟩
  | .hbm, ⟨4, _⟩ => ⟨S4x256x3072, .f32⟩
  | .hbm, ⟨5, _⟩ => ⟨S4x8192x2048, .f32⟩
  | .hbm, ⟨6, _⟩ => ⟨S4x8192x4x4x128, .f32⟩
  | .hbm, ⟨7, _⟩ => ⟨S4x8192x512, .f32⟩
  | .hbm, ⟨8, _⟩ => ⟨S4x8192x4x128, .f32⟩
  | .hbm, ⟨9, _⟩ => ⟨S4x8192x512, .f32⟩
  | .hbm, ⟨10, _⟩ => ⟨S4x8192x4x128, .f32⟩
  | .hbm, ⟨11, _⟩ => ⟨S4x256x512, .f32⟩
  | .hbm, ⟨12, _⟩ => ⟨S4x256x4x128, .f32⟩
  | .hbm, ⟨13, _⟩ => ⟨S4x256x512, .f32⟩
  | .hbm, ⟨14, _⟩ => ⟨S4x256x4x128, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i1⟩
  | .hbm, ⟨25, _⟩ => ⟨S4x4x8192x8192x4, .f32⟩
  | .hbm, ⟨26, _⟩ => ⟨S4x4x4x8192x8192, .f32⟩
  | .hbm, ⟨27, _⟩ => ⟨S_, .f32⟩
  | .hbm, ⟨28, _⟩ => ⟨S_, .f32⟩
  | .hbm, ⟨29, _⟩ => ⟨S4x4x4x8192x8192, .i1⟩
  | .hbm, ⟨30, _⟩ => ⟨S4x4x4x8192x8192, .f32⟩
  | .hbm, ⟨31, _⟩ => ⟨S4x4x4x8192x8192, .f32⟩
  | .hbm, ⟨32, _⟩ => ⟨S4x4x256x8192x4, .f32⟩
  | .hbm, ⟨33, _⟩ => ⟨S4x4x4x8192x256, .f32⟩
  | .hbm, ⟨34, _⟩ => ⟨S1x4x4x1x1, .f32⟩
  | .hbm, ⟨35, _⟩ => ⟨S4x4x4x8192x1, .f32⟩
  | .hbm, ⟨36, _⟩ => ⟨S4x4x4x8192x8449, .f32⟩
  | .hbm, ⟨37, _⟩ => ⟨S_, .f32⟩
  | .hbm, ⟨38, _⟩ => ⟨S4x4x4x8192, .f32⟩
  | .hbm, ⟨39, _⟩ => ⟨S_, .f32⟩
  | .hbm, ⟨40, _⟩ => ⟨S4x4x4x8192, .f32⟩
  | .hbm, ⟨41, _⟩ => ⟨S4x4x4x8192, .f32⟩
  | .hbm, ⟨42, _⟩ => ⟨S4x4x4x8192x1, .f32⟩
  | .hbm, ⟨43, _⟩ => ⟨S4x4x4x8192x8449, .f32⟩
  | .hbm, ⟨44, _⟩ => ⟨S4x4x4x8192x8449, .f32⟩
  | .hbm, ⟨45, _⟩ => ⟨S4x4x4x8192x8449, .f32⟩
  | .hbm, ⟨46, _⟩ => ⟨S_, .f32⟩
  | .hbm, ⟨47, _⟩ => ⟨S4x4x4x8192, .f32⟩
  | .hbm, ⟨48, _⟩ => ⟨S4x4x4x8192x1, .f32⟩
  | .hbm, ⟨49, _⟩ => ⟨S4x4x4x8192x8449, .f32⟩
  | .hbm, ⟨50, _⟩ => ⟨S4x4x4x8192x8449, .f32⟩
  | .hbm, ⟨51, _⟩ => ⟨S4x4x4x8192x8192, .f32⟩
  | .hbm, ⟨52, _⟩ => ⟨S4x4x128x4x8192, .f32⟩
  | .hbm, ⟨53, _⟩ => ⟨S4x8192x4x4x128, .f32⟩
  | .hbm, ⟨54, _⟩ => ⟨S4x4x4x8192x256, .f32⟩
  | .hbm, ⟨55, _⟩ => ⟨S4x4x128x4x8192, .f32⟩
  | .hbm, ⟨56, _⟩ => ⟨S4x8192x4x4x128, .f32⟩
  | .hbm, ⟨57, _⟩ => ⟨S4x8192x4x4x128, .f32⟩
  | .hbm, ⟨58, _⟩ => ⟨S4x8192x2048, .f32⟩
  | .hbm, ⟨59, _⟩ => ⟨S4x8192x2048, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Mlp.lean ====
abbrev S32768x2048 : Shape := ⟨2, ![32768, 2048]⟩
abbrev S4x6x2048 : Shape := ⟨3, ![4, 6, 2048]⟩
abbrev S4x2048 : Shape := ⟨2, ![4, 2048]⟩
abbrev S2048x8192 : Shape := ⟨2, ![2048, 8192]⟩
abbrev S8192x2048 : Shape := ⟨2, ![8192, 2048]⟩
abbrev S512x2048 : Shape := ⟨2, ![512, 2048]⟩
abbrev S1x6x2048 : Shape := ⟨3, ![1, 6, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S1x2048 : Shape := ⟨2, ![1, 2048]⟩
abbrev S1x1x2048 : Shape := ⟨3, ![1, 1, 2048]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x8192, .f32⟩
  | .hbm, ⟨4, _⟩ => ⟨S8192x2048, .f32⟩
  | .hbm, ⟨5, _⟩ => ⟨S2048x8192, .bf16⟩
  | .hbm, ⟨6, _⟩ => ⟨S8192x2048, .bf16⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S4x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x2048, .bf16⟩
  | .local _ .vmem, ⟨8, _⟩ => ⟨S1024x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefMlpIdeal.lean ====
abbrev S32768x2048 : Shape := ⟨2, ![32768, 2048]⟩
abbrev S4x6x2048 : Shape := ⟨3, ![4, 6, 2048]⟩
abbrev S4x2048 : Shape := ⟨2, ![4, 2048]⟩
abbrev S2048x8192 : Shape := ⟨2, ![2048, 8192]⟩
abbrev S8192x2048 : Shape := ⟨2, ![8192, 2048]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x1x2048 : Shape := ⟨3, ![4, 1, 2048]⟩
abbrev S4x8192x8192 : Shape := ⟨3, ![4, 8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x8192, .f32⟩
  | .hbm, ⟨4, _⟩ => ⟨S8192x2048, .f32⟩
  | .hbm, ⟨5, _⟩ => ⟨S4x8192x2048, .f32⟩
  | .hbm, ⟨6, _⟩ => ⟨S1x2048, .f32⟩
  | .hbm, ⟨7, _⟩ => ⟨S2048, .f32⟩
  | .hbm, ⟨8, _⟩ => ⟨S4x8192x2048, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x2048, .f32⟩
  | .hbm, ⟨20, _⟩ => ⟨S4x8192x2048, .f32⟩
  | .hbm, ⟨21, _⟩ => ⟨S1x1x2048, .f32⟩
  | .hbm, ⟨22, _⟩ => ⟨S4x8192x2048, .f32⟩
  | .hbm, ⟨23, _⟩ => ⟨S4x8192x2048, .f32⟩
  | .hbm, ⟨24, _⟩ => ⟨S4x1x2048, .f32⟩
  | .hbm, ⟨25, _⟩ => ⟨S4x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x8192x2048, .f32⟩
  | .hbm, ⟨31, _⟩ => ⟨S4x8192x2048, .f32⟩
  | .hbm, ⟨32, _⟩ => ⟨S4x1x2048, .f32⟩
  | .hbm, ⟨33, _⟩ => ⟨S4x2048, .f32⟩
  | .hbm, ⟨34, _⟩ => ⟨S4x1x2048, .f32⟩
  | .hbm, ⟨35, _⟩ => ⟨S4x8192x2048, .f32⟩
  | .hbm, ⟨36, _⟩ => ⟨S4x8192x2048, .f32⟩
  | .hbm, ⟨37, _⟩ => ⟨S4x8192x8192, .f32⟩
  | .hbm, ⟨38, _⟩ => ⟨S_, .f32⟩
  | .hbm, ⟨39, _⟩ => ⟨S4x8192x8192, .f32⟩
  | .hbm, ⟨40, _⟩ => ⟨S4x8192x8192, .f32⟩
  | .hbm, ⟨41, _⟩ => ⟨S4x8192x8192, .f32⟩
  | .hbm, ⟨42, _⟩ => ⟨S4x8192x2048, .f32⟩
  | .hbm, ⟨43, _⟩ => ⟨S4x1x2048, .f32⟩
  | .hbm, ⟨44, _⟩ => ⟨S4x2048, .f32⟩
  | .hbm, ⟨45, _⟩ => ⟨S4x1x2048, .f32⟩
  | .hbm, ⟨46, _⟩ => ⟨S1x2048, .f32⟩
  | .hbm, ⟨47, _⟩ => ⟨S2048, .f32⟩
  | .hbm, ⟨48, _⟩ => ⟨S4x8192x2048, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S4x8192x2048, .f32⟩
  | .hbm, ⟨60, _⟩ => ⟨S4x8192x2048, .f32⟩
  | .hbm, ⟨61, _⟩ => ⟨S1x1x2048, .f32⟩
  | .hbm, ⟨62, _⟩ => ⟨S4x8192x2048, .f32⟩
  | .hbm, ⟨63, _⟩ => ⟨S4x8192x2048, .f32⟩
  | .hbm, ⟨64, _⟩ => ⟨S4x8192x2048, .f32⟩
  | .hbm, ⟨65, _⟩ => ⟨S4x8192x2048, .f32⟩
  | .hbm, ⟨66, _⟩ => ⟨S4x8192x2048, .f32⟩
  | .hbm, ⟨67, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_cst : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== InProjA.lean ====
abbrev S32768x2048 : Shape := ⟨2, ![32768, 2048]⟩
abbrev S4x6x2048 : Shape := ⟨3, ![4, 6, 2048]⟩
abbrev S4x2048 : Shape := ⟨2, ![4, 2048]⟩
abbrev S2048x10240 : Shape := ⟨2, ![2048, 10240]⟩
abbrev S32768x10240 : Shape := ⟨2, ![32768, 10240]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩
abbrev S1x1x2048 : Shape := ⟨3, ![1, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x10240, .f32⟩
  | .hbm, ⟨4, _⟩ => ⟨S2048x10240, .bf16⟩
  | .hbm, ⟨5, _⟩ => ⟨S32768x10240, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S4x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefInProjAIdeal.lean ====
abbrev S32768x2048 : Shape := ⟨2, ![32768, 2048]⟩
abbrev S4x6x2048 : Shape := ⟨3, ![4, 6, 2048]⟩
abbrev S4x2048 : Shape := ⟨2, ![4, 2048]⟩
abbrev S2048x10240 : Shape := ⟨2, ![2048, 10240]⟩
abbrev S4x8192x2048 : Shape := ⟨3, ![4, 8192, 2048]⟩
abbrev S1x2048 : Shape := ⟨2, ![1, 2048]⟩
abbrev S2048 : Shape := ⟨1, ![2048]⟩
abbrev S4x1x2048 : Shape := ⟨3, ![4, 1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x10240 : Shape := ⟨3, ![4, 8192, 10240]⟩
abbrev S32768x10240 : Shape := ⟨2, ![32768, 10240]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x10240, .f32⟩
  | .hbm, ⟨4, _⟩ => ⟨S4x8192x2048, .f32⟩
  | .hbm, ⟨5, _⟩ => ⟨S1x2048, .f32⟩
  | .hbm, ⟨6, _⟩ => ⟨S2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x2048, .f32⟩
  | .hbm, ⟨12, _⟩ => ⟨S4x1x2048, .f32⟩
  | .hbm, ⟨13, _⟩ => ⟨S4x8192x2048, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x2048, .f32⟩
  | .hbm, ⟨25, _⟩ => ⟨S4x8192x2048, .f32⟩
  | .hbm, ⟨26, _⟩ => ⟨S1x1x2048, .f32⟩
  | .hbm, ⟨27, _⟩ => ⟨S4x8192x2048, .f32⟩
  | .hbm, ⟨28, _⟩ => ⟨S4x8192x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S4x8192x10240, .f32⟩
  | .hbm, ⟨37, _⟩ => ⟨S32768x10240, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutProjA.lean ====
abbrev S4x8192x2048 : Shape := ⟨3, ![4, 8192, 2048]⟩
abbrev S4x8192x10240 : Shape := ⟨3, ![4, 8192, 10240]⟩
abbrev S2048 : Shape := ⟨1, ![2048]⟩
abbrev S2048x2048 : Shape := ⟨2, ![2048, 2048]⟩
abbrev S32768x2048 : Shape := ⟨2, ![32768, 2048]⟩
abbrev S4x6x2048 : Shape := ⟨3, ![4, 6, 2048]⟩
abbrev S4x2048 : Shape := ⟨2, ![4, 2048]⟩
abbrev S32768x10240 : Shape := ⟨2, ![32768, 10240]⟩
abbrev S1x2048 : Shape := ⟨2, ![1, 2048]⟩
abbrev S256x2048 : Shape := ⟨2, ![256, 2048]⟩
abbrev S1x6x2048 : Shape := ⟨3, ![1, 6, 2048]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x1x2048 : Shape := ⟨3, ![1, 1, 2048]⟩

abbrev nBuf : Space → Nat
  | .hbm => 14
  | .vmem => 15
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x10240, .f32⟩
  | .hbm, ⟨3, _⟩ => ⟨S2048, .f32⟩
  | .hbm, ⟨4, _⟩ => ⟨S2048x2048, .f32⟩
  | .hbm, ⟨5, _⟩ => ⟨S32768x2048, .f32⟩
  | .hbm, ⟨6, _⟩ => ⟨S4x6x2048, .f32⟩
  | .hbm, ⟨7, _⟩ => ⟨S4x2048, .f32⟩
  | .hbm, ⟨8, _⟩ => ⟨S32768x2048, .f32⟩
  | .hbm, ⟨9, _⟩ => ⟨S32768x2048, .f32⟩
  | .hbm, ⟨10, _⟩ => ⟨S32768x10240, .f32⟩
  | .hbm, ⟨11, _⟩ => ⟨S1x2048, .f32⟩
  | .hbm, ⟨12, _⟩ => ⟨S2048x2048, .bf16⟩
  | .hbm, ⟨13, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x2048, .bf16⟩
  | .local _ .vmem, ⟨8, _⟩ => ⟨S256x2048, .f32⟩
  | .local _ .vmem, ⟨9, _⟩ => ⟨S256x2048, .f32⟩
  | .local _ .vmem, ⟨10, _⟩ => ⟨S1x6x2048, .f32⟩
  | .local _ .vmem, ⟨11, _⟩ => ⟨S1x6x2048, .f32⟩
  | .local _ .vmem, ⟨12, _⟩ => ⟨S4x2048, .f32⟩
  | .local _ .vmem, ⟨13, _⟩ => ⟨S256x2048, .f32⟩
  | .local _ .vmem, ⟨14, _⟩ => ⟨S256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefOutProjAIdeal.lean ====
abbrev S4x8192x2048 : Shape := ⟨3, ![4, 8192, 2048]⟩
abbrev S4x8192x10240 : Shape := ⟨3, ![4, 8192, 10240]⟩
abbrev S2048 : Shape := ⟨1, ![2048]⟩
abbrev S2048x2048 : Shape := ⟨2, ![2048, 2048]⟩
abbrev S32768x2048 : Shape := ⟨2, ![32768, 2048]⟩
abbrev S4x6x2048 : Shape := ⟨3, ![4, 6, 2048]⟩
abbrev S4x2048 : Shape := ⟨2, ![4, 2048]⟩
abbrev S4x8192x16x128 : Shape := ⟨4, ![4, 8192, 16, 128]⟩
abbrev S16x128 : Shape := ⟨2, ![16, 128]⟩
abbrev S_ : Shape := ⟨0, ![]⟩
abbrev S4x8192x16 : Shape := ⟨3, ![4, 8192, 16]⟩
abbrev S4x8192x16x1 : Shape := ⟨4, ![4, 8192, 16, 1]⟩
abbrev S1x1x16x128 : Shape := ⟨4, ![1, 1, 16, 128]⟩
abbrev S4x1x2048 : Shape := ⟨3, ![4, 1, 2048]⟩
abbrev S1x2048 : Shape := ⟨2, ![1, 2048]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S4x8192x10240, .f32⟩
  | .hbm, ⟨3, _⟩ => ⟨S2048, .f32⟩
  | .hbm, ⟨4, _⟩ => ⟨S2048x2048, .f32⟩
  | .hbm, ⟨5, _⟩ => ⟨S32768x2048, .f32⟩
  | .hbm, ⟨6, _⟩ => ⟨S4x6x2048, .f32⟩
  | .hbm, ⟨7, _⟩ => ⟨S4x2048, .f32⟩
  | .hbm, ⟨8, _⟩ => ⟨S4x8192x2048, .f32⟩
  | .hbm, ⟨9, _⟩ => ⟨S4x8192x2048, .f32⟩
  | .hbm, ⟨10, _⟩ => ⟨S4x8192x16x128, .f32⟩
  | .hbm, ⟨11, _⟩ => ⟨S16x128, .f32⟩
  | .hbm, ⟨12, _⟩ => ⟨S4x8192x16x128, .f32⟩
  | .hbm, ⟨13, _⟩ => ⟨S_, .f32⟩
  | .hbm, ⟨14, _⟩ => ⟨S4x8192x16, .f32⟩
  | .hbm, ⟨15, _⟩ => ⟨S4x8192x16x1, .f32⟩
  | .hbm, ⟨16, _⟩ => ⟨S_, .f32⟩
  | .hbm, ⟨17, _⟩ => ⟨S4x8192x16x1, .f32⟩
  | .hbm, ⟨18, _⟩ => ⟨S4x8192x16x1, .f32⟩
  | .hbm, ⟨19, _⟩ => ⟨S_, .f32⟩
  | .hbm, ⟨20, _⟩ => ⟨S4x8192x16x1, .f32⟩
  | .hbm, ⟨21, _⟩ => ⟨S4x8192x16x1, .f32⟩
  | .hbm, ⟨22, _⟩ => ⟨S4x8192x16x1, .f32⟩
  | .hbm, ⟨23, _⟩ => ⟨S4x8192x16x128, .f32⟩
  | .hbm, ⟨24, _⟩ => ⟨S4x8192x16x128, .f32⟩
  | .hbm, ⟨25, _⟩ => ⟨S1x1x16x128, .f32⟩
  | .hbm, ⟨26, _⟩ => ⟨S4x8192x16x128, .f32⟩
  | .hbm, ⟨27, _⟩ => ⟨S4x8192x16x128, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S_, .f32⟩
  | .hbm, ⟨33, _⟩ => ⟨S4x8192x2048, .f32⟩
  | .hbm, ⟨34, _⟩ => ⟨S4x8192x2048, .f32⟩
  | .hbm, ⟨35, _⟩ => ⟨S_, .f32⟩
  | .hbm, ⟨36, _⟩ => ⟨S4x8192x2048, .f32⟩
  | .hbm, ⟨37, _⟩ => ⟨S4x8192x2048, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S4x1x2048, .f32⟩
  | .hbm, ⟨42, _⟩ => ⟨S4x2048, .f32⟩
  | .hbm, ⟨43, _⟩ => ⟨S4x1x2048, .f32⟩
  | .hbm, ⟨44, _⟩ => ⟨S1x2048, .f32⟩
  | .hbm, ⟨45, _⟩ => ⟨S2048, .f32⟩
  | .hbm, ⟨46, _⟩ => ⟨S4x8192x2048, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x2048, .f32⟩
  | .hbm, ⟨58, _⟩ => ⟨S4x8192x2048, .f32⟩
  | .hbm, ⟨59, _⟩ => ⟨S1x1x2048, .f32⟩
  | .hbm, ⟨60, _⟩ => ⟨S4x8192x2048, .f32⟩
  | .hbm, ⟨61, _⟩ => ⟨S4x8192x2048, .f32⟩
  | .hbm, ⟨62, _⟩ => ⟨S4x8192x2048, .f32⟩
  | .hbm, ⟨63, _⟩ => ⟨S4x8192x2048, .f32⟩
  | .hbm, ⟨64, _⟩ => ⟨S4x8192x2048, .f32⟩
  | .hbm, ⟨65, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== InProjC.lean ====
abbrev S32768x2048 : Shape := ⟨2, ![32768, 2048]⟩
abbrev S4x6x2048 : Shape := ⟨3, ![4, 6, 2048]⟩
abbrev S4x2048 : Shape := ⟨2, ![4, 2048]⟩
abbrev S2048x10368 : Shape := ⟨2, ![2048, 10368]⟩
abbrev S32768x10368 : Shape := ⟨2, ![32768, 10368]⟩
abbrev S1024x2048 : Shape := ⟨2, ![1024, 2048]⟩
abbrev S1x6x2048 : Shape := ⟨3, ![1, 6, 2048]⟩
abbrev S2048x1152 : Shape := ⟨2, ![2048, 1152]⟩
abbrev S1024x1152 : Shape := ⟨2, ![1024, 1152]⟩
abbrev S1024 : Shape := ⟨1, ![1024]⟩
abbrev S1024x1 : Shape := ⟨2, ![1024, 1]⟩
abbrev S1x2048 : Shape := ⟨2, ![1, 2048]⟩
abbrev S1x1x2048 : Shape := ⟨3, ![1, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x10368, .f32⟩
  | .hbm, ⟨4, _⟩ => ⟨S2048x10368, .bf16⟩
  | .hbm, ⟨5, _⟩ => ⟨S32768x10368, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S4x2048, .f32⟩
  | .local _ .vmem, ⟨5, _⟩ => ⟨S2048x1152, .bf16⟩
  | .local _ .vmem, ⟨6, _⟩ => ⟨S2048x1152, .bf16⟩
  | .local _ .vmem, ⟨7, _⟩ => ⟨S1024x1152, .f32⟩
  | .local _ .vmem, ⟨8, _⟩ => ⟨S1024x1152, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefInProjCIdeal.lean ====
abbrev S32768x2048 : Shape := ⟨2, ![32768, 2048]⟩
abbrev S4x6x2048 : Shape := ⟨3, ![4, 6, 2048]⟩
abbrev S4x2048 : Shape := ⟨2, ![4, 2048]⟩
abbrev S2048x10368 : Shape := ⟨2, ![2048, 10368]⟩
abbrev S4x8192x2048 : Shape := ⟨3, ![4, 8192, 2048]⟩
abbrev S1x2048 : Shape := ⟨2, ![1, 2048]⟩
abbrev S2048 : Shape := ⟨1, ![2048]⟩
abbrev S4x1x2048 : Shape := ⟨3, ![4, 1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x10368 : Shape := ⟨3, ![4, 8192, 10368]⟩
abbrev S32768x10368 : Shape := ⟨2, ![32768, 10368]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x10368, .f32⟩
  | .hbm, ⟨4, _⟩ => ⟨S4x8192x2048, .f32⟩
  | .hbm, ⟨5, _⟩ => ⟨S1x2048, .f32⟩
  | .hbm, ⟨6, _⟩ => ⟨S2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x2048, .f32⟩
  | .hbm, ⟨12, _⟩ => ⟨S4x1x2048, .f32⟩
  | .hbm, ⟨13, _⟩ => ⟨S4x8192x2048, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x2048, .f32⟩
  | .hbm, ⟨25, _⟩ => ⟨S4x8192x2048, .f32⟩
  | .hbm, ⟨26, _⟩ => ⟨S1x1x2048, .f32⟩
  | .hbm, ⟨27, _⟩ => ⟨S4x8192x2048, .f32⟩
  | .hbm, ⟨28, _⟩ => ⟨S4x8192x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S4x8192x10368, .f32⟩
  | .hbm, ⟨37, _⟩ => ⟨S32768x10368, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutProjC.lean ====
abbrev S32768x4096 : Shape := ⟨2, ![32768, 4096]⟩
abbrev S4096x2048 : Shape := ⟨2, ![4096, 2048]⟩
abbrev S32768x2048 : Shape := ⟨2, ![32768, 2048]⟩
abbrev S4x6x2048 : Shape := ⟨3, ![4, 6, 2048]⟩
abbrev S4x2048 : Shape := ⟨2, ![4, 2048]⟩
abbrev S512x2048 : Shape := ⟨2, ![512, 2048]⟩
abbrev S2048x2048 : Shape := ⟨2, ![2048, 2048]⟩
abbrev S1x6x2048 : Shape := ⟨3, ![1, 6, 2048]⟩
abbrev S512 : Shape := ⟨1, ![512]⟩
abbrev S512x1 : Shape := ⟨2, ![512, 1]⟩
abbrev S1x2048 : Shape := ⟨2, ![1, 2048]⟩
abbrev S1x1x2048 : Shape := ⟨3, ![1, 1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x2048, .f32⟩
  | .hbm, ⟨3, _⟩ => ⟨S4x6x2048, .f32⟩
  | .hbm, ⟨4, _⟩ => ⟨S4x2048, .f32⟩
  | .hbm, ⟨5, _⟩ => ⟨S4096x2048, .bf16⟩
  | .hbm, ⟨6, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x6x2048, .f32⟩
  | .local _ .vmem, ⟨7, _⟩ => ⟨S1x6x2048, .f32⟩
  | .local _ .vmem, ⟨8, _⟩ => ⟨S4x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutProjCIdeal.lean ====
abbrev S32768x4096 : Shape := ⟨2, ![32768, 4096]⟩
abbrev S4096x2048 : Shape := ⟨2, ![4096, 2048]⟩
abbrev S32768x2048 : Shape := ⟨2, ![32768, 2048]⟩
abbrev S4x6x2048 : Shape := ⟨3, ![4, 6, 2048]⟩
abbrev S4x2048 : Shape := ⟨2, ![4, 2048]⟩
abbrev S512x2048 : Shape := ⟨2, ![512, 2048]⟩
abbrev S2048x2048 : Shape := ⟨2, ![2048, 2048]⟩
abbrev S1x6x2048 : Shape := ⟨3, ![1, 6, 2048]⟩
abbrev S512 : Shape := ⟨1, ![512]⟩
abbrev S512x1 : Shape := ⟨2, ![512, 1]⟩
abbrev S1x2048 : Shape := ⟨2, ![1, 2048]⟩
abbrev S1x1x2048 : Shape := ⟨3, ![1, 1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x2048, .f32⟩
  | .hbm, ⟨3, _⟩ => ⟨S4x6x2048, .f32⟩
  | .hbm, ⟨4, _⟩ => ⟨S4x2048, .f32⟩
  | .hbm, ⟨5, _⟩ => ⟨S4096x2048, .bf16⟩
  | .hbm, ⟨6, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x6x2048, .f32⟩
  | .local _ .vmem, ⟨7, _⟩ => ⟨S1x6x2048, .f32⟩
  | .local _ .vmem, ⟨8, _⟩ => ⟨S4x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefOutProjCIdeal.lean ====
abbrev S32768x4096 : Shape := ⟨2, ![32768, 4096]⟩
abbrev S4096x2048 : Shape := ⟨2, ![4096, 2048]⟩
abbrev S32768x2048 : Shape := ⟨2, ![32768, 2048]⟩
abbrev S4x6x2048 : Shape := ⟨3, ![4, 6, 2048]⟩
abbrev S4x2048 : Shape := ⟨2, ![4, 2048]⟩
abbrev S4x8192x2048 : Shape := ⟨3, ![4, 8192, 2048]⟩
abbrev S4x8192x4096 : Shape := ⟨3, ![4, 8192, 4096]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x2048, .f32⟩
  | .hbm, ⟨3, _⟩ => ⟨S4x6x2048, .f32⟩
  | .hbm, ⟨4, _⟩ => ⟨S4x2048, .f32⟩
  | .hbm, ⟨5, _⟩ => ⟨S4x8192x2048, .f32⟩
  | .hbm, ⟨6, _⟩ => ⟨S32768x4096, .f32⟩
  | .hbm, ⟨7, _⟩ => ⟨S4x8192x4096, .f32⟩
  | .hbm, ⟨8, _⟩ => ⟨S4x8192x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x8192x2048, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x2048, .f32⟩
  | .hbm, ⟨26, _⟩ => ⟨S4x8192x2048, .f32⟩
  | .hbm, ⟨27, _⟩ => ⟨S1x1x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S32768x2048, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== InProjB.lean ====
abbrev S32768x2048 : Shape := ⟨2, ![32768, 2048]⟩
abbrev S4x6x2048 : Shape := ⟨3, ![4, 6, 2048]⟩
abbrev S4x2048 : Shape := ⟨2, ![4, 2048]⟩
abbrev S2048x3072 : Shape := ⟨2, ![2048, 3072]⟩
abbrev S32768x3072 : Shape := ⟨2, ![32768, 3072]⟩
abbrev S1024x2048 : Shape := ⟨2, ![1024, 2048]⟩
abbrev S1x6x2048 : Shape := ⟨3, ![1, 6, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x2048 : Shape := ⟨2, ![1, 2048]⟩
abbrev S1x1x2048 : Shape := ⟨3, ![1, 1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x3072, .f32⟩
  | .hbm, ⟨4, _⟩ => ⟨S2048x3072, .bf16⟩
  | .hbm, ⟨5, _⟩ => ⟨S32768x3072, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S4x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefInProjBIdeal.lean ====
abbrev S32768x2048 : Shape := ⟨2, ![32768, 2048]⟩
abbrev S4x6x2048 : Shape := ⟨3, ![4, 6, 2048]⟩
abbrev S4x2048 : Shape := ⟨2, ![4, 2048]⟩
abbrev S2048x3072 : Shape := ⟨2, ![2048, 3072]⟩
abbrev S4x8192x2048 : Shape := ⟨3, ![4, 8192, 2048]⟩
abbrev S1x2048 : Shape := ⟨2, ![1, 2048]⟩
abbrev S2048 : Shape := ⟨1, ![2048]⟩
abbrev S4x1x2048 : Shape := ⟨3, ![4, 1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x3072 : Shape := ⟨3, ![4, 8192, 3072]⟩
abbrev S32768x3072 : Shape := ⟨2, ![32768, 3072]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x6x2048, .f32⟩
  | .hbm, ⟨2, _⟩ => ⟨S4x2048, .f32⟩
  | .hbm, ⟨3, _⟩ => ⟨S2048x3072, .f32⟩
  | .hbm, ⟨4, _⟩ => ⟨S4x8192x2048, .f32⟩
  | .hbm, ⟨5, _⟩ => ⟨S1x2048, .f32⟩
  | .hbm, ⟨6, _⟩ => ⟨S2048, .f32⟩
  | .hbm, ⟨7, _⟩ => ⟨S4x1x2048, .f32⟩
  | .hbm, ⟨8, _⟩ => ⟨S4x2048, .f32⟩
  | .hbm, ⟨9, _⟩ => ⟨S4x1x2048, .f32⟩
  | .hbm, ⟨10, _⟩ => ⟨S4x1x2048, .f32⟩
  | .hbm, ⟨11, _⟩ => ⟨S4x2048, .f32⟩
  | .hbm, ⟨12, _⟩ => ⟨S4x1x2048, .f32⟩
  | .hbm, ⟨13, _⟩ => ⟨S4x8192x2048, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x2048, .f32⟩
  | .hbm, ⟨25, _⟩ => ⟨S4x8192x2048, .f32⟩
  | .hbm, ⟨26, _⟩ => ⟨S1x1x2048, .f32⟩
  | .hbm, ⟨27, _⟩ => ⟨S4x8192x2048, .f32⟩
  | .hbm, ⟨28, _⟩ => ⟨S4x8192x2048, .f32⟩
  | .hbm, ⟨29, _⟩ => ⟨S_, .f32⟩
  | .hbm, ⟨30, _⟩ => ⟨S4x1x2048, .f32⟩
  | .hbm, ⟨31, _⟩ => ⟨S4x1x2048, .f32⟩
  | .hbm, ⟨32, _⟩ => ⟨S4x8192x2048, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S4x8192x3072, .f32⟩
  | .hbm, ⟨37, _⟩ => ⟨S32768x3072, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutProjB.lean ====
abbrev S32768x2048 : Shape := ⟨2, ![32768, 2048]⟩
abbrev S2048x2048 : Shape := ⟨2, ![2048, 2048]⟩
abbrev S4x6x2048 : Shape := ⟨3, ![4, 6, 2048]⟩
abbrev S4x2048 : Shape := ⟨2, ![4, 2048]⟩
abbrev S512x2048 : Shape := ⟨2, ![512, 2048]⟩
abbrev S1x6x2048 : Shape := ⟨3, ![1, 6, 2048]⟩
abbrev S512 : Shape := ⟨1, ![512]⟩
abbrev S512x1 : Shape := ⟨2, ![512, 1]⟩
abbrev S1x2048 : Shape := ⟨2, ![1, 2048]⟩
abbrev S1x1x2048 : Shape := ⟨3, ![1, 1, 2048]⟩

abbrev nBuf : Space → Nat
  | .hbm => 7
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S4x6x2048, .f32⟩
  | .hbm, ⟨4, _⟩ => ⟨S4x2048, .f32⟩
  | .hbm, ⟨5, _⟩ => ⟨S2048x2048, .bf16⟩
  | .hbm, ⟨6, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S4x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefOutProjBIdeal.lean ====
abbrev S32768x2048 : Shape := ⟨2, ![32768, 2048]⟩
abbrev S2048x2048 : Shape := ⟨2, ![2048, 2048]⟩
abbrev S4x6x2048 : Shape := ⟨3, ![4, 6, 2048]⟩
abbrev S4x2048 : Shape := ⟨2, ![4, 2048]⟩
abbrev S4x8192x2048 : Shape := ⟨3, ![4, 8192, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S4x6x2048, .f32⟩
  | .hbm, ⟨4, _⟩ => ⟨S4x2048, .f32⟩
  | .hbm, ⟨5, _⟩ => ⟨S4x8192x2048, .f32⟩
  | .hbm, ⟨6, _⟩ => ⟨S32768x2048, .f32⟩
  | .hbm, ⟨7, _⟩ => ⟨S4x8192x2048, .f32⟩
  | .hbm, ⟨8, _⟩ => ⟨S4x8192x2048, .f32⟩
  | .hbm, ⟨9, _⟩ => ⟨S4x1x2048, .f32⟩
  | .hbm, ⟨10, _⟩ => ⟨S4x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x8192x2048, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x2048, .f32⟩
  | .hbm, ⟨26, _⟩ => ⟨S4x8192x2048, .f32⟩
  | .hbm, ⟨27, _⟩ => ⟨S1x1x2048, .f32⟩
  | .hbm, ⟨28, _⟩ => ⟨S4x8192x2048, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Conv.lean ====
abbrev S4x8192x10368 : Shape := ⟨3, ![4, 8192, 10368]⟩
abbrev S5x6144 : Shape := ⟨2, ![5, 6144]⟩
abbrev S6144 : Shape := ⟨1, ![6144]⟩
abbrev S1x6144 : Shape := ⟨2, ![1, 6144]⟩
abbrev S4x8192x6144 : Shape := ⟨3, ![4, 8192, 6144]⟩
abbrev S1x8x1024 : Shape := ⟨3, ![1, 8, 1024]⟩
abbrev S1x512x1024 : Shape := ⟨3, ![1, 512, 1024]⟩
abbrev S5x1024 : Shape := ⟨2, ![5, 1024]⟩
abbrev S1x1024 : Shape := ⟨2, ![1, 1024]⟩
abbrev S528x1024 : Shape := ⟨2, ![528, 1024]⟩
abbrev S8x1024 : Shape := ⟨2, ![8, 1024]⟩
abbrev S512x1024 : Shape := ⟨2, ![512, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4x8192x10368, .f32⟩
  | .hbm, ⟨1, _⟩ => ⟨S5x6144, .f32⟩
  | .hbm, ⟨2, _⟩ => ⟨S6144, .f32⟩
  | .hbm, ⟨3, _⟩ => ⟨S1x6144, .f32⟩
  | .hbm, ⟨4, _⟩ => ⟨S4x8192x6144, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S5x1024, .f32⟩
  | .local _ .vmem, ⟨7, _⟩ => ⟨S5x1024, .f32⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S528x1024, .f32⟩
  | _, _ => ⟨S4x8192x10368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c4_i32 : BitVec 32 := 4#32
  let v3 : BitVec 32 := Scalar.addi c4_i32 arg2
  let c0_i32 : BitVec 32 := 0#32
  ![arg0.toNat, v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== RefConvIdeal.lean ====
abbrev S4x8192x10368 : Shape := ⟨3, ![4, 8192, 10368]⟩
abbrev S5x6144 : Shape := ⟨2, ![5, 6144]⟩
abbrev S6144 : Shape := ⟨1, ![6144]⟩
abbrev S4x8192x6144 : Shape := ⟨3, ![4, 8192, 6144]⟩
abbrev S_ : Shape := ⟨0, ![]⟩
abbrev S4x8196x6144 : Shape := ⟨3, ![4, 8196, 6144]⟩
abbrev S1x6144 : Shape := ⟨2, ![1, 6144]⟩
abbrev S1x1x6144 : Shape := ⟨3, ![1, 1, 6144]⟩

abbrev nBuf : Space → Nat
  | .hbm => 56
  | .vmem => 0
  | .smem => 0
  | _ => 0

abbrev bufTy : (tb : Table) → Fin (tcTables nBuf tb) → BufTy
  | .hbm, ⟨0, _⟩ => ⟨S4x8192x10368, .f32⟩
  | .hbm, ⟨1, _⟩ => ⟨S5x6144, .f32⟩
  | .hbm, ⟨2, _⟩ => ⟨S6144, .f32⟩
  | .hbm, ⟨3, _⟩ => ⟨S4x8192x6144, .f32⟩
  | .hbm, ⟨4, _⟩ => ⟨S_, .i32⟩
  | .hbm, ⟨5, _⟩ => ⟨S_, .f32⟩
  | .hbm, ⟨6, _⟩ => ⟨S4x8196x6144, .f32⟩
  | .hbm, ⟨7, _⟩ => ⟨S4x8192x6144, .f32⟩
  | .hbm, ⟨8, _⟩ => ⟨S1x6144, .f32⟩
  | .hbm, ⟨9, _⟩ => ⟨S6144, .f32⟩
  | .hbm, ⟨10, _⟩ => ⟨S1x1x6144, .f32⟩
  | .hbm, ⟨11, _⟩ => ⟨S4x8192x6144, .f32⟩
  | .hbm, ⟨12, _⟩ => ⟨S4x8192x6144, .f32⟩
  | .hbm, ⟨13, _⟩ => ⟨S_, .f32⟩
  | .hbm, ⟨14, _⟩ => ⟨S4x8192x6144, .f32⟩
  | .hbm, ⟨15, _⟩ => ⟨S4x8192x6144, .f32⟩
  | .hbm, ⟨16, _⟩ => ⟨S4x8192x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S4x8192x6144, .f32⟩
  | .hbm, ⟨21, _⟩ => ⟨S4x8192x6144, .f32⟩
  | .hbm, ⟨22, _⟩ => ⟨S4x8192x6144, .f32⟩
  | .hbm, ⟨23, _⟩ => ⟨S4x8192x6144, .f32⟩
  | .hbm, ⟨24, _⟩ => ⟨S1x6144, .f32⟩
  | .hbm, ⟨25, _⟩ => ⟨S6144, .f32⟩
  | .hbm, ⟨26, _⟩ => ⟨S1x1x6144, .f32⟩
  | .hbm, ⟨27, _⟩ => ⟨S4x8192x6144, .f32⟩
  | .hbm, ⟨28, _⟩ => ⟨S4x8192x6144, .f32⟩
  | .hbm, ⟨29, _⟩ => ⟨S4x8192x6144, .f32⟩
  | .hbm, ⟨30, _⟩ => ⟨S4x8192x6144, .f32⟩
  | .hbm, ⟨31, _⟩ => ⟨S1x6144, .f32⟩
  | .hbm, ⟨32, _⟩ => ⟨S6144, .f32⟩
  | .hbm, ⟨33, _⟩ => ⟨S1x1x6144, .f32⟩
  | .hbm, ⟨34, _⟩ => ⟨S4x8192x6144, .f32⟩
  | .hbm, ⟨35, _⟩ => ⟨S4x8192x6144, .f32⟩
  | .hbm, ⟨36, _⟩ => ⟨S4x8192x6144, .f32⟩
  | .hbm, ⟨37, _⟩ => ⟨S4x8192x6144, .f32⟩
  | .hbm, ⟨38, _⟩ => ⟨S1x6144, .f32⟩
  | .hbm, ⟨39, _⟩ => ⟨S6144, .f32⟩
  | .hbm, ⟨40, _⟩ => ⟨S1x1x6144, .f32⟩
  | .hbm, ⟨41, _⟩ => ⟨S4x8192x6144, .f32⟩
  | .hbm, ⟨42, _⟩ => ⟨S4x8192x6144, .f32⟩
  | .hbm, ⟨43, _⟩ => ⟨S4x8192x6144, .f32⟩
  | .hbm, ⟨44, _⟩ => ⟨S1x1x6144, .f32⟩
  | .hbm, ⟨45, _⟩ => ⟨S4x8192x6144, .f32⟩
  | .hbm, ⟨46, _⟩ => ⟨S4x8192x6144, .f32⟩
  | .hbm, ⟨47, _⟩ => ⟨S4x8192x6144, .f32⟩
  | .hbm, ⟨48, _⟩ => ⟨S4x8192x6144, .f32⟩
  | .hbm, ⟨49, _⟩ => ⟨S_, .f32⟩
  | .hbm, ⟨50, _⟩ => ⟨S4x8192x6144, .f32⟩
  | .hbm, ⟨51, _⟩ => ⟨S4x8192x6144, .f32⟩
  | .hbm, ⟨52, _⟩ => ⟨S_, .f32⟩
  | .hbm, ⟨53, _⟩ => ⟨S4x8192x6144, .f32⟩
  | .hbm, ⟨54, _⟩ => ⟨S4x8192x6144, .f32⟩
  | .hbm, ⟨55, _⟩ => ⟨S4x8192x6144, .f32⟩
  | _, _ => ⟨S4x8192x10368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_0 : Ref sig .tc := ⟨.hbm, 49, rfl⟩
abbrev main_v43 : Ref sig .tc := ⟨.hbm, 50, rfl⟩
abbrev main_v44 : Ref sig .tc := ⟨.hbm, 51, rfl⟩
abbrev main_cst_1 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Readout.lean ====
abbrev S4x8192x4096 : Shape := ⟨3, ![4, 8192, 4096]⟩
abbrev S4x8192x6144 : Shape := ⟨3, ![4, 8192, 6144]⟩
abbrev S4x8192x10368 : Shape := ⟨3, ![4, 8192, 10368]⟩
abbrev S64 : Shape := ⟨1, ![64]⟩
abbrev S4096 : Shape := ⟨1, ![4096]⟩
abbrev S32768x4096 : Shape := ⟨2, ![32768, 4096]⟩
abbrev S32768x6144 : Shape := ⟨2, ![32768, 6144]⟩
abbrev S32768x10368 : Shape := ⟨2, ![32768, 10368]⟩
abbrev S64x64 : Shape := ⟨2, ![64, 64]⟩
abbrev S1x4096 : Shape := ⟨2, ![1, 4096]⟩
abbrev S256x4096 : Shape := ⟨2, ![256, 4096]⟩
abbrev S256x512 : Shape := ⟨2, ![256, 512]⟩
abbrev S1x512 : Shape := ⟨2, ![1, 512]⟩
abbrev S256 : Shape := ⟨1, ![256]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x8192x4096, .f32⟩
  | .hbm, ⟨1, _⟩ => ⟨S4x8192x4096, .f32⟩
  | .hbm, ⟨2, _⟩ => ⟨S4x8192x6144, .f32⟩
  | .hbm, ⟨3, _⟩ => ⟨S4x8192x10368, .f32⟩
  | .hbm, ⟨4, _⟩ => ⟨S64, .f32⟩
  | .hbm, ⟨5, _⟩ => ⟨S4096, .f32⟩
  | .hbm, ⟨6, _⟩ => ⟨S32768x4096, .f32⟩
  | .hbm, ⟨7, _⟩ => ⟨S32768x4096, .f32⟩
  | .hbm, ⟨8, _⟩ => ⟨S32768x6144, .f32⟩
  | .hbm, ⟨9, _⟩ => ⟨S32768x10368, .f32⟩
  | .hbm, ⟨10, _⟩ => ⟨S64x64, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S1x4096, .f32⟩
  | .local _ .vmem, ⟨10, _⟩ => ⟨S256x4096, .bf16⟩
  | .local _ .vmem, ⟨11, _⟩ => ⟨S256x4096, .bf16⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefReadoutIdeal.lean ====
abbrev S4x8192x4096 : Shape := ⟨3, ![4, 8192, 4096]⟩
abbrev S4x8192x6144 : Shape := ⟨3, ![4, 8192, 6144]⟩
abbrev S4x8192x10368 : Shape := ⟨3, ![4, 8192, 10368]⟩
abbrev S64 : Shape := ⟨1, ![64]⟩
abbrev S4096 : Shape := ⟨1, ![4096]⟩
abbrev S4x8192x8x8x64 : Shape := ⟨5, ![4, 8192, 8, 8, 64]⟩
abbrev S8x8x1 : Shape := ⟨3, ![8, 8, 1]⟩
abbrev S1x1x8x8x1 : Shape := ⟨5, ![1, 1, 8, 8, 1]⟩
abbrev S_ : Shape := ⟨0, ![]⟩
abbrev S4x8192x8x512 : Shape := ⟨4, ![4, 8192, 8, 512]⟩
abbrev S8x512 : Shape := ⟨2, ![8, 512]⟩
abbrev S4x8192x8 : Shape := ⟨3, ![4, 8192, 8]⟩
abbrev S4x8192x8x1 : Shape := ⟨4, ![4, 8192, 8, 1]⟩
abbrev S1x1x8x512 : Shape := ⟨4, ![1, 1, 8, 512]⟩
abbrev S32768x4096 : Shape := ⟨2, ![32768, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S4x8192x4096, .f32⟩
  | .hbm, ⟨2, _⟩ => ⟨S4x8192x6144, .f32⟩
  | .hbm, ⟨3, _⟩ => ⟨S4x8192x10368, .f32⟩
  | .hbm, ⟨4, _⟩ => ⟨S64, .f32⟩
  | .hbm, ⟨5, _⟩ => ⟨S4096, .f32⟩
  | .hbm, ⟨6, _⟩ => ⟨S4x8192x4096, .f32⟩
  | .hbm, ⟨7, _⟩ => ⟨S4x8192x8x8x64, .f32⟩
  | .hbm, ⟨8, _⟩ => ⟨S4x8192x4096, .f32⟩
  | .hbm, ⟨9, _⟩ => ⟨S4x8192x8x8x64, .f32⟩
  | .hbm, ⟨10, _⟩ => ⟨S8x8x1, .f32⟩
  | .hbm, ⟨11, _⟩ => ⟨S1x1x8x8x1, .f32⟩
  | .hbm, ⟨12, _⟩ => ⟨S4x8192x8x8x64, .f32⟩
  | .hbm, ⟨13, _⟩ => ⟨S4x8192x8x8x64, .f32⟩
  | .hbm, ⟨14, _⟩ => ⟨S4x8192x8x8x64, .f32⟩
  | .hbm, ⟨15, _⟩ => ⟨S4x8192x4096, .f32⟩
  | .hbm, ⟨16, _⟩ => ⟨S4x8192x4096, .f32⟩
  | .hbm, ⟨17, _⟩ => ⟨S4x8192x4096, .f32⟩
  | .hbm, ⟨18, _⟩ => ⟨S4x8192x4096, .f32⟩
  | .hbm, ⟨19, _⟩ => ⟨S_, .f32⟩
  | .hbm, ⟨20, _⟩ => ⟨S4x8192x4096, .f32⟩
  | .hbm, ⟨21, _⟩ => ⟨S4x8192x4096, .f32⟩
  | .hbm, ⟨22, _⟩ => ⟨S_, .f32⟩
  | .hbm, ⟨23, _⟩ => ⟨S4x8192x4096, .f32⟩
  | .hbm, ⟨24, _⟩ => ⟨S4x8192x4096, .f32⟩
  | .hbm, ⟨25, _⟩ => ⟨S4x8192x4096, .f32⟩
  | .hbm, ⟨26, _⟩ => ⟨S4x8192x4096, .f32⟩
  | .hbm, ⟨27, _⟩ => ⟨S4x8192x8x512, .f32⟩
  | .hbm, ⟨28, _⟩ => ⟨S8x512, .f32⟩
  | .hbm, ⟨29, _⟩ => ⟨S4x8192x8x512, .f32⟩
  | .hbm, ⟨30, _⟩ => ⟨S_, .f32⟩
  | .hbm, ⟨31, _⟩ => ⟨S4x8192x8, .f32⟩
  | .hbm, ⟨32, _⟩ => ⟨S4x8192x8x1, .f32⟩
  | .hbm, ⟨33, _⟩ => ⟨S_, .f32⟩
  | .hbm, ⟨34, _⟩ => ⟨S4x8192x8x1, .f32⟩
  | .hbm, ⟨35, _⟩ => ⟨S4x8192x8x1, .f32⟩
  | .hbm, ⟨36, _⟩ => ⟨S_, .f32⟩
  | .hbm, ⟨37, _⟩ => ⟨S4x8192x8x1, .f32⟩
  | .hbm, ⟨38, _⟩ => ⟨S4x8192x8x1, .f32⟩
  | .hbm, ⟨39, _⟩ => ⟨S4x8192x8x1, .f32⟩
  | .hbm, ⟨40, _⟩ => ⟨S4x8192x8x512, .f32⟩
  | .hbm, ⟨41, _⟩ => ⟨S4x8192x8x512, .f32⟩
  | .hbm, ⟨42, _⟩ => ⟨S1x1x8x512, .f32⟩
  | .hbm, ⟨43, _⟩ => ⟨S4x8192x8x512, .f32⟩
  | .hbm, ⟨44, _⟩ => ⟨S4x8192x8x512, .f32⟩
  | .hbm, ⟨45, _⟩ => ⟨S32768x4096, .f32⟩
  | .hbm, ⟨46, _⟩ => ⟨S32768x4096, .bf16⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Ada.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x12288 : Shape := ⟨3, ![4, 1, 12288]⟩
abbrev S4x8x12288 : Shape := ⟨3, ![4, 8, 12288]⟩
abbrev S1x2048x768 : Shape := ⟨3, ![1, 2048, 768]⟩
abbrev S1x1x768 : Shape := ⟨3, ![1, 1, 768]⟩
abbrev S1x8x768 : Shape := ⟨3, ![1, 8, 768]⟩
abbrev S2048x768 : Shape := ⟨2, ![2048, 768]⟩
abbrev S8x768 : Shape := ⟨2, ![8, 768]⟩
abbrev S1x768 : Shape := ⟨2, ![1, 768]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x12288, .f32⟩
  | .hbm, ⟨9, _⟩ => ⟨S4x8x12288, .f32⟩
  | .local _ .vmem, ⟨0, _⟩ => ⟨S8x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefAdaIdeal.lean ====
abbrev S4x2048 : Shape := ⟨2, ![4, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S5x2048 : Shape := ⟨2, ![5, 2048]⟩
abbrev S_ : Shape := ⟨0, ![]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 23
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S5x2048, .f32⟩
  | .hbm, ⟨6, _⟩ => ⟨S5x2048, .f32⟩
  | .hbm, ⟨7, _⟩ => ⟨S5x2048, .f32⟩
  | .hbm, ⟨8, _⟩ => ⟨S_, .f32⟩
  | .hbm, ⟨9, _⟩ => ⟨S5x2048, .f32⟩
  | .hbm, ⟨10, _⟩ => ⟨S5x2048, .f32⟩
  | .hbm, ⟨11, _⟩ => ⟨S_, .f32⟩
  | .hbm, ⟨12, _⟩ => ⟨S5x2048, .f32⟩
  | .hbm, ⟨13, _⟩ => ⟨S5x2048, .f32⟩
  | .hbm, ⟨14, _⟩ => ⟨S5x2048, .f32⟩
  | .hbm, ⟨15, _⟩ => ⟨S_, .i32⟩
  | .hbm, ⟨16, _⟩ => ⟨S_, .f32⟩
  | .hbm, ⟨17, _⟩ => ⟨S8x2048, .f32⟩
  | .hbm, ⟨18, _⟩ => ⟨S4x12288x8, .f32⟩
  | .hbm, ⟨19, _⟩ => ⟨S4x8x12288, .f32⟩
  | .hbm, ⟨20, _⟩ => ⟨S4x1x12288, .f32⟩
  | .hbm, ⟨21, _⟩ => ⟨S4x8x12288, .f32⟩
  | .hbm, ⟨22, _⟩ => ⟨S4x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.AttMath.lean ====
/-
  The row formula of windowed attention with a sink: the mathematics, free of any program.

  A query row meets 384 keys of the band around it (its own 128 and the 128 on either side), 256 context keys and one
  sink. With all the scores and their greatest value, its result is the weighted sum of the values over the sum of the
  weights.
-/
module

public import Idealize.ShloMosaic.Lib.Pointwise

@[expose] public section

noncomputable section

open Idealize.ShloMosaic

namespace Layer

/-- The greatest of the row's scores, taken in columns of 128 and then with the sink. -/
def bandMax (sl : Fin 384 → EReal) (sc : Fin 256 → EReal) (snk : EReal) : EReal :=
  max (Finset.univ.fold max (Ideal.ofBits FTy.f32 4286578688#32) fun x : Fin 128 =>
    max (max (max (max (sl ⟨x.val, by omega⟩) (sl ⟨128 + x.val, by omega⟩)) (sl ⟨256 + x.val, by omega⟩))
      (sc ⟨x.val, by omega⟩)) (sc ⟨128 + x.val, by omega⟩)) snk

/-- The row's result from a greatest score: `v`, `vx` the values of the band and of the context, `w`, `wx` what the
    weights are multiplied with before they are summed. -/
def attRow (m : EReal) (sl : Fin 384 → EReal) (sc : Fin 256 → EReal) (snk : EReal) (v w : Fin 384 → EReal) (vx wx : Fin 256 → EReal) : EReal :=
  Ideal.div ((∑ c, Ideal.exp (sl c - m) * v c) + ∑ l, Ideal.exp (sc l - m) * vx l)
    (((∑ c, Ideal.exp (sl c - m) * w c) + ∑ l, Ideal.exp (sc l - m) * wx l) + Ideal.exp (snk - m))

end Layer

end
-- ==== Proof.SwaRow.lean ====
/- One row of one of the four query blocks of a grid point: the row formula over the point's inputs. -/
module

public import proofs.«01_k».proof.Proof.Gen.KernelIdeal.Value
public import proofs.«01_k».proof.Proof.AttMath
public import Idealize.ShloMosaic.Lib.Pointwise

@[expose] public section

set_option maxRecDepth 16384

noncomputable section

open Idealize.ShloMosaic Idealize.ShloMosaic.TcCoe Idealize.SL.Sem

namespace Cert.KernelIdeal.Att

open Cert.KernelIdeal Cert.KernelIdeal.Gen Layer

/-- Key `c` of the band of query block `n`, among the 768 keys the point holds. -/
def key (n : ℕ) (hn : n < 4) (c : Fin 384) : Fin 768 := ⟨n * 128 + c.val, by omega⟩
/-- Column `d` of the values; column 128 is the first of the ones behind them. -/
def vcol (d : Fin 128) : Fin 256 := ⟨d.val, by omega⟩

/-- The scores of a row against the band. -/
def locScores (n : ℕ) (hn : n < 4) (ok : Fin 384 → BitVec 1) (q : Fin 128 → EReal) (K : Vec Ideal S768x128 .bf16) (c : Fin 384) : EReal :=
  Scalar.select (ok c) (∑ e, q e * K (ix2 (key n hn c) e)) (Ideal.ofBits FTy.f32 4286578688#32)
/-- The scores of a row against the context. -/
def ctxScores (q : Fin 128 → EReal) (KX : Vec Ideal S256x128 .bf16) (l : Fin 256) : EReal :=
  ∑ e, q e * KX (ix2 l e)

/-- The row of query block `n`. -/
def blockRow (n : ℕ) (hn : n < 4) (ok : Fin 384 → BitVec 1) (q : Fin 128 → EReal) (K : Vec Ideal S768x128 .bf16) (V : Vec Ideal S768x256 .bf16)
    (KX : Vec Ideal S256x128 .bf16) (VX : Vec Ideal S256x256 .bf16) (snk : EReal) (d : Fin 128) : EReal :=
  attRow (bandMax (locScores n hn ok q K) (ctxScores q KX) snk) (locScores n hn ok q K) (ctxScores q KX) snk
    (fun c => V (ix2 (key n hn c) (vcol d))) (fun c => V (ix2 (key n hn c) ⟨128, by decide⟩))
    (fun l => VX (ix2 l (vcol d))) (fun l => VX (ix2 l ⟨128, by decide⟩))

variable (K : Vec Ideal S768x128 .bf16) (V : Vec Ideal S768x256 .bf16) (KX : Vec Ideal S256x128 .bf16) (VX : Vec Ideal S256x256 .bf16)
  (snk : FVec Ideal S512x1 .f32) (ok : IVec S512x384 1) (Q : Vec Ideal S1x128x512 .bf16) (j : BitVec 32) (r : Fin 512) (d : Fin 128)

/-- The lanes as counted by the kernel. -/
abbrev lanes : IVec S512x384 32 := iota .tc S512x384 32 [1] iota_S512x384_d1_w32

theorem key0 (c : Fin 384) : key 0 (by decide) c = ⟨c.val, by omega⟩ := Fin.ext (by simp [key])

theorem row0 (edge : IVec S512x384 1) :
    k0_pay17 (F := Ideal) V KX VX snk ok (k0_pay14 Q) (k0_pay15 K Q) edge (ix2 r d)
      = blockRow 0 (by decide) (fun c => Scalar.andi (ok (ix2 r c)) (edge (ix2 r c))) (fun e => k0_pay14 Q (ix2 r e)) K V KX VX (snk (ix2 r 0)) d := by
  simp only [blockRow, attRow, bandMax, locScores, ctxScores, key0]
  unfold k0_pay15
  generalize k0_pay14 Q = q
  pointwise [k0_pay17, vcol]
  rfl

theorem row1 :
    k0_pay29 (F := Ideal) snk (k0_pay26 K KX snk ok Q) (k0_pay27 K V KX snk ok Q) (k0_pay28 K KX VX snk ok Q) (ix2 r d)
      = blockRow 1 (by decide) (fun c => ok (ix2 r c)) (fun e => k0_pay23 Q (ix2 r e)) K V KX VX (snk (ix2 r 0)) d := by
  have hl : ∀ c, k0_pay24 K ok Q (ix2 r c) = locScores 1 (by decide) (fun c => ok (ix2 r c)) (fun e => k0_pay23 Q (ix2 r e)) K c := fun c => by
    pointwise [k0_pay24, locScores, key, k0_pay23]
  have hx : ∀ l, k0_pay25 KX Q (ix2 r l) = ctxScores (fun e => k0_pay23 Q (ix2 r e)) KX l := fun l => by
    pointwise [k0_pay25, ctxScores, k0_pay23]
  unfold blockRow
  generalize locScores 1 (by decide) (fun c => ok (ix2 r c)) (fun e => k0_pay23 Q (ix2 r e)) K = sl at hl ⊢
  generalize ctxScores (fun e => k0_pay23 Q (ix2 r e)) KX = sx at hx ⊢
  have hm : k0_pay26 K KX snk ok Q (ix2 r 0) = bandMax sl sx (snk (ix2 r 0)) := by
    pointwise [k0_pay26, bandMax, hl, hx]
  pointwise [k0_pay29, k0_pay27, k0_pay28, attRow, hl, hx, hm, vcol, key]

theorem row2 :
    k0_pay36 (F := Ideal) V KX VX snk (k0_pay34 Q) (k0_pay35 K ok Q) (ix2 r d)
      = blockRow 2 (by decide) (fun c => ok (ix2 r c)) (fun e => k0_pay34 Q (ix2 r e)) K V KX VX (snk (ix2 r 0)) d := by
  have hl : ∀ c, k0_pay35 K ok Q (ix2 r c) = locScores 2 (by decide) (fun c => ok (ix2 r c)) (fun e => k0_pay34 Q (ix2 r e)) K c := fun c => by
    pointwise [k0_pay35, locScores, key, k0_pay34]
  unfold blockRow
  generalize k0_pay35 K ok Q = S at hl ⊢
  generalize locScores 2 (by decide) (fun c => ok (ix2 r c)) (fun e => k0_pay34 Q (ix2 r e)) K = sl at hl ⊢
  generalize k0_pay34 Q = q
  pointwise [k0_pay36, attRow, bandMax, ctxScores, hl, vcol, key]

theorem row3 :
    k0_pay1 (F := Ideal) VX snk (k0_pay45 j K KX snk lanes ok Q) (k0_pay46 j K KX snk lanes ok Q) (k0_pay47 j K KX snk lanes ok Q)
        (k0_pay48 V) (constant S512x256 .f32 0x00000000#32) (ix2 r d)
      = blockRow 3 (by decide) (fun c => Scalar.andi (ok (ix2 r c)) (Scalar.ori (Scalar.cmpi .slt (BitVec.ofNat 32 c.val) 256#32) (Scalar.cmpi .slt j 15#32)))
          (fun e => k0_pay42 Q (ix2 r e)) K V KX VX (snk (ix2 r 0)) d := by
  have hl : ∀ c, k0_pay43 j K lanes ok Q (ix2 r c)
      = locScores 3 (by decide) (fun c => Scalar.andi (ok (ix2 r c)) (Scalar.ori (Scalar.cmpi .slt (BitVec.ofNat 32 c.val) 256#32) (Scalar.cmpi .slt j 15#32)))
          (fun e => k0_pay42 Q (ix2 r e)) K c := fun c => by
    pointwise [k0_pay43, locScores, key, k0_pay42, lanes]
    rfl
  have hx : ∀ l, k0_pay44 KX Q (ix2 r l) = ctxScores (fun e => k0_pay42 Q (ix2 r e)) KX l := fun l => by
    pointwise [k0_pay44, ctxScores, k0_pay42]
  unfold blockRow
  generalize locScores 3 (by decide) (fun c => Scalar.andi (ok (ix2 r c)) (Scalar.ori (Scalar.cmpi .slt (BitVec.ofNat 32 c.val) 256#32) (Scalar.cmpi .slt j 15#32))) (fun e => k0_pay42 Q (ix2 r e)) K = sl at hl ⊢
  generalize ctxScores (fun e => k0_pay42 Q (ix2 r e)) KX = sx at hx ⊢
  have hm : k0_pay45 j K KX snk lanes ok Q (ix2 r 0) = bandMax sl sx (snk (ix2 r 0)) := by
    pointwise [k0_pay45, bandMax, hl, hx]
  pointwise [k0_pay1, k0_pay46, k0_pay47, k0_pay48, attRow, hl, hx, hm, vcol, key]

/-- What the sign-safe remainder by 128 of a row number is. -/
theorem rem_word : ∀ r : Fin 512,
    Scalar.select (IntOp.andi (IntOp.xori (IntOp.cmpi .slt (IntOp.remsi .vector (BitVec.ofNat 32 r.val)
        (Scalar.select (Scalar.cmpi .eq 128#32 0#32) 1#32 128#32)) 0#32) (Scalar.cmpi .slt (Scalar.select (Scalar.cmpi .eq 128#32 0#32) 1#32 128#32) 0#32))
        (IntOp.cmpi .ne (IntOp.remsi .vector (BitVec.ofNat 32 r.val) (Scalar.select (Scalar.cmpi .eq 128#32 0#32) 1#32 128#32)) 0#32))
      (IntOp.addi (IntOp.remsi .vector (BitVec.ofNat 32 r.val) (Scalar.select (Scalar.cmpi .eq 128#32 0#32) 1#32 128#32))
        (Scalar.select (Scalar.cmpi .eq 128#32 0#32) 1#32 128#32))
      (IntOp.remsi .vector (BitVec.ofNat 32 r.val) (Scalar.select (Scalar.cmpi .eq 128#32 0#32) 1#32 128#32))
      = BitVec.ofNat 32 (r.val % 128) := by
  decide +kernel

theorem dist_word : ∀ (a : Fin 128) (c : Fin 384),
    IntOp.cmpi .sle (IntOp.absi (IntOp.subi (IntOp.subi (BitVec.ofNat 32 c.val) 128#32) (BitVec.ofNat 32 a.val))) 128#32
      = BitVec.ofBool (decide (a.val ≤ c.val ∧ c.val ≤ a.val + 256)) := by
  decide +kernel

/-- The window mask of the kernel: a word of 1 where the key is at most 128 away from the query. -/
theorem mask_apply (c : Fin 384) : k0_pay13 (ix2 r c) = BitVec.ofBool (decide (r.val % 128 ≤ c.val ∧ c.val ≤ r.val % 128 + 256)) := by
  pointwise [k0_pay13]
  rw [rem_word, ← dist_word ⟨r.val % 128, Nat.mod_lt _ (by decide)⟩ c]

/-- The edge mask of the first query block. -/
theorem edge_apply (c : Fin 384) : k0_pay16 j (ix2 r c) = Scalar.ori (Scalar.cmpi .sge (BitVec.ofNat 32 c.val) 128#32) (Scalar.cmpi .sgt j 0#32) := by
  pointwise [k0_pay16]
  rfl

theorem ge_word : ∀ c : Fin 384, Scalar.cmpi .sge (BitVec.ofNat 32 c.val) 128#32 = BitVec.ofBool (decide (128 ≤ c.val)) := by decide +kernel
theorem lt_word : ∀ c : Fin 384, Scalar.cmpi .slt (BitVec.ofNat 32 c.val) 256#32 = BitVec.ofBool (decide (c.val < 256)) := by decide +kernel
theorem pos_word : ∀ j : Fin 16, Scalar.cmpi .sgt (BitVec.ofNat 32 j.val) 0#32 = BitVec.ofBool (decide (0 < j.val)) := by decide +kernel
theorem last_word : ∀ j : Fin 16, Scalar.cmpi .slt (BitVec.ofNat 32 j.val) 15#32 = BitVec.ofBool (decide (j.val < 15)) := by decide +kernel

theorem and_ofBool (a b : Bool) : Scalar.andi (BitVec.ofBool a) (BitVec.ofBool b) = BitVec.ofBool (a && b) := by
  revert a b; decide
theorem or_ofBool (a b : Bool) : Scalar.ori (BitVec.ofBool a) (BitVec.ofBool b) = BitVec.ofBool (a || b) := by
  revert a b; decide

/-- Key `c` of the band of query `a` of query block `n` of the grid's step `j` is at most 128 away from the query, and is
    a key of the sequence. -/
def allowed (n j a c : ℕ) : Bool := decide ((a ≤ c ∧ c ≤ a + 256) ∧ 128 ≤ (4 * j + n) * 128 + c ∧ (4 * j + n) * 128 + c < 8320)

theorem allowed0 (j : Fin 16) (c : Fin 384) :
    Scalar.andi (k0_pay13 (ix2 r c)) (k0_pay16 (BitVec.ofNat 32 j.val) (ix2 r c)) = BitVec.ofBool (allowed 0 j.val (r.val % 128) c.val) := by
  rw [mask_apply, edge_apply, ge_word, pos_word, or_ofBool, and_ofBool]
  congr 1
  have := j.isLt
  have := c.isLt
  rw [Bool.eq_iff_iff]
  simp only [allowed, Bool.and_eq_true, Bool.or_eq_true, decide_eq_true_eq]
  omega

theorem allowed_mid (n : ℕ) (hn : n = 1 ∨ n = 2) (j : Fin 16) (c : Fin 384) :
    k0_pay13 (ix2 r c) = BitVec.ofBool (allowed n j.val (r.val % 128) c.val) := by
  rw [mask_apply]
  congr 1
  have := j.isLt
  have := c.isLt
  rw [Bool.eq_iff_iff]
  simp only [allowed, decide_eq_true_eq]
  rcases hn with rfl | rfl <;> omega

theorem allowed3 (j : Fin 16) (c : Fin 384) :
    Scalar.andi (k0_pay13 (ix2 r c)) (Scalar.ori (Scalar.cmpi .slt (BitVec.ofNat 32 c.val) 256#32) (Scalar.cmpi .slt (BitVec.ofNat 32 j.val) 15#32))
      = BitVec.ofBool (allowed 3 j.val (r.val % 128) c.val) := by
  rw [mask_apply, lt_word, last_word, or_ofBool, and_ofBool]
  congr 1
  have := j.isLt
  have := c.isLt
  rw [Bool.eq_iff_iff]
  simp only [allowed, Bool.and_eq_true, Bool.or_eq_true, decide_eq_true_eq]
  omega

end Cert.KernelIdeal.Att

end
-- ==== Proof.SwaBlock.lean ====
/- What one grid point of the attention kernel leaves in its block of the result: row by row, the row formula. -/
module

public import proofs.«01_k».proof.Proof.SwaRow
public import Idealize.ShloMosaic.Lib.Pipeline.Value
public import Idealize.ShloMosaic.Lib.Pipeline.ValueKit.Point

@[expose] public section

set_option maxRecDepth 16384

noncomputable section

open Idealize.ShloMosaic Idealize.ShloMosaic.TcCoe Idealize.SL.Sem

namespace Cert.KernelIdeal.Att

open Cert.KernelIdeal Cert.KernelIdeal.Gen Layer

theorem hz3 : (![0, 0, 0] : Fin 3 → Nat) = fun _ => 0 := funext fun a => by fin_cases a <;> rfl

variable (x0 : Vec Ideal S4x4 .f32) (x1 : Vec Ideal S1x512x512 .bf16) (x2 : Vec Ideal S1x128x128 .bf16) (x3 : Vec Ideal S1x512x128 .bf16) (x4 : Vec Ideal S1x128x128 .bf16) (x5 : Vec Ideal S1x128x128 .bf16) (x6 : Vec Ideal S1x512x128 .bf16) (x7 : Vec Ideal S1x128x128 .bf16) (x8 : Vec Ideal S1x256x128 .bf16) (x9 : Vec Ideal S1x256x128 .bf16)
  (i1 : Fin 4) (i2 : Fin 16)

/-- The queries of query block `n`. -/
def qBlock (n : ℕ) (hn : n < 4) : Vec Ideal S1x128x512 .bf16 :=
  View.ld x1 (Rect.unit (s := S1x512x512) ![0, n * 128, 0] S1x128x512.size fun a => by
    match a with
    | ⟨0, _⟩ => exact (by decide : 0 + 1 ≤ 1)
    | ⟨1, _⟩ => show n * 128 + 128 ≤ 512; omega
    | ⟨2, _⟩ => exact (by decide : 0 + 512 ≤ 512))

theorem qBlock_apply (n : ℕ) (hn : n < 4) (a : Fin 128) (e : Fin 512) :
    qBlock x1 n hn (ix3 0 a e) = x1 (ix3 0 ⟨n * 128 + a.val, by omega⟩ e) := by
  unfold qBlock
  exact View.ld_unit_apply_of x1 _ _ _ _ (ix3 0 ⟨n * 128 + a.val, by omega⟩ e) fun d => match d with
    | ⟨0, _⟩ => rfl | ⟨1, _⟩ => rfl | ⟨2, _⟩ => (Nat.zero_add e.val).symm

/-- The row of query `a` of query block `n`, head `g` of the group, at feature `d`. -/
def pointRow (n : ℕ) (hn : n < 4) (g : Fin 4) (a d : Fin 128) : EReal :=
  blockRow n hn (fun c => BitVec.ofBool (allowed n i2.val a.val c.val)) (fun e => x1 (ix3 0 ⟨n * 128 + a.val, by omega⟩ ⟨g.val * 128 + e.val, by omega⟩))
    (k0_pay6 x2 x3 x4) (k0_pay7 x5 x6 x7) (k0_pay8 x8) (k0_pay9 x9) (x0 (ix2 i1 g)) d

/-- The block of the result, index by index. -/
def blockOf (y : S1x512x512.Idx) : EReal :=
  pointRow x0 x1 x2 x3 x4 x5 x6 x7 x8 x9 i1 i2 ((y 1).val / 128) (by have h : (y 1).val < 512 := (y 1).isLt; omega)
    ⟨(y 2).val / 128, by have h : (y 2).val < 512 := (y 2).isLt; omega⟩ ⟨(y 1).val % 128, Nat.mod_lt _ (by decide)⟩ ⟨(y 2).val % 128, Nat.mod_lt _ (by decide)⟩

/-- Row `a` of head `g`, among the 512 rows of the four heads. -/
def stacked (g : Fin 4) (a : Fin 128) : Fin 512 := ⟨g.val * 128 + a.val, by omega⟩

/-- The four sinks of a group, one under the other. -/
abbrev sinkCol (s : Fin 4 → EReal) : FVec Ideal S512x1 .f32 := k0_pay12 (F := Ideal) (k0_pay10 (s 0)) (k0_pay11 (s 1)) (s 2) (s 3)

theorem sinkCol_apply (s : Fin 4 → EReal) (g : Fin 4) (a : Fin 128) : sinkCol s (ix2 (stacked g a) 0) = s g := by
  unfold sinkCol stacked
  pointwise [k0_pay12, k0_pay10, k0_pay11]
  have hg := g.isLt
  split_ifs <;> refine congrArg s (Fin.ext ?_)
  · show 0 = g.val; omega
  · show 1 = g.val; omega
  · show 2 = g.val; omega
  · show 3 = g.val; omega

/-- The queries of the four heads, one under the other. -/
theorem queries_apply (Q : Vec Ideal S1x128x512 .bf16) (g : Fin 4) (a e : Fin 128) :
    k0_pay14 (F := Ideal) Q (ix2 (stacked g a) e) = Q (ix3 0 a ⟨g.val * 128 + e.val, by omega⟩) := by
  pointwise [k0_pay14, stacked]
  have hg := g.isLt
  split_ifs <;> refine congrArg Q (congrArg₂ (ix3 0) (Fin.ext ?_) (Fin.ext ?_)) <;> dsimp only <;> omega

/-- The rows of the four query blocks are the row formula. -/
theorem rows0 (s : Fin 4 → EReal) (hs : ∀ g, s g = x0 (ix2 i1 g)) (g : Fin 4) (a d : Fin 128) :
    k0_pay17 (F := Ideal) (k0_pay7 x5 x6 x7) (k0_pay8 x8) (k0_pay9 x9) (sinkCol s) k0_pay13 (k0_pay14 (qBlock x1 0 (by decide)))
        (k0_pay15 (k0_pay6 x2 x3 x4) (qBlock x1 0 (by decide))) (k0_pay16 (BitVec.ofNat 32 i2.val)) (ix2 (stacked g a) d)
      = pointRow x0 x1 x2 x3 x4 x5 x6 x7 x8 x9 i1 i2 0 (by decide) g a d := by
  have ha : (stacked g a).val % 128 = a.val := by show (g.val * 128 + a.val) % 128 = _; omega
  rw [row0, sinkCol_apply, hs]
  simp only [allowed0, ha, queries_apply, qBlock_apply]
  rfl

theorem rows1 (s : Fin 4 → EReal) (hs : ∀ g, s g = x0 (ix2 i1 g)) (g : Fin 4) (a d : Fin 128) :
    k0_pay29 (F := Ideal) (sinkCol s)
        (k0_pay26 (k0_pay6 x2 x3 x4) (k0_pay8 x8) (sinkCol s) k0_pay13 (qBlock x1 1 (by decide)))
        (k0_pay27 (k0_pay6 x2 x3 x4) (k0_pay7 x5 x6 x7) (k0_pay8 x8) (sinkCol s) k0_pay13 (qBlock x1 1 (by decide)))
        (k0_pay28 (k0_pay6 x2 x3 x4) (k0_pay8 x8) (k0_pay9 x9) (sinkCol s) k0_pay13 (qBlock x1 1 (by decide))) (ix2 (stacked g a) d)
      = pointRow x0 x1 x2 x3 x4 x5 x6 x7 x8 x9 i1 i2 1 (by decide) g a d := by
  have ha : (stacked g a).val % 128 = a.val := by show (g.val * 128 + a.val) % 128 = _; omega
  rw [row1, sinkCol_apply, hs]
  simp only [allowed_mid _ 1 (.inl rfl) i2, ha, show k0_pay23 (F := Ideal) = k0_pay14 from rfl, queries_apply, qBlock_apply]
  rfl

theorem rows2 (s : Fin 4 → EReal) (hs : ∀ g, s g = x0 (ix2 i1 g)) (g : Fin 4) (a d : Fin 128) :
    k0_pay36 (F := Ideal) (k0_pay7 x5 x6 x7) (k0_pay8 x8) (k0_pay9 x9) (sinkCol s) (k0_pay34 (qBlock x1 2 (by decide)))
        (k0_pay35 (k0_pay6 x2 x3 x4) k0_pay13 (qBlock x1 2 (by decide))) (ix2 (stacked g a) d)
      = pointRow x0 x1 x2 x3 x4 x5 x6 x7 x8 x9 i1 i2 2 (by decide) g a d := by
  have ha : (stacked g a).val % 128 = a.val := by show (g.val * 128 + a.val) % 128 = _; omega
  rw [row2, sinkCol_apply, hs]
  simp only [allowed_mid _ 2 (.inr rfl) i2, ha, show k0_pay34 (F := Ideal) = k0_pay14 from rfl, queries_apply, qBlock_apply]
  rfl

theorem rows3 (s : Fin 4 → EReal) (hs : ∀ g, s g = x0 (ix2 i1 g)) (g : Fin 4) (a d : Fin 128) :
    k0_pay1 (F := Ideal) (k0_pay9 x9) (sinkCol s)
        (k0_pay45 (BitVec.ofNat 32 i2.val) (k0_pay6 x2 x3 x4) (k0_pay8 x8) (sinkCol s) lanes k0_pay13 (qBlock x1 3 (by decide)))
        (k0_pay46 (BitVec.ofNat 32 i2.val) (k0_pay6 x2 x3 x4) (k0_pay8 x8) (sinkCol s) lanes k0_pay13 (qBlock x1 3 (by decide)))
        (k0_pay47 (BitVec.ofNat 32 i2.val) (k0_pay6 x2 x3 x4) (k0_pay8 x8) (sinkCol s) lanes k0_pay13 (qBlock x1 3 (by decide)))
        (k0_pay48 (k0_pay7 x5 x6 x7)) (constant S512x256 .f32 0x00000000#32) (ix2 (stacked g a) d)
      = pointRow x0 x1 x2 x3 x4 x5 x6 x7 x8 x9 i1 i2 3 (by decide) g a d := by
  have ha : (stacked g a).val % 128 = a.val := by show (g.val * 128 + a.val) % 128 = _; omega
  rw [row3, sinkCol_apply, hs]
  simp only [allowed3, ha, show k0_pay42 (F := Ideal) = k0_pay14 from rfl, queries_apply, qBlock_apply]
  rfl

/-- The rows of head `g` as they are stored: a slice of the four heads' rows. -/
abbrev storedPiece (off : Fin 2 → ℕ) (h : S512x128.Slices off S128x128) (o : FVec Ideal S512x128 .f32) : FVec Ideal S1x128x128 .bf16 :=
  shapeCast S1x128x128 (truncf .bf16 (extractStridedSlice S128x128 off o h) bitsLt_bf16_f32) shapeCasts_S128x128_S1x128x128

theorem stored0 (o : FVec Ideal S512x128 .f32) (a d : Fin 128) :
    storedPiece ![0, 0] slices_S512x128_o0_0_S128x128 o (ix3 0 a d) = o (ix2 (stacked 0 a) d) := by
  pointwise [stacked]
theorem stored1 (o : FVec Ideal S512x128 .f32) (a d : Fin 128) :
    storedPiece ![128, 0] slices_S512x128_o128_0_S128x128 o (ix3 0 a d) = o (ix2 (stacked 1 a) d) := by
  pointwise [stacked]
theorem stored2 (o : FVec Ideal S512x128 .f32) (a d : Fin 128) :
    storedPiece ![256, 0] slices_S512x128_o256_0_S128x128 o (ix3 0 a d) = o (ix2 (stacked 2 a) d) := by
  pointwise [stacked]
theorem stored3 (o : FVec Ideal S512x128 .f32) (a d : Fin 128) :
    storedPiece ![384, 0] slices_S512x128_o384_0_S128x128 o (ix3 0 a d) = o (ix2 (stacked 3 a) d) := by
  pointwise [stacked]

/-- A piece stored for query block `n` and head `g`, from rows that are the row formula. -/
theorem piece (n : ℕ) (hn : n < 4) (g : Fin 4) (o : FVec Ideal S512x128 .f32) (w : S1x128x128.Idx → EReal) (inb : ∀ a, (![0, n * 128, g.val * 128] : Fin 3 → ℕ) a + S1x128x128.size a ≤ S1x512x512.size a)
    (hw : ∀ a d : Fin 128, w (ix3 0 a d) = o (ix2 (stacked g a) d))
    (ho : ∀ a d : Fin 128, o (ix2 (stacked g a) d) = pointRow x0 x1 x2 x3 x4 x5 x6 x7 x8 x9 i1 i2 n hn g a d) (x : S1x128x128.Idx) :
    w x = blockOf x0 x1 x2 x3 x4 x5 x6 x7 x8 x9 i1 i2 ((Rect.unit (s := S1x512x512) ![0, n * 128, g.val * 128] S1x128x128.size inb).emb x) := by
  obtain ⟨z, a, d, rfl⟩ : ∃ (z : Fin 1) (a d : Fin 128), x = ix3 z a d := ⟨x 0, x 1, x 2, by funext k; fin_cases k <;> rfl⟩
  obtain rfl : z = 0 := Subsingleton.elim _ _
  rw [hw, ho]
  unfold blockOf
  have h1 : (((Rect.unit (s := S1x512x512) ![0, n * 128, g.val * 128] S1x128x128.size inb).emb (ix3 0 a d)) 1).val = n * 128 + a.val := by
    show n * 128 + 1 * a.val = _; omega
  have h2 : (((Rect.unit (s := S1x512x512) ![0, n * 128, g.val * 128] S1x128x128.size inb).emb (ix3 0 a d)) 2).val = g.val * 128 + d.val := by
    show g.val * 128 + 1 * d.val = _; omega
  congr 1
  · rw [h1]; omega
  · exact Fin.ext (by show g.val = _ / 128; rw [h2]; omega)
  · exact Fin.ext (by show a.val = _ % 128; rw [h1]; omega)
  · exact Fin.ext (by show d.val = _ % 128; rw [h2]; omega)

theorem row_word : ∀ k : Fin 4, BitVec.toNat (Scalar.indexCast (BitVec.ofNat 32 k.val)) = k.val := by decide

/-- The sinks a point reads. -/
def sinks (i : grid0.Coords) (g : Fin 4) : EReal :=
  match g with
  | 0 => View.ld x0 (Rect.unit (s := S4x4) (k0_off1 i) S1x1.size (k0_off1_inb i)) (Shape.Idx.first (numel1_S1x1.ge))
  | 1 => View.ld x0 (Rect.unit (s := S4x4) (k0_off2 i) S1x1.size (k0_off2_inb i)) (Shape.Idx.first (numel1_S1x1.ge))
  | 2 => View.ld x0 (Rect.unit (s := S4x4) (k0_off3 i) S1x1.size (k0_off3_inb i)) (Shape.Idx.first (numel1_S1x1.ge))
  | 3 => View.ld x0 (Rect.unit (s := S4x4) (k0_off4 i) S1x1.size (k0_off4_inb i)) (Shape.Idx.first (numel1_S1x1.ge))

theorem sinks_apply (i : grid0.Coords) (g : Fin 4) : sinks x0 i g = x0 (ix2 (i 1) g) := by
  have hw := row_word (i 1)
  fin_cases g
  · exact View.ld_unit_apply_of x0 _ _ _ _ (ix2 (i 1) 0) fun d => match d with | ⟨0, _⟩ => hw.symm | ⟨1, _⟩ => rfl
  · exact View.ld_unit_apply_of x0 _ _ _ _ (ix2 (i 1) 1) fun d => match d with | ⟨0, _⟩ => hw.symm | ⟨1, _⟩ => rfl
  · exact View.ld_unit_apply_of x0 _ _ _ _ (ix2 (i 1) 2) fun d => match d with | ⟨0, _⟩ => hw.symm | ⟨1, _⟩ => rfl
  · exact View.ld_unit_apply_of x0 _ _ _ _ (ix2 (i 1) 3) fun d => match d with | ⟨0, _⟩ => hw.symm | ⟨1, _⟩ => rfl

section
variable (c : Dev nD) (i : grid0.Coords) (arg3 : Memref sig .tc .smem S4x4 .f32) (harg3 : arg3.IsWhole) (arg4 : Memref sig .tc .vmem S1x512x512 .bf16) (harg4 : arg4.IsWhole) (arg5 : Memref sig .tc .vmem S1x128x128 .bf16) (harg5 : arg5.IsWhole) (arg6 : Memref sig .tc .vmem S1x512x128 .bf16) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x512x128 .bf16) (harg9 : arg9.IsWhole) (arg10 : Memref sig .tc .vmem S1x128x128 .bf16) (harg10 : arg10.IsWhole) (arg11 : Memref sig .tc .vmem S1x256x128 .bf16) (harg11 : arg11.IsWhole) (arg12 : Memref sig .tc .vmem S1x256x128 .bf16) (harg12 : arg12.IsWhole) (arg13 : Memref sig .tc .vmem S1x512x512 .bf16) (harg13 : arg13.IsWhole)

/-- What the point leaves in its block of the result. -/
theorem out_apply (y : S1x512x512.Idx) : out0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9 y
    = blockOf x0 x1 x2 x3 x4 x5 x6 x7 x8 x9 (i 1) (i 2) y := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  simp only [View.readAt_eq_ld, harg3.read_unread, harg4.read_unread, harg5.read_unread, harg6.read_unread, harg7.read_unread, harg8.read_unread,
    harg9.read_unread, harg10.read_unread, harg11.read_unread, harg12.read_unread, View.ld_unit_zero (S := S1x128x128) hz3,
    View.ld_unit_zero (S := S1x512x128) hz3, View.ld_unit_zero (S := S1x256x128) hz3]
  refine View.canon_apply_of_pieces _ _ ?_ y (View.cover_of_tiled_head _ _ _ rfl y)
  intro p hp x
  simp only [List.mem_cons, List.not_mem_nil, or_false] at hp
  rcases hp with rfl | rfl | rfl | rfl | rfl | rfl | rfl | rfl | rfl | rfl | rfl | rfl | rfl | rfl | rfl | rfl
  · exact piece x0 x1 x2 x3 x4 x5 x6 x7 x8 x9 (i 1) (i 2) 3 (by decide) 3 _ _ inb_S1x512x512_S1x128x128_0_384_384 (fun a d => stored3 _ a d) (rows3 x0 x1 x2 x3 x4 x5 x6 x7 x8 x9 (i 1) (i 2) (sinks x0 i) (sinks_apply x0 i) 3) x
  · exact piece x0 x1 x2 x3 x4 x5 x6 x7 x8 x9 (i 1) (i 2) 3 (by decide) 2 _ _ inb_S1x512x512_S1x128x128_0_384_256 (fun a d => stored2 _ a d) (rows3 x0 x1 x2 x3 x4 x5 x6 x7 x8 x9 (i 1) (i 2) (sinks x0 i) (sinks_apply x0 i) 2) x
  · exact piece x0 x1 x2 x3 x4 x5 x6 x7 x8 x9 (i 1) (i 2) 3 (by decide) 1 _ _ inb_S1x512x512_S1x128x128_0_384_128 (fun a d => stored1 _ a d) (rows3 x0 x1 x2 x3 x4 x5 x6 x7 x8 x9 (i 1) (i 2) (sinks x0 i) (sinks_apply x0 i) 1) x
  · exact piece x0 x1 x2 x3 x4 x5 x6 x7 x8 x9 (i 1) (i 2) 3 (by decide) 0 _ _ inb_S1x512x512_S1x128x128_0_384_0 (fun a d => stored0 _ a d) (rows3 x0 x1 x2 x3 x4 x5 x6 x7 x8 x9 (i 1) (i 2) (sinks x0 i) (sinks_apply x0 i) 0) x
  · exact piece x0 x1 x2 x3 x4 x5 x6 x7 x8 x9 (i 1) (i 2) 2 (by decide) 3 _ _ inb_S1x512x512_S1x128x128_0_256_384 (fun a d => stored3 _ a d) (rows2 x0 x1 x2 x3 x4 x5 x6 x7 x8 x9 (i 1) (i 2) (sinks x0 i) (sinks_apply x0 i) 3) x
  · exact piece x0 x1 x2 x3 x4 x5 x6 x7 x8 x9 (i 1) (i 2) 2 (by decide) 2 _ _ inb_S1x512x512_S1x128x128_0_256_256 (fun a d => stored2 _ a d) (rows2 x0 x1 x2 x3 x4 x5 x6 x7 x8 x9 (i 1) (i 2) (sinks x0 i) (sinks_apply x0 i) 2) x
  · exact piece x0 x1 x2 x3 x4 x5 x6 x7 x8 x9 (i 1) (i 2) 2 (by decide) 1 _ _ inb_S1x512x512_S1x128x128_0_256_128 (fun a d => stored1 _ a d) (rows2 x0 x1 x2 x3 x4 x5 x6 x7 x8 x9 (i 1) (i 2) (sinks x0 i) (sinks_apply x0 i) 1) x
  · exact piece x0 x1 x2 x3 x4 x5 x6 x7 x8 x9 (i 1) (i 2) 2 (by decide) 0 _ _ inb_S1x512x512_S1x128x128_0_256_0 (fun a d => stored0 _ a d) (rows2 x0 x1 x2 x3 x4 x5 x6 x7 x8 x9 (i 1) (i 2) (sinks x0 i) (sinks_apply x0 i) 0) x
  · exact piece x0 x1 x2 x3 x4 x5 x6 x7 x8 x9 (i 1) (i 2) 1 (by decide) 3 _ _ inb_S1x512x512_S1x128x128_0_128_384 (fun a d => stored3 _ a d) (rows1 x0 x1 x2 x3 x4 x5 x6 x7 x8 x9 (i 1) (i 2) (sinks x0 i) (sinks_apply x0 i) 3) x
  · exact piece x0 x1 x2 x3 x4 x5 x6 x7 x8 x9 (i 1) (i 2) 1 (by decide) 2 _ _ inb_S1x512x512_S1x128x128_0_128_256 (fun a d => stored2 _ a d) (rows1 x0 x1 x2 x3 x4 x5 x6 x7 x8 x9 (i 1) (i 2) (sinks x0 i) (sinks_apply x0 i) 2) x
  · exact piece x0 x1 x2 x3 x4 x5 x6 x7 x8 x9 (i 1) (i 2) 1 (by decide) 1 _ _ inb_S1x512x512_S1x128x128_0_128_128 (fun a d => stored1 _ a d) (rows1 x0 x1 x2 x3 x4 x5 x6 x7 x8 x9 (i 1) (i 2) (sinks x0 i) (sinks_apply x0 i) 1) x
  · exact piece x0 x1 x2 x3 x4 x5 x6 x7 x8 x9 (i 1) (i 2) 1 (by decide) 0 _ _ inb_S1x512x512_S1x128x128_0_128_0 (fun a d => stored0 _ a d) (rows1 x0 x1 x2 x3 x4 x5 x6 x7 x8 x9 (i 1) (i 2) (sinks x0 i) (sinks_apply x0 i) 0) x
  · exact piece x0 x1 x2 x3 x4 x5 x6 x7 x8 x9 (i 1) (i 2) 0 (by decide) 3 _ _ inb_S1x512x512_S1x128x128_0_0_384 (fun a d => stored3 _ a d) (rows0 x0 x1 x2 x3 x4 x5 x6 x7 x8 x9 (i 1) (i 2) (sinks x0 i) (sinks_apply x0 i) 3) x
  · exact piece x0 x1 x2 x3 x4 x5 x6 x7 x8 x9 (i 1) (i 2) 0 (by decide) 2 _ _ inb_S1x512x512_S1x128x128_0_0_256 (fun a d => stored2 _ a d) (rows0 x0 x1 x2 x3 x4 x5 x6 x7 x8 x9 (i 1) (i 2) (sinks x0 i) (sinks_apply x0 i) 2) x
  · exact piece x0 x1 x2 x3 x4 x5 x6 x7 x8 x9 (i 1) (i 2) 0 (by decide) 1 _ _ inb_S1x512x512_S1x128x128_0_0_128 (fun a d => stored1 _ a d) (rows0 x0 x1 x2 x3 x4 x5 x6 x7 x8 x9 (i 1) (i 2) (sinks x0 i) (sinks_apply x0 i) 1) x
  · exact piece x0 x1 x2 x3 x4 x5 x6 x7 x8 x9 (i 1) (i 2) 0 (by decide) 0 _ _ inb_S1x512x512_S1x128x128_0_0_0 (fun a d => stored0 _ a d) (rows0 x0 x1 x2 x3 x4 x5 x6 x7 x8 x9 (i 1) (i 2) (sinks x0 i) (sinks_apply x0 i) 0) x
end

end Cert.KernelIdeal.Att

end
-- ==== Proof.SwaMath.lean ====
/-
  The window: the row formula over the band of 384 keys is the softmax over all the keys.

  The keys off the window have the score −∞, so their weight is 0 and they do not change the greatest score; the keys
  of the window are the same on both sides. With a finite greatest score the sum of the weights is a positive number,
  and dividing the weighted sum by it is summing the divided weights.
-/
module

public import proofs.«01_k».proof.Proof.AttMath

@[expose] public section

noncomputable section

open Idealize.ShloMosaic

namespace Layer

/-- The columns of head `g` of group `kv`, and of the group's keys and values. -/
def qcol (kv g : Fin 4) (e : Fin 128) : Fin 3072 := ⟨kv.val * 512 + g.val * 128 + e.val, by omega⟩
def kcol (kv : Fin 4) (e : Fin 128) : Fin 3072 := ⟨2048 + (kv.val * 128 + e.val), by omega⟩
def vvcol (kv : Fin 4) (e : Fin 128) : Fin 3072 := ⟨2560 + (kv.val * 128 + e.val), by omega⟩

/-- The greatest score of a row. -/
def topScore (F : Fin 8192 → EReal) (sc : Fin 256 → EReal) (snk : EReal) : EReal :=
  max (max (Finset.univ.sup F) (Finset.univ.sup sc)) snk

/-- The sum of a row's weights. -/
def softSum (m : EReal) (F : Fin 8192 → EReal) (sc : Fin 256 → EReal) (snk : EReal) : EReal :=
  ((∑ s, Ideal.exp (F s - m)) + ∑ l, Ideal.exp (sc l - m)) + Ideal.exp (snk - m)

/-- The softmax of a row, applied to the values. -/
def softRow (F : Fin 8192 → EReal) (sc : Fin 256 → EReal) (snk : EReal) (v : Fin 8192 → EReal) (vx : Fin 256 → EReal) : EReal :=
  (∑ s, v s * Ideal.div (Ideal.exp (F s - topScore F sc snk)) (softSum (topScore F sc snk) F sc snk))
    + ∑ l, vx l * Ideal.div (Ideal.exp (sc l - topScore F sc snk)) (softSum (topScore F sc snk) F sc snk)

/-- Positions at most 128 apart. -/
def near (t s : ℕ) : Prop := t ≤ s + 128 ∧ s ≤ t + 128

/-- The scores `sl` of the band of the block of 128 rows beginning at `base` are the windowed scores `F` of row `t`. -/
structure Band (t base : ℕ) (sl : Fin 384 → EReal) (F : Fin 8192 → EReal) : Prop where
  lo : base ≤ t
  hi : t < base + 128
  at_key : ∀ (c : Fin 384) (s : Fin 8192), s.val + 128 = base + c.val → near t s.val → sl c = F s
  off : ∀ c : Fin 384, (∀ s : Fin 8192, s.val + 128 = base + c.val → ¬ near t s.val) → sl c = ⊥
  far : ∀ s : Fin 8192, ¬ near t s.val → F s = ⊥

theorem exp_bot_sub (m : EReal) : Ideal.exp (⊥ - m) = 0 := by
  rw [EReal.bot_sub]; rfl

/-- The key of a row of the window, in the band. -/
theorem Band.exists_key {t base : ℕ} {sl : Fin 384 → EReal} {F : Fin 8192 → EReal} (h : Band t base sl F) (s : Fin 8192) (hs : near t s.val) :
    ∃ c : Fin 384, s.val + 128 = base + c.val := by
  have := h.lo; have := h.hi
  unfold near at hs
  exact ⟨⟨s.val + 128 - base, by omega⟩, by show _ = base + (s.val + 128 - base); omega⟩

theorem Band.on {t base : ℕ} {sl : Fin 384 → EReal} {F : Fin 8192 → EReal} (h : Band t base sl F) (c : Fin 384) (hc : sl c ≠ ⊥) :
    ∃ s : Fin 8192, s.val + 128 = base + c.val ∧ near t s.val := by
  by_contra hn
  exact hc (h.off c fun s e hs => hn ⟨s, e, hs⟩)

/-- Weighted sums over the band are weighted sums over all the keys. -/
theorem Band.sum {t base : ℕ} {sl : Fin 384 → EReal} {F : Fin 8192 → EReal} (h : Band t base sl F) (m : EReal)
    (vk : Fin 384 → EReal) (v : Fin 8192 → EReal)
    (hv : ∀ (c : Fin 384) (s : Fin 8192), s.val + 128 = base + c.val → near t s.val → vk c = v s) :
    ∑ c, Ideal.exp (sl c - m) * vk c = ∑ s, Ideal.exp (F s - m) * v s := by
  have hon : ∀ c : Fin 384, Ideal.exp (sl c - m) * vk c ≠ 0 → ∃ s : Fin 8192, s.val + 128 = base + c.val ∧ near t s.val := by
    intro c hc
    refine h.on c fun e => hc ?_
    rw [e, exp_bot_sub, zero_mul]
  refine Finset.sum_bij_ne_zero (fun c _ hc => (hon c hc).choose) (fun _ _ _ => Finset.mem_univ _) ?_ ?_ ?_
  · intro c _ hc c' _ hc' e
    have h1 := (hon c hc).choose_spec.1
    have h2 := (hon c' hc').choose_spec.1
    rw [e] at h1
    exact Fin.ext (by omega)
  · intro s _ hs
    have hn : near t s.val := by
      by_contra hn
      exact hs (by rw [h.far s hn, exp_bot_sub, zero_mul])
    obtain ⟨c, hc⟩ := h.exists_key s hn
    have hne : Ideal.exp (sl c - m) * vk c ≠ 0 := by rw [h.at_key c s hc hn, hv c s hc hn]; exact hs
    refine ⟨c, Finset.mem_univ _, hne, ?_⟩
    have h1 := (hon c hne).choose_spec.1
    exact Fin.ext (by omega)
  · intro c _ hc
    have hs := (hon c hc).choose_spec
    rw [h.at_key c _ hs.1 hs.2, hv c _ hs.1 hs.2]

theorem Band.le {t base : ℕ} {sl : Fin 384 → EReal} {F : Fin 8192 → EReal} (h : Band t base sl F) {z : EReal} (hz : ∀ s, F s ≤ z) (c : Fin 384) : sl c ≤ z := by
  by_cases hb : sl c = ⊥
  · exact hb.le.trans bot_le
  · obtain ⟨s, e, hs⟩ := h.on c hb
    rw [h.at_key c s e hs]
    exact hz s

theorem negInf_eq : Ideal.ofBits FTy.f32 4286578688#32 = ⊥ := by
  simp [Ideal.ofBits, Ideal.ieee]

/-- The band's greatest score is the greatest of all. -/
theorem Band.max {t base : ℕ} {sl : Fin 384 → EReal} {F : Fin 8192 → EReal} (h : Band t base sl F) (sc : Fin 256 → EReal) (snk : EReal) :
    bandMax sl sc snk = topScore F sc snk := by
  refine eq_of_forall_ge_iff fun z => ?_
  unfold bandMax topScore
  rw [negInf_eq]
  simp only [max_le_iff, Finset.fold_max_le, Finset.sup_le_iff, Finset.mem_univ, true_implies, bot_le, true_and]
  refine and_congr_left fun _ => ⟨fun hx => ⟨fun s => ?_, fun l => ?_⟩, fun hx x => ⟨⟨⟨⟨?_, ?_⟩, ?_⟩, hx.2 _⟩, hx.2 _⟩⟩
  · by_cases hn : near t s.val
    · obtain ⟨c, hc⟩ := h.exists_key s hn
      rw [← h.at_key c s hc hn]
      have hcl := c.isLt
      by_cases h1 : c.val < 128
      · exact (hx ⟨c.val, h1⟩).1.1.1.1
      · by_cases h2 : c.val < 256
        · have := (hx ⟨c.val - 128, by omega⟩).1.1.1.2
          rwa [show (⟨128 + (c.val - 128), by omega⟩ : Fin 384) = c from Fin.ext (by show 128 + (c.val - 128) = c.val; omega)] at this
        · have := (hx ⟨c.val - 256, by omega⟩).1.1.2
          rwa [show (⟨256 + (c.val - 256), by omega⟩ : Fin 384) = c from Fin.ext (by show 256 + (c.val - 256) = c.val; omega)] at this
    · rw [h.far s hn]; exact bot_le
  · have hl := l.isLt
    by_cases h1 : l.val < 128
    · exact (hx ⟨l.val, h1⟩).1.2
    · have := (hx ⟨l.val - 128, by omega⟩).2
      rwa [show (⟨128 + (l.val - 128), by omega⟩ : Fin 256) = l from Fin.ext (by show 128 + (l.val - 128) = l.val; omega)] at this
  all_goals exact h.le hx.1 _

/-! ## The division -/

/-- A weight of a finite row is a real number, at least 0. -/
theorem weight_real (x m : EReal) (hx : x ≠ ⊤) (hm : m ≠ ⊥) (hm' : m ≠ ⊤) : ∃ r : ℝ, 0 ≤ r ∧ Ideal.exp (x - m) = (r : EReal) := by
  lift m to ℝ using ⟨hm', hm⟩
  induction x using EReal.rec with
  | bot => exact ⟨0, le_refl _, by rw [exp_bot_sub]; rfl⟩
  | top => exact absurd rfl hx
  | coe x => exact ⟨Real.exp (x - m), (Real.exp_pos _).le, by rw [← EReal.coe_sub]; rfl⟩

theorem sum_weights {n : ℕ} (x : Fin n → EReal) (m : EReal) (hx : ∀ i, x i ≠ ⊤) (hm : m ≠ ⊥) (hm' : m ≠ ⊤) :
    ∃ r : ℝ, 0 ≤ r ∧ ∑ i, Ideal.exp (x i - m) = (r : EReal) := by
  choose r h0 hr using fun i => weight_real (x i) m (hx i) hm hm'
  refine ⟨∑ i, r i, Finset.sum_nonneg fun i _ => h0 i, ?_⟩
  simp only [hr]
  exact (map_sum (⟨⟨Real.toEReal, EReal.coe_zero⟩, EReal.coe_add⟩ : ℝ →+ EReal) _ _).symm

theorem sum_mul_real {n : ℕ} (x : Fin n → EReal) (r : ℝ) (hr : 0 ≤ r) : (∑ i, x i) * (r : EReal) = ∑ i, x i * (r : EReal) := by
  induction n with
  | zero => simp
  | succ n ih =>
    rw [Fin.sum_univ_succ, Fin.sum_univ_succ, EReal.right_distrib_of_nonneg_of_ne_top (EReal.coe_nonneg.mpr hr) (EReal.coe_ne_top r), ih]

theorem topScore_ne_bot (F : Fin 8192 → EReal) (sc : Fin 256 → EReal) (snk : EReal) (h : snk ≠ ⊥) : topScore F sc snk ≠ ⊥ := fun e =>
  h (le_bot_iff.mp (e ▸ le_max_right _ _))

theorem topScore_ne_top (F : Fin 8192 → EReal) (sc : Fin 256 → EReal) (snk : EReal) (hF : ∀ s, F s ≠ ⊤) (hc : ∀ l, sc l ≠ ⊤) (h : snk ≠ ⊤) :
    topScore F sc snk ≠ ⊤ := by
  unfold topScore
  refine ne_of_lt (max_lt (max_lt ?_ ?_) (lt_top_iff_ne_top.mpr h))
  · exact (Finset.sup_lt_iff bot_lt_top).mpr fun s _ => lt_top_iff_ne_top.mpr (hF s)
  · exact (Finset.sup_lt_iff bot_lt_top).mpr fun s _ => lt_top_iff_ne_top.mpr (hc s)

/-- The sum of the weights of a finite row is a positive real number. -/
theorem softSum_real (m : EReal) (F : Fin 8192 → EReal) (sc : Fin 256 → EReal) (snk : EReal) (hF : ∀ s, F s ≠ ⊤) (hc : ∀ l, sc l ≠ ⊤)
    (h : snk ≠ ⊤) (h' : snk ≠ ⊥) (hm : m ≠ ⊥) (hm' : m ≠ ⊤) : ∃ r : ℝ, 0 < r ∧ softSum m F sc snk = (r : EReal) := by
  obtain ⟨a, ha, ea⟩ := sum_weights F m hF hm hm'
  obtain ⟨b, hb, eb⟩ := sum_weights sc m hc hm hm'
  lift m to ℝ using ⟨hm', hm⟩
  lift snk to ℝ using ⟨h, h'⟩
  refine ⟨a + b + Real.exp (snk - m), by positivity, ?_⟩
  unfold softSum
  rw [ea, eb, ← EReal.coe_sub]
  rfl

/-- The kernel's row is the softmax's. -/
theorem attRow_eq_softRow {t base : ℕ} {sl : Fin 384 → EReal} {F : Fin 8192 → EReal} (h : Band t base sl F) (sc : Fin 256 → EReal) (snk : EReal)
    (hF : ∀ s, F s ≠ ⊤) (hc : ∀ l, sc l ≠ ⊤) (hs : snk ≠ ⊤) (hs' : snk ≠ ⊥)
    (vk w : Fin 384 → EReal) (v : Fin 8192 → EReal) (vx wx : Fin 256 → EReal)
    (hv : ∀ (c : Fin 384) (s : Fin 8192), s.val + 128 = base + c.val → near t s.val → vk c = v s) (hw : ∀ c, w c = 1) (hwx : ∀ l, wx l = 1) :
    attRow (bandMax sl sc snk) sl sc snk vk w vx wx = softRow F sc snk v vx := by
  have hm := topScore_ne_bot F sc snk hs'
  have hm' := topScore_ne_top F sc snk hF hc hs
  obtain ⟨z, hz, ez⟩ := softSum_real (topScore F sc snk) F sc snk hF hc hs hs' hm hm'
  unfold attRow softRow
  rw [h.max, h.sum _ vk v hv, h.sum _ w (fun _ => 1) (fun c _ _ _ => hw c)]
  simp only [hwx, mul_one]
  change Ideal.div _ (softSum (topScore F sc snk) F sc snk) = _
  rw [ez]
  simp only [Ideal.div_coe hz.ne']
  rw [EReal.right_distrib_of_nonneg_of_ne_top (EReal.coe_nonneg.mpr (one_div_pos.mpr hz).le) (EReal.coe_ne_top _),
    sum_mul_real _ _ (one_div_pos.mpr hz).le, sum_mul_real _ _ (one_div_pos.mpr hz).le]
  refine congrArg₂ _ (Finset.sum_congr rfl fun s _ => ?_) (Finset.sum_congr rfl fun l _ => ?_)
  · rw [mul_right_comm, mul_comm (v s)]
  · rw [mul_right_comm, mul_comm (vx l)]

/-! ## The scores laid end to end -/

/-- The scores of a row laid end to end: keys, context, sink. -/
def joined (F : Fin 8192 → EReal) (sc : Fin 256 → EReal) (snk : EReal) (i : Fin 8449) : EReal :=
  if h : i.val < 8192 then F ⟨i.val, h⟩ else if h' : i.val - 8192 < 256 then sc ⟨i.val - 8192, h'⟩ else snk

theorem joined_key (F : Fin 8192 → EReal) (sc : Fin 256 → EReal) (snk : EReal) (s : Fin 8192) : joined F sc snk ⟨s.val, by omega⟩ = F s := dif_pos s.isLt

theorem joined_ctx (F : Fin 8192 → EReal) (sc : Fin 256 → EReal) (snk : EReal) (l : Fin 256) : joined F sc snk ⟨8192 + l.val, by omega⟩ = sc l := by
  have hl := l.isLt
  unfold joined
  rw [dif_neg (by dsimp only; omega), dif_pos (by dsimp only; omega)]
  exact congrArg sc (Fin.ext (by show 8192 + l.val - 8192 = l.val; omega))

theorem joined_sink (F : Fin 8192 → EReal) (sc : Fin 256 → EReal) (snk : EReal) : joined F sc snk ⟨8448, by omega⟩ = snk := by
  unfold joined
  rw [dif_neg (by decide), dif_neg (by decide)]

theorem joined_max (F : Fin 8192 → EReal) (sc : Fin 256 → EReal) (snk : EReal) :
    Finset.univ.fold max ⊥ (joined F sc snk) = topScore F sc snk := by
  refine eq_of_forall_ge_iff fun z => ?_
  unfold topScore
  simp only [max_le_iff, Finset.fold_max_le, Finset.sup_le_iff, Finset.mem_univ, true_implies, bot_le, true_and]
  refine ⟨fun h => ⟨⟨fun s => (joined_key F sc snk s).symm.le.trans (h _), fun l => (joined_ctx F sc snk l).symm.le.trans (h _)⟩,
    (joined_sink F sc snk).symm.le.trans (h _)⟩, fun h i => ?_⟩
  unfold joined
  split_ifs
  · exact h.1.1 _
  · exact h.1.2 _
  · exact h.2

theorem sum_joined (f : EReal → EReal) (F : Fin 8192 → EReal) (sc : Fin 256 → EReal) (snk : EReal) :
    ∑ i, f (joined F sc snk i) = ((∑ s, f (F s)) + ∑ l, f (sc l)) + f snk := by
  have e : ∑ i : Fin 8449, f (joined F sc snk i) = ((∑ s : Fin 8192, f (joined F sc snk ⟨s.val, by omega⟩)) + ∑ l : Fin 256, f (joined F sc snk ⟨8192 + l.val, by omega⟩))
      + f (joined F sc snk ⟨8448, by omega⟩) :=
    (Fin.sum_univ_castSucc (n := 8448) fun i => f (joined F sc snk i)).trans
      (congrArg (· + f (joined F sc snk ⟨8448, by omega⟩)) (Fin.sum_univ_add (a := 8192) (b := 256) fun i => f (joined F sc snk ⟨i.val, by omega⟩)))
  rw [e]
  simp only [joined_key, joined_ctx, joined_sink]

/-- A sum of products of real numbers is not +∞. -/
theorem dot_ne_top {n : ℕ} (x y : Fin n → EReal) (hx : ∀ i, x i ≠ ⊤ ∧ x i ≠ ⊥) (hy : ∀ i, y i ≠ ⊤ ∧ y i ≠ ⊥) : ∑ i, x i * y i ≠ ⊤ := by
  choose p hp using fun i => (⟨(x i).toReal, (EReal.coe_toReal (hx i).1 (hx i).2).symm⟩ : ∃ r : ℝ, x i = r)
  choose q hq using fun i => (⟨(y i).toReal, (EReal.coe_toReal (hy i).1 (hy i).2).symm⟩ : ∃ r : ℝ, y i = r)
  have e : ∑ i, x i * y i = ((∑ i, p i * q i : ℝ) : EReal) := by
    simp only [hp, hq, ← EReal.coe_mul]
    exact (map_sum (⟨⟨Real.toEReal, EReal.coe_zero⟩, EReal.coe_add⟩ : ℝ →+ EReal) _ _).symm
  rw [e]
  exact EReal.coe_ne_top _

end Layer

end
-- ==== Proof.SwaArray.lean ====
/-
  What a grid point of the windowed attention reads of the arrays: the queries of 512 rows and one group of heads, the
  keys and values of 768 rows around them, the keys and values of the context, and the sinks.
-/
module

public import proofs.«01_k».proof.Proof.SwaBlock
public import proofs.«01_k».proof.Proof.SwaMath
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen Layer

variable (m : (ℓ : Loc nD τ sig) → Buf (Elt Ideal) ℓ)

/-- The argument arrays, as functions of their coordinates. -/
abbrev Snk (c : Dev nD) (h : Fin 16) : EReal := m ((c : Thread nD τ).loc main_arg0) (ix1 h)
abbrev X (c : Dev nD) (b : Fin 4) (s : Fin 8192) (k : Fin 3072) : EReal := m ((c : Thread nD τ).loc main_arg1) (ix3 b s k)
abbrev C (c : Dev nD) (b : Fin 4) (l : Fin 256) (k : Fin 3072) : EReal := m ((c : Thread nD τ).loc main_arg2) (ix3 b l k)

/-- The batch element, the group of heads and the step of point `t`. -/
def bOf (t : Fin cfg0.N) : Fin 4 := ⟨t.val / 64, by have h : t.val < 256 := lt_of_lt_of_eq t.isLt N_0; omega⟩
def kvOf (t : Fin cfg0.N) : Fin 4 := ⟨t.val / 16 % 4, Nat.mod_lt _ (by decide)⟩
def jOf (t : Fin cfg0.N) : Fin 16 := ⟨t.val % 16, Nat.mod_lt _ (by decide)⟩

theorem coords : ∀ t : Fin cfg0.N, (grid0.coords t 1 : Fin 4).val = t.val / 16 % 4 ∧ (grid0.coords t 2 : Fin 16).val = t.val % 16 :=
  (by decide +kernel : ∀ t : Fin grid0.N, _)

theorem idxQ : ∀ t : Fin cfg0.N, win0_1.index t (0 : Fin 3) = t.val / 64 ∧ win0_1.index t (1 : Fin 3) = t.val % 16 ∧ win0_1.index t (2 : Fin 3) = t.val / 16 % 4
    ∧ win0_10.index t (0 : Fin 3) = t.val / 64 ∧ win0_10.index t (1 : Fin 3) = t.val % 16 ∧ win0_10.index t (2 : Fin 3) = t.val / 16 % 4
    ∧ win0_0.index t (0 : Fin 2) = 0 ∧ win0_0.index t (1 : Fin 2) = 0 :=
  (by decide +kernel : ∀ t : Fin grid0.N, _)

theorem idxK : ∀ t : Fin cfg0.N, win0_2.index t (0 : Fin 3) = t.val / 64 ∧ win0_2.index t (1 : Fin 3) = 4 * (t.val % 16) - 1 ∧ win0_2.index t (2 : Fin 3) = 16 + t.val / 16 % 4
    ∧ win0_3.index t (0 : Fin 3) = t.val / 64 ∧ win0_3.index t (1 : Fin 3) = t.val % 16 ∧ win0_3.index t (2 : Fin 3) = 16 + t.val / 16 % 4
    ∧ win0_4.index t (0 : Fin 3) = t.val / 64 ∧ win0_4.index t (1 : Fin 3) = min 63 (4 * (t.val % 16) + 4) ∧ win0_4.index t (2 : Fin 3) = 16 + t.val / 16 % 4 :=
  (by decide +kernel : ∀ t : Fin grid0.N, _)

theorem idxV : ∀ t : Fin cfg0.N, win0_5.index t (0 : Fin 3) = t.val / 64 ∧ win0_5.index t (1 : Fin 3) = 4 * (t.val % 16) - 1 ∧ win0_5.index t (2 : Fin 3) = 20 + t.val / 16 % 4
    ∧ win0_6.index t (0 : Fin 3) = t.val / 64 ∧ win0_6.index t (1 : Fin 3) = t.val % 16 ∧ win0_6.index t (2 : Fin 3) = 20 + t.val / 16 % 4
    ∧ win0_7.index t (0 : Fin 3) = t.val / 64 ∧ win0_7.index t (1 : Fin 3) = min 63 (4 * (t.val % 16) + 4) ∧ win0_7.index t (2 : Fin 3) = 20 + t.val / 16 % 4 :=
  (by decide +kernel : ∀ t : Fin grid0.N, _)

theorem idxC : ∀ t : Fin cfg0.N, win0_8.index t (0 : Fin 3) = t.val / 64 ∧ win0_8.index t (1 : Fin 3) = 0 ∧ win0_8.index t (2 : Fin 3) = 16 + t.val / 16 % 4
    ∧ win0_9.index t (0 : Fin 3) = t.val / 64 ∧ win0_9.index t (1 : Fin 3) = 0 ∧ win0_9.index t (2 : Fin 3) = 20 + t.val / 16 % 4 :=
  (by decide +kernel : ∀ t : Fin grid0.N, _)

theorem q_apply (c : Dev nD) (t : Fin cfg0.N) (a : Fin 512) (g : Fin 4) (e : Fin 128) :
    (iblk m c 1 t : Vec Ideal S1x512x512 .bf16) (ix3 0 a ⟨g.val * 128 + e.val, by omega⟩)
      = X m c (bOf t) ⟨t.val % 16 * 512 + a.val, by omega⟩ (qcol (kvOf t) g e) := by
  obtain ⟨e0, e1, e2, -⟩ := idxQ t
  have h := V_main_arg1 m c
  unfold iblk X
  rw [← h]
  blk_ext! [bOf, kvOf, qcol, e0, e1, e2]
  all_goals omega

theorem sink_apply (c : Dev nD) (t : Fin cfg0.N) (i g : Fin 4) :
    (iblk m c 0 t : Vec Ideal S4x4 .f32) (ix2 i g) = Snk m c ⟨i.val * 4 + g.val, by omega⟩ := by
  obtain ⟨-, -, -, -, -, -, e0, e1⟩ := idxQ t
  blk_ext! [iblk, V, e0, e1]

theorem kPrev_apply (c : Dev nD) (t : Fin cfg0.N) (a : Fin 128) (e : Fin 128) (s : Fin 8192) (hs : s.val = (4 * (t.val % 16) - 1) * 128 + a.val) :
    (iblk m c 2 t : Vec Ideal S1x128x128 .bf16) (ix3 0 a e) = X m c (bOf t) s (kcol (kvOf t) e) := by
  obtain ⟨e0, e1, e2, -⟩ := idxK t
  have h := V_main_arg1 m c
  unfold iblk X
  rw [← h]
  blk_ext! [bOf, kvOf, kcol, e0, e1, e2]
  all_goals omega

theorem kCur_apply (c : Dev nD) (t : Fin cfg0.N) (a : Fin 512) (e : Fin 128) (s : Fin 8192) (hs : s.val = t.val % 16 * 512 + a.val) :
    (iblk m c 3 t : Vec Ideal S1x512x128 .bf16) (ix3 0 a e) = X m c (bOf t) s (kcol (kvOf t) e) := by
  obtain ⟨-, -, -, e0, e1, e2, -⟩ := idxK t
  have h := V_main_arg1 m c
  unfold iblk X
  rw [← h]
  blk_ext! [bOf, kvOf, kcol, e0, e1, e2]
  all_goals omega

theorem kNext_apply (c : Dev nD) (t : Fin cfg0.N) (a : Fin 128) (e : Fin 128) (s : Fin 8192) (hs : s.val = min 63 (4 * (t.val % 16) + 4) * 128 + a.val) :
    (iblk m c 4 t : Vec Ideal S1x128x128 .bf16) (ix3 0 a e) = X m c (bOf t) s (kcol (kvOf t) e) := by
  obtain ⟨-, -, -, -, -, -, e0, e1, e2⟩ := idxK t
  have h := V_main_arg1 m c
  unfold iblk X
  rw [← h]
  blk_ext! [bOf, kvOf, kcol, e0, e1, e2]
  all_goals omega

theorem vPrev_apply (c : Dev nD) (t : Fin cfg0.N) (a : Fin 128) (e : Fin 128) (s : Fin 8192) (hs : s.val = (4 * (t.val % 16) - 1) * 128 + a.val) :
    (iblk m c 5 t : Vec Ideal S1x128x128 .bf16) (ix3 0 a e) = X m c (bOf t) s (vvcol (kvOf t) e) := by
  obtain ⟨e0, e1, e2, -⟩ := idxV t
  have h := V_main_arg1 m c
  unfold iblk X
  rw [← h]
  blk_ext! [bOf, kvOf, vvcol, e0, e1, e2]
  all_goals omega

theorem vCur_apply (c : Dev nD) (t : Fin cfg0.N) (a : Fin 512) (e : Fin 128) (s : Fin 8192) (hs : s.val = t.val % 16 * 512 + a.val) :
    (iblk m c 6 t : Vec Ideal S1x512x128 .bf16) (ix3 0 a e) = X m c (bOf t) s (vvcol (kvOf t) e) := by
  obtain ⟨-, -, -, e0, e1, e2, -⟩ := idxV t
  have h := V_main_arg1 m c
  unfold iblk X
  rw [← h]
  blk_ext! [bOf, kvOf, vvcol, e0, e1, e2]
  all_goals omega

theorem vNext_apply (c : Dev nD) (t : Fin cfg0.N) (a : Fin 128) (e : Fin 128) (s : Fin 8192) (hs : s.val = min 63 (4 * (t.val % 16) + 4) * 128 + a.val) :
    (iblk m c 7 t : Vec Ideal S1x128x128 .bf16) (ix3 0 a e) = X m c (bOf t) s (vvcol (kvOf t) e) := by
  obtain ⟨-, -, -, -, -, -, e0, e1, e2⟩ := idxV t
  have h := V_main_arg1 m c
  unfold iblk X
  rw [← h]
  blk_ext! [bOf, kvOf, vvcol, e0, e1, e2]
  all_goals omega

theorem kCtx_apply (c : Dev nD) (t : Fin cfg0.N) (l : Fin 256) (e : Fin 128) :
    (iblk m c 8 t : Vec Ideal S1x256x128 .bf16) (ix3 0 l e) = C m c (bOf t) l (kcol (kvOf t) e) := by
  obtain ⟨e0, e1, e2, -⟩ := idxC t
  have h := V_main_arg2 m c
  unfold iblk C
  rw [← h]
  blk_ext! [bOf, kvOf, kcol, e0, e1, e2]
  all_goals omega

theorem vCtx_apply (c : Dev nD) (t : Fin cfg0.N) (l : Fin 256) (e : Fin 128) :
    (iblk m c 9 t : Vec Ideal S1x256x128 .bf16) (ix3 0 l e) = C m c (bOf t) l (vvcol (kvOf t) e) := by
  obtain ⟨-, -, -, e0, e1, e2⟩ := idxC t
  have h := V_main_arg2 m c
  unfold iblk C
  rw [← h]
  blk_ext! [bOf, kvOf, vvcol, e0, e1, e2]
  all_goals omega

/-! ## The band of keys, put together from the three blocks -/

/-- An entry of the 768 rows is one of the three blocks' entry. -/
theorem keys_of (x2 : Vec Ideal S1x128x128 .bf16) (x3 : Vec Ideal S1x512x128 .bf16) (x4 : Vec Ideal S1x128x128 .bf16) (p : Fin 768) (e : Fin 128) (z : EReal)
    (h0 : ∀ a : Fin 128, p.val = a.val → x2 (ix3 0 a e) = z) (h1 : ∀ a : Fin 512, p.val = 128 + a.val → x3 (ix3 0 a e) = z)
    (h2 : ∀ a : Fin 128, p.val = 640 + a.val → x4 (ix3 0 a e) = z) : k0_pay6 (F := Ideal) x2 x3 x4 (ix2 p e) = z := by
  have hp := p.isLt
  pointwise [k0_pay6]
  split_ifs
  all_goals first
    | exact h0 _ rfl
    | exact h1 ⟨p.val - 128, by omega⟩ (by show p.val = 128 + (p.val - 128); omega)
    | exact h2 ⟨p.val - 128 - 512, by omega⟩ (by show p.val = 640 + (p.val - 128 - 512); omega)

theorem vals_of (x2 : Vec Ideal S1x128x128 .bf16) (x3 : Vec Ideal S1x512x128 .bf16) (x4 : Vec Ideal S1x128x128 .bf16) (p : Fin 768) (d : Fin 128) (z : EReal)
    (h0 : ∀ a : Fin 128, p.val = a.val → x2 (ix3 0 a d) = z) (h1 : ∀ a : Fin 512, p.val = 128 + a.val → x3 (ix3 0 a d) = z)
    (h2 : ∀ a : Fin 128, p.val = 640 + a.val → x4 (ix3 0 a d) = z) : k0_pay7 (F := Ideal) x2 x3 x4 (ix2 p (vcol d)) = z := by
  have hp := p.isLt
  pointwise [k0_pay7, vcol]
  split_ifs
  all_goals first
    | exact h0 _ rfl
    | exact h1 ⟨p.val - 128, by omega⟩ (by show p.val = 128 + (p.val - 128); omega)
    | exact h2 ⟨p.val - 128 - 512, by omega⟩ (by show p.val = 640 + (p.val - 128 - 512); omega)

theorem keys_apply (c : Dev nD) (t : Fin cfg0.N) (p : Fin 768) (e : Fin 128) (s : Fin 8192) (hs : s.val + 128 = t.val % 16 * 512 + p.val) :
    k0_pay6 (F := Ideal) (iblk m c 2 t) (iblk m c 3 t) (iblk m c 4 t) (ix2 p e) = X m c (bOf t) s (kcol (kvOf t) e) := by
  have hlt := s.isLt
  exact keys_of _ _ _ p e _ (fun a h => kPrev_apply m c t a e s (by omega)) (fun a h => kCur_apply m c t a e s (by omega))
    (fun a h => kNext_apply m c t a e s (by omega))

theorem vals_apply (c : Dev nD) (t : Fin cfg0.N) (p : Fin 768) (d : Fin 128) (s : Fin 8192) (hs : s.val + 128 = t.val % 16 * 512 + p.val) :
    k0_pay7 (F := Ideal) (iblk m c 5 t) (iblk m c 6 t) (iblk m c 7 t) (ix2 p (vcol d)) = X m c (bOf t) s (vvcol (kvOf t) d) := by
  have hlt := s.isLt
  exact vals_of _ _ _ p d _ (fun a h => vPrev_apply m c t a d s (by omega)) (fun a h => vCur_apply m c t a d s (by omega))
    (fun a h => vNext_apply m c t a d s (by omega))

theorem one_word : Ideal.ofBits FTy.bf16 16256#16 = 1 := by
  simp [Ideal.ofBits, Ideal.ieee, -EReal.coe_mul]; norm_num

theorem ones_apply (x5 : Vec Ideal S1x128x128 .bf16) (x6 : Vec Ideal S1x512x128 .bf16) (x7 : Vec Ideal S1x128x128 .bf16) (p : Fin 768) :
    k0_pay7 (F := Ideal) x5 x6 x7 (ix2 p ⟨128, by decide⟩) = 1 := by
  pointwise [k0_pay7]

theorem ctxKeys_apply (x : Vec Ideal S1x256x128 .bf16) (l : Fin 256) (e : Fin 128) : k0_pay8 (F := Ideal) x (ix2 l e) = x (ix3 0 l e) := by
  pointwise [k0_pay8]

theorem ctxVals_apply (x : Vec Ideal S1x256x128 .bf16) (l : Fin 256) (d : Fin 128) : k0_pay9 (F := Ideal) x (ix2 l (vcol d)) = x (ix3 0 l d) := by
  pointwise [k0_pay9, vcol]

theorem ctxOnes_apply (x : Vec Ideal S1x256x128 .bf16) (l : Fin 256) : k0_pay9 (F := Ideal) x (ix2 l ⟨128, by decide⟩) = 1 := by
  pointwise [k0_pay9]

/-! ## The result array -/

/-- The windowed scores of query row `t` of head `g` of group `kv`. -/
def winScores (c : Dev nD) (b kv g : Fin 4) (t s : Fin 8192) : EReal :=
  if (t.val ≤ s.val + 128 ∧ s.val ≤ t.val + 128) then ∑ e, X m c b t (qcol kv g e) * X m c b s (kcol kv e) else ⊥

/-- Its scores against the context. -/
def ctxRow (c : Dev nD) (b kv g : Fin 4) (t : Fin 8192) (l : Fin 256) : EReal :=
  ∑ e, X m c b t (qcol kv g e) * C m c b l (kcol kv e)

/-- The scores, the sinks are finite. -/
structure Finite (c : Dev nD) : Prop where
  sink : ∀ h, Snk m c h ≠ ⊤ ∧ Snk m c h ≠ ⊥
  rows : ∀ b s (k : Fin 3072), k.val < 2560 → X m c b s k ≠ ⊤ ∧ X m c b s k ≠ ⊥
  ctx : ∀ b l (k : Fin 3072), 2048 ≤ k.val → k.val < 2560 → C m c b l k ≠ ⊤ ∧ C m c b l k ≠ ⊥

/-- Row `t` of the result, head `g` of group `kv`, feature `d`. -/
def attAt (c : Dev nD) (b kv g : Fin 4) (t : Fin 8192) (d : Fin 128) : EReal :=
  softRow (winScores m c b kv g t) (ctxRow m c b kv g t) (Snk m c ⟨kv.val * 4 + g.val, by omega⟩)
    (fun s => X m c b s (vvcol kv d)) (fun l => C m c b l (vvcol kv d))

/-- The result array. -/
def attOut (c : Dev nD) (i : S4x8192x2048.Idx) : EReal :=
  attAt m c (i 0) ⟨(i 2).val / 512, by have h : (i 2).val < 2048 := (i 2).isLt; omega⟩ ⟨(i 2).val / 128 % 4, Nat.mod_lt _ (by decide)⟩ (i 1)
    ⟨(i 2).val % 128, Nat.mod_lt _ (by decide)⟩

theorem select_one (x y : EReal) : Scalar.select (BitVec.ofBool true) x y = x := rfl

/-- The scores of a point's row are the band of the row's windowed scores. -/
theorem band (c : Dev nD) (t : Fin cfg0.N) (n : ℕ) (hn : n < 4) (g : Fin 4) (a : Fin 128) :
    Band (t.val % 16 * 512 + n * 128 + a.val) (t.val % 16 * 512 + n * 128)
      (locScores n hn (fun c => BitVec.ofBool (allowed n (t.val % 16) a.val c.val))
        (fun e => X m c (bOf t) ⟨t.val % 16 * 512 + n * 128 + a.val, by omega⟩ (qcol (kvOf t) g e))
        (k0_pay6 (iblk m c 2 t) (iblk m c 3 t) (iblk m c 4 t)))
      (winScores m c (bOf t) (kvOf t) g ⟨t.val % 16 * 512 + n * 128 + a.val, by omega⟩) where
  lo := by omega
  hi := by omega
  at_key k s e h := by
    have hs := s.isLt
    have ha : allowed n (t.val % 16) a.val k.val = true := by
      unfold near at h
      simp only [allowed, decide_eq_true_eq]
      omega
    unfold locScores winScores
    beta_reduce
    rw [ha, if_pos (show t.val % 16 * 512 + n * 128 + a.val ≤ s.val + 128 ∧ s.val ≤ t.val % 16 * 512 + n * 128 + a.val + 128 from h)]
    rw [select_one]
    refine Finset.sum_congr rfl fun x _ => ?_
    rw [keys_apply m c t _ x s (by show _ = _ + (n * 128 + k.val); omega)]
  off k h := by
    have ha : allowed n (t.val % 16) a.val k.val = false := by
      by_contra hne
      rw [Bool.not_eq_false] at hne
      simp only [allowed, decide_eq_true_eq] at hne
      exact h ⟨t.val % 16 * 512 + n * 128 + k.val - 128, by omega⟩ (by dsimp only; omega) (by unfold near; dsimp only; omega)
    unfold locScores
    beta_reduce
    rw [ha]
    exact negInf_eq
  far s h := by
    unfold winScores
    exact if_neg h

theorem winScores_ne_top (c : Dev nD) (hf : Finite m c) (b kv g : Fin 4) (t s : Fin 8192) : winScores m c b kv g t s ≠ ⊤ := by
  unfold winScores
  split
  · exact dot_ne_top _ _ (fun e => hf.rows _ _ _ (by show kv.val * 512 + g.val * 128 + e.val < 2560; omega))
      (fun e => hf.rows _ _ _ (by show 2048 + (kv.val * 128 + e.val) < 2560; omega))
  · exact bot_ne_top

theorem ctxRow_ne_top (c : Dev nD) (hf : Finite m c) (b kv g : Fin 4) (t : Fin 8192) (l : Fin 256) : ctxRow m c b kv g t l ≠ ⊤ :=
  dot_ne_top _ _ (fun e => hf.rows _ _ _ (by show kv.val * 512 + g.val * 128 + e.val < 2560; omega))
    (fun e => hf.ctx _ _ _ (by show 2048 ≤ 2048 + (kv.val * 128 + e.val); omega) (by show 2048 + (kv.val * 128 + e.val) < 2560; omega))

/-- A row of a point's block is the row of the result. -/
theorem point_row (c : Dev nD) (hf : Finite m c) (t : Fin cfg0.N) (n : ℕ) (hn : n < 4) (g : Fin 4) (a d : Fin 128) :
    pointRow (iblk m c 0 t) (iblk m c 1 t) (iblk m c 2 t) (iblk m c 3 t) (iblk m c 4 t) (iblk m c 5 t) (iblk m c 6 t) (iblk m c 7 t)
        (iblk m c 8 t) (iblk m c 9 t) (grid0.coords t 1) (grid0.coords t 2) n hn g a d
      = attAt m c (bOf t) (kvOf t) g ⟨t.val % 16 * 512 + n * 128 + a.val, by omega⟩ d := by
  obtain ⟨hc1, hc2⟩ := coords t
  have h1 : (grid0.coords t 1 : Fin 4) = kvOf t := Fin.ext hc1
  unfold pointRow blockRow
  rw [h1, hc2]
  have hq : (fun e : Fin 128 => (iblk m c 1 t : Vec Ideal S1x512x512 .bf16) (ix3 0 ⟨n * 128 + a.val, by omega⟩ ⟨g.val * 128 + e.val, by omega⟩))
      = fun e => X m c (bOf t) ⟨t.val % 16 * 512 + n * 128 + a.val, by omega⟩ (qcol (kvOf t) g e) := funext fun e => by
    rw [q_apply m c t ⟨n * 128 + a.val, by omega⟩ g e]
    exact congrArg (fun s => X m c (bOf t) s (qcol (kvOf t) g e)) (Fin.ext (by show t.val % 16 * 512 + (n * 128 + a.val) = t.val % 16 * 512 + n * 128 + a.val; omega))
  have hx : ctxScores (fun e => X m c (bOf t) ⟨t.val % 16 * 512 + n * 128 + a.val, by omega⟩ (qcol (kvOf t) g e)) (k0_pay8 (iblk m c 8 t))
      = ctxRow m c (bOf t) (kvOf t) g ⟨t.val % 16 * 512 + n * 128 + a.val, by omega⟩ := funext fun l => by
    unfold ctxScores ctxRow
    refine Finset.sum_congr rfl fun e _ => ?_
    rw [ctxKeys_apply, kCtx_apply m c t l e]
  rw [hq, hx, sink_apply m c t (kvOf t) g]
  rw [attRow_eq_softRow (band m c t n hn g a) _ _ (winScores_ne_top m c hf _ _ _ _) (ctxRow_ne_top m c hf _ _ _ _) (hf.sink _).1 (hf.sink _).2
    _ _ (fun s => X m c (bOf t) s (vvcol (kvOf t) d)) _ _
    (fun k s e _ => vals_apply m c t (key n hn k) d s (by show s.val + 128 = t.val % 16 * 512 + (n * 128 + k.val); omega)) (fun k => ones_apply _ _ _ _) (fun l => ctxOnes_apply _ l)]
  unfold attAt
  congr 1
  exact funext fun l => (ctxVals_apply _ l d).trans (vCtx_apply m c t l d)

theorem covers : (cfg0.win 10).Covers := by decide +kernel

/-- The run leaves the row formula in the result array. -/
theorem result (c : Dev nD) (hf : Finite m c) : (dats m 0 c).arrAt 10 cfg0.N = attOut m c := by
  refine (dats m 0 c).arrAt_eq_of_covers 10 _ covers fun t _ y => ?_
  obtain ⟨-, -, -, e0, e1, e2, -⟩ := idxQ t
  rw [after0_10]
  blk_simp
  obtain ⟨z, a, k, rfl⟩ : ∃ (z : Fin 1) (a k : Fin 512), y = ix3 z a k := ⟨y 0, y 1, y 2, by funext x; fin_cases x <;> rfl⟩
  have he : (win0_10.blk t).view.emb (ix3 z a k) = ix3 (bOf t) ⟨t.val % 16 * 512 + a.val, by omega⟩ ⟨t.val / 16 % 4 * 512 + k.val, by omega⟩ := by
    blk_ext! [bOf, e0, e1, e2]
  rw [he]
  have hk := k.isLt
  refine (out_apply _ _ _ _ _ _ _ _ _ _ _ _ _ _ _ _ _ _ _ _ _ _ _ _ _ _ _ _ _ _ _ _ _ _ _ ).trans ?_
  unfold blockOf attOut
  refine (point_row m c hf t _ _ _ _ _).trans ?_
  have hb : (t.val / 16 % 4 * 512 + k.val) / 512 = t.val / 16 % 4 := by omega
  have hg : (t.val / 16 % 4 * 512 + k.val) / 128 % 4 = k.val / 128 := by omega
  have hd : (t.val / 16 % 4 * 512 + k.val) % 128 = k.val % 128 := by omega
  have hr : t.val % 16 * 512 + a.val / 128 * 128 + a.val % 128 = t.val % 16 * 512 + a.val := by omega
  congr 1
  · exact Fin.ext hb.symm
  · exact Fin.ext hg.symm
  · exact Fin.ext hr
  · exact Fin.ext hd.symm

end Cert.KernelIdeal.Att

end
-- ==== Proof.SwaScores.lean ====
/-
  The scores of the reference: the keys of the window, the context and the sink, laid end to end.
-/
module

public import proofs.«01_k».proof.Proof.Gen.ReferenceIdeal.Run
public import proofs.«01_k».proof.Proof.Gen.ReferenceIdeal.Read
public import proofs.«01_k».proof.Proof.SwaMath
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Layer

variable (x0 : Vec Ideal S16 .f32) (x1 : Vec Ideal S4x8192x3072 .bf16) (x2 : Vec Ideal S4x256x3072 .bf16) (b kv g : Fin 4) (t : Fin 8192)

theorem q_apply (e : Fin 128) : val_main_v3 (F := Ideal) x1 (ix5 b t kv g e) = x1 (ix3 b t (qcol kv g e)) := by
  pointwise [val_main_v3, val_main_v2, val_main_v0, qcol]

theorem k_apply (e : Fin 128) : val_main_v5 (F := Ideal) x1 (ix4 b t kv e) = x1 (ix3 b t (kcol kv e)) := by
  pointwise [val_main_v5, val_main_v4, val_main_v0, kcol]

theorem v_apply (e : Fin 128) : val_main_v7 (F := Ideal) x1 (ix4 b t kv e) = x1 (ix3 b t (vvcol kv e)) := by
  pointwise [val_main_v7, val_main_v6, val_main_v0, vvcol]

theorem kc_apply (l : Fin 256) (e : Fin 128) : val_main_v9 (F := Ideal) x2 (ix4 b l kv e) = x2 (ix3 b l (kcol kv e)) := by
  pointwise [val_main_v9, val_main_v8, val_main_v1, kcol]

theorem vc_apply (l : Fin 256) (e : Fin 128) : val_main_v11 (F := Ideal) x2 (ix4 b l kv e) = x2 (ix3 b l (vvcol kv e)) := by
  pointwise [val_main_v11, val_main_v10, val_main_v1, vvcol]

/-- The distance of two positions, in 32-bit words. -/
theorem valid_word (t s : Fin 8192) : IntOp.cmpi .sle (IntOp.absi (IntOp.subi (BitVec.ofNat 32 s.val) (BitVec.ofNat 32 t.val))) 128#32
    = BitVec.ofBool (decide (t.val ≤ s.val + 128 ∧ s.val ≤ t.val + 128)) := by
  have hs := s.isLt
  have ht := t.isLt
  have small : ∀ n : ℕ, n < 8192 → IntOp.cmpi .sle (BitVec.ofNat 32 n) 128#32 = BitVec.ofBool (decide (n ≤ 128)) := by
    intro n hn
    unfold IntOp.cmpi
    congr 1
    rw [BitVec.sle_eq_decide, BitVec.toInt_eq_toNat_of_lt (by rw [BitVec.toNat_ofNat]; omega), BitVec.toInt_eq_toNat_of_lt (by decide), BitVec.toNat_ofNat,
      BitVec.toNat_ofNat, Nat.mod_eq_of_lt (by omega : n < 2 ^ 32)]
    simp
  have pos : ∀ n : ℕ, n < 8192 → (BitVec.ofNat 32 n).msb = false := by
    intro n hn
    rw [BitVec.msb_eq_decide, BitVec.toNat_ofNat, Nat.mod_eq_of_lt (by omega : n < 2 ^ 32)]
    simp
    omega
  by_cases h : t.val ≤ s.val
  · have e : IntOp.subi (BitVec.ofNat 32 s.val) (BitVec.ofNat 32 t.val) = BitVec.ofNat 32 (s.val - t.val) := by
      unfold IntOp.subi
      apply BitVec.eq_of_toNat_eq
      simp only [BitVec.toNat_sub, BitVec.toNat_ofNat]
      omega
    rw [e]
    unfold IntOp.absi
    rw [pos _ (by omega), if_neg (by decide), small _ (by omega)]
    congr 1
    rw [Bool.eq_iff_iff]
    simp only [decide_eq_true_eq]
    omega
  · have e : IntOp.subi (BitVec.ofNat 32 s.val) (BitVec.ofNat 32 t.val) = -BitVec.ofNat 32 (t.val - s.val) := by
      unfold IntOp.subi
      apply BitVec.eq_of_toNat_eq
      simp only [BitVec.toNat_sub, BitVec.toNat_ofNat, BitVec.toNat_neg]
      omega
    have hm : (-BitVec.ofNat 32 (t.val - s.val)).msb = true := by
      rw [BitVec.msb_eq_decide, BitVec.toNat_neg, BitVec.toNat_ofNat]
      simp only [decide_eq_true_eq]
      omega
    rw [e]
    unfold IntOp.absi
    rw [hm, if_pos rfl, BitVec.neg_neg, small _ (by omega)]
    congr 1
    rw [Bool.eq_iff_iff]
    simp only [decide_eq_true_eq]
    omega

theorem valid_apply (s : Fin 8192) : val_main_v20 (F := Ideal) (ix2 t s) = BitVec.ofBool (decide (t.val ≤ s.val + 128 ∧ s.val ≤ t.val + 128)) := by
  pointwise [val_main_v20, val_main_v19, val_main_c, val_main_v18, val_main_v17, val_main_v16, val_main_v15, val_main_v14, val_main_v13, val_main_v12]
  exact valid_word t s

/-- The windowed scores of query row `t`. -/
def winScores (s : Fin 8192) : EReal :=
  if t.val ≤ s.val + 128 ∧ s.val ≤ t.val + 128 then ∑ e, x1 (ix3 b s (kcol kv e)) * x1 (ix3 b t (qcol kv g e)) else ⊥
def ctxRow (l : Fin 256) : EReal := ∑ e, x2 (ix3 b l (kcol kv e)) * x1 (ix3 b t (qcol kv g e))
def sinkOf : EReal := x0 (ix1 ⟨kv.val * 4 + g.val, by omega⟩)

theorem win_apply (s : Fin 8192) : val_main_v23 (F := Ideal) x1 (ix5 b kv g t s) = winScores x1 b kv g t s := by
  have e : val_main_v23 (F := Ideal) x1 (ix5 b kv g t s)
      = Scalar.select (val_main_v20 (F := Ideal) (ix2 t s)) (∑ e, x1 (ix3 b s (kcol kv e)) * x1 (ix3 b t (qcol kv g e))) (Ideal.ofBits FTy.f32 4286578688#32) := by
    pointwise [val_main_v23, val_main_call0_v0, val_main_call0_v1, val_main_call0_v2, val_main_v22, val_main_cst, val_main_v21, k_apply, q_apply]
    try rfl
  rw [e, valid_apply, negInf_eq]
  unfold winScores
  split_ifs with h
  · rw [decide_eq_true h]; rfl
  · rw [decide_eq_false h]; rfl

theorem ctx_apply (l : Fin 256) : val_main_v25 (F := Ideal) x1 x2 (ix5 b kv g t l) = ctxRow x1 x2 b kv g t l := by
  pointwise [val_main_v25, val_main_v24, ctxRow, kc_apply, q_apply]

theorem sink_apply (z : Fin 1) : val_main_v27 (F := Ideal) x0 (ix5 b kv g t z) = sinkOf x0 kv g := by
  pointwise [val_main_v27, val_main_v26, sinkOf]

/-- The scores of a row, laid end to end. -/
abbrev rowScores : Fin 8449 → EReal := joined (winScores x1 b kv g t) (ctxRow x1 x2 b kv g t) (sinkOf x0 kv g)
/-- Their greatest. -/
abbrev rowTop : EReal := topScore (winScores x1 b kv g t) (ctxRow x1 x2 b kv g t) (sinkOf x0 kv g)
/-- The sum of their weights. -/
abbrev rowSum : EReal := softSum (rowTop x0 x1 x2 b kv g t) (winScores x1 b kv g t) (ctxRow x1 x2 b kv g t) (sinkOf x0 kv g)

theorem scores_apply (i : Fin 8449) : val_main_v28 (F := Ideal) x0 x1 x2 (ix5 b kv g t i) = rowScores x0 x1 x2 b kv g t i := by
  have hi := i.isLt
  have hz : ∀ z : Fin 1, val_main_v27 (F := Ideal) x0 (ix5 b kv g t z) = sinkOf x0 kv g := sink_apply x0 b kv g t
  unfold rowScores
  generalize sinkOf x0 kv g = snk at hz ⊢
  have hw : ∀ s, val_main_v23 (F := Ideal) x1 (ix5 b kv g t s) = winScores x1 b kv g t s := win_apply x1 b kv g t
  have hc : ∀ l, val_main_v25 (F := Ideal) x1 x2 (ix5 b kv g t l) = ctxRow x1 x2 b kv g t l := ctx_apply x1 x2 b kv g t
  generalize winScores x1 b kv g t = F at hw ⊢
  generalize ctxRow x1 x2 b kv g t = sc at hc ⊢
  unfold val_main_v28
  generalize val_main_v23 (F := Ideal) x1 = y0 at hw ⊢
  generalize val_main_v25 (F := Ideal) x1 x2 = y1 at hc ⊢
  generalize val_main_v27 (F := Ideal) x0 = y2 at hz ⊢
  unfold joined
  by_cases h : i.val < 8192
  · rw [dif_pos h]
    pointwise [hw, hc, hz]
    exact dif_pos h
  · rw [dif_neg h]
    by_cases h' : i.val - 8192 < 256
    · rw [dif_pos h']
      pointwise [hw, hc, hz]
      exact (dif_neg h).trans (dif_pos h')
    · rw [dif_neg h']
      pointwise [hw, hc, hz]
      exact (dif_neg h).trans (dif_neg h')

end Cert.ReferenceIdeal.Rows

end
-- ==== Proof.SwaRef.lean ====
/-
  What the reference's result holds: row by row, the softmax over all the keys, the context and the sink, applied to the
  values.
-/
module

public import proofs.«01_k».proof.Proof.Gen.ReferenceIdeal.Run
public import proofs.«01_k».proof.Proof.Gen.ReferenceIdeal.Read
public import proofs.«01_k».proof.Proof.SwaScores
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Read Layer

variable (x0 : Vec Ideal S16 .f32) (x1 : Vec Ideal S4x8192x3072 .bf16) (x2 : Vec Ideal S4x256x3072 .bf16) (b kv g : Fin 4) (t : Fin 8192)

/-- Folding with the larger of two ideal words is folding with the larger of two extended reals. -/
theorem fold_same {n : Nat} (z : Ideal .f32) (f : Fin n → Ideal .f32) : Finset.univ.fold max z f = Finset.univ.fold (max : EReal → EReal → EReal) z f := rfl

/-- The largest score of a row, folded over the scores laid end to end. -/
theorem fold_apply : val_main_v29 (F := Ideal) x0 x1 x2 (ix4 b kv g t)
    = Finset.univ.fold max (Ideal.ofBits FTy.f32 4286578688#32) (fun i => val_main_v28 (F := Ideal) x0 x1 x2 (ix5 b kv g t i)) := by
  unfold val_main_v29
  generalize val_main_v28 (F := Ideal) x0 x1 x2 = y
  pointwise [val_main_cst_0]

/-- The word the fold is compared with is -inf. -/
theorem floor_apply (j : S4x4x4x8192.Idx) : val_main_v30 (F := Ideal) j = Ideal.ofBits FTy.f32 4286578688#32 := by
  rw [val_main_v30_apply]
  pointwise [val_main_cst_1]

/-- A row's largest value: the fold, against that word once more. -/
theorem clamp_apply (z : Ideal .f32) (h : val_main_v30 (F := Ideal) (ix4 b kv g t) = z) : val_main_v31 (F := Ideal) x0 x1 x2 (ix4 b kv g t)
    = max z (val_main_v29 (F := Ideal) x0 x1 x2 (ix4 b kv g t)) := by
  rw [val_main_v31_apply, h]
  generalize val_main_v29 (F := Ideal) x0 x1 x2 (ix4 b kv g t) = y
  rfl

theorem top_apply : val_main_v31 (F := Ideal) x0 x1 x2 (ix4 b kv g t) = rowTop x0 x1 x2 b kv g t := by
  have e : (fun i => val_main_v28 (F := Ideal) x0 x1 x2 (ix5 b kv g t i)) = rowScores x0 x1 x2 b kv g t := funext fun i => scores_apply x0 x1 x2 b kv g t i
  rw [clamp_apply x0 x1 x2 b kv g t _ (floor_apply _), fold_apply, negInf_eq, max_eq_right bot_le, e]
  exact (fold_same _ _).trans <| joined_max (winScores x1 b kv g t) (ctxRow x1 x2 b kv g t) (sinkOf x0 kv g)

theorem weight_apply (i : Fin 8449) : val_main_v35 (F := Ideal) x0 x1 x2 (ix5 b kv g t i)
    = Ideal.exp (rowScores x0 x1 x2 b kv g t i - rowTop x0 x1 x2 b kv g t) := by
  pointwise [val_main_v35, val_main_v34, val_main_v33, val_main_v32, scores_apply, top_apply]

theorem sum_apply : val_main_v36 (F := Ideal) x0 x1 x2 (ix4 b kv g t) = rowSum x0 x1 x2 b kv g t := by
  have e : val_main_v36 (F := Ideal) x0 x1 x2 (ix4 b kv g t)
      = ∑ i, Ideal.exp (rowScores x0 x1 x2 b kv g t i - rowTop x0 x1 x2 b kv g t) := by
    pointwise [val_main_v36, val_main_cst_2, weight_apply]
  rw [e]
  exact sum_joined (fun x => Ideal.exp (x - rowTop x0 x1 x2 b kv g t)) _ _ _

theorem prob_apply (i : Fin 8449) : val_main_v39 (F := Ideal) x0 x1 x2 (ix5 b kv g t i)
    = Ideal.div (Ideal.exp (rowScores x0 x1 x2 b kv g t i - rowTop x0 x1 x2 b kv g t)) (rowSum x0 x1 x2 b kv g t) := by
  pointwise [val_main_v39, val_main_v38, val_main_v37, weight_apply, sum_apply]

theorem probKey_apply (s : Fin 8192) : val_main_v40 (F := Ideal) x0 x1 x2 (ix5 b kv g t s)
    = Ideal.div (Ideal.exp (winScores x1 b kv g t s - rowTop x0 x1 x2 b kv g t)) (rowSum x0 x1 x2 b kv g t) := by
  have e : val_main_v40 (F := Ideal) x0 x1 x2 (ix5 b kv g t s) = val_main_v39 (F := Ideal) x0 x1 x2 (ix5 b kv g t ⟨s.val, by omega⟩) := by
    pointwise [val_main_v40]
  rw [e, prob_apply, rowScores, joined_key]

theorem probCtx_apply (l : Fin 256) : val_main_v43 (F := Ideal) x0 x1 x2 (ix5 b kv g t l)
    = Ideal.div (Ideal.exp (ctxRow x1 x2 b kv g t l - rowTop x0 x1 x2 b kv g t)) (rowSum x0 x1 x2 b kv g t) := by
  have e : val_main_v43 (F := Ideal) x0 x1 x2 (ix5 b kv g t l) = val_main_v39 (F := Ideal) x0 x1 x2 (ix5 b kv g t ⟨8192 + l.val, by omega⟩) := by
    pointwise [val_main_v43]
  rw [e, prob_apply, rowScores, joined_ctx]

/-- The result's row, before it is laid out. -/
theorem row_apply (d : Fin 128) : val_main_v46 (F := Ideal) x0 x1 x2 (ix5 b t kv g d)
    = softRow (winScores x1 b kv g t) (ctxRow x1 x2 b kv g t) (sinkOf x0 kv g) (fun s => x1 (ix3 b s (vvcol kv d))) (fun l => x2 (ix3 b l (vvcol kv d))) := by
  pointwise [val_main_v46, val_main_v45, val_main_v44, val_main_v42, val_main_v41, softRow, v_apply, vc_apply, probKey_apply, probCtx_apply]

/-- The reference's result at an index. -/
theorem result_apply (k : Fin 2048) : val_main_v48 (F := Ideal) x0 x1 x2 (ix3 b t k)
    = val_main_v46 (F := Ideal) x0 x1 x2 (ix5 b t ⟨k.val / 512, by omega⟩ ⟨k.val / 128 % 4, Nat.mod_lt _ (by decide)⟩ ⟨k.val % 128, Nat.mod_lt _ (by decide)⟩) := by
  pointwise [val_main_v48, val_main_v47]

end Cert.ReferenceIdeal.Rows

end
-- ==== Proof.SwaFinite.lean ====
/-
  The precondition of the windowed attention, read at an index: where its three tables are set the sinks, the queries and
  keys, and the context's keys are finite.
-/
module

public import proofs.«01_k».proof.Pre_scores_finite
public import Idealize.ShloMosaic.Lib.Pointwise

@[expose] public section

set_option maxRecDepth 16384

noncomputable section

open Idealize.ShloMosaic

namespace Cert.Pre_scores_finite

/-- The side conditions the precondition states. -/
instance facts : Cert.Pre_scores_finite.Facts where
  slices_S4x8192x3072_S4x8192x2560_0_0_0 := by decide
  bitsLt_bf16_f32 := by decide
  slices_S4x256x3072_S4x256x512_0_0_2048 := by decide
  bcast_S_S16 := by decide
  bcast_S_S4x8192x2560 := by decide
  bcast_S_S4x256x512 := by decide

/-- The word the magnitudes are compared with is +inf. -/
theorem inf_eq : (Ideal.ofBits FTy.f32 2139095040#32 : EReal) = ⊤ := by
  simp [Ideal.ofBits, Ideal.ieee]

/-- A magnitude below +inf is a finite word's. -/
theorem finite_of (x : EReal) (h : Ideal.cmp .olt (max x (-x)) ⊤ = 1#1) : x ≠ ⊤ ∧ x ≠ ⊥ := by
  constructor <;> rintro rfl <;> simp [Ideal.cmp] at h

variable (x0 : FVec Ideal S16 .f32) (x1 : FVec Ideal S4x8192x3072 .bf16) (x2 : FVec Ideal S4x256x3072 .bf16)

theorem sink_finite (h : (fn (F := Ideal) x0 x1 x2).1 = fun _ => 1#1) (i : Fin 16) : (x0 (ix1 i) : EReal) ≠ ⊤ ∧ (x0 (ix1 i) : EReal) ≠ ⊥ := by
  have e : (fn (F := Ideal) x0 x1 x2).1 (ix1 i) = Ideal.cmp .olt (max (x0 (ix1 i)) (-(x0 (ix1 i)))) (Ideal.ofBits FTy.f32 2139095040#32) := by
    pointwise [fn]
    try rfl
  rw [h, inf_eq] at e
  exact finite_of _ e.symm

theorem row_finite (h : (fn (F := Ideal) x0 x1 x2).2.1 = fun _ => 1#1) (b : Fin 4) (s : Fin 8192) (k : Fin 3072) (hk : k.val < 2560) :
    (x1 (ix3 b s k) : EReal) ≠ ⊤ ∧ (x1 (ix3 b s k) : EReal) ≠ ⊥ := by
  have e : (fn (F := Ideal) x0 x1 x2).2.1 (ix3 b s ⟨k.val, hk⟩) = Ideal.cmp .olt (max (x1 (ix3 b s k)) (-(x1 (ix3 b s k)))) (Ideal.ofBits FTy.f32 2139095040#32) := by
    pointwise [fn]
    try rfl
  rw [h, inf_eq] at e
  exact finite_of _ e.symm

theorem ctx_finite (h : (fn (F := Ideal) x0 x1 x2).2.2 = fun _ => 1#1) (b : Fin 4) (l : Fin 256) (k : Fin 3072) (h1 : 2048 ≤ k.val) (h2 : k.val < 2560) :
    (x2 (ix3 b l k) : EReal) ≠ ⊤ ∧ (x2 (ix3 b l k) : EReal) ≠ ⊥ := by
  have e : (fn (F := Ideal) x0 x1 x2).2.2 (ix3 b l ⟨k.val - 2048, by omega⟩)
      = Ideal.cmp .olt (max (x2 (ix3 b l ⟨2048 + (k.val - 2048), by omega⟩)) (-(x2 (ix3 b l ⟨2048 + (k.val - 2048), by omega⟩)))) (Ideal.ofBits FTy.f32 2139095040#32) := by
    pointwise [fn]
    try rfl
  rw [h, inf_eq] at e
  have hk : (⟨2048 + (k.val - 2048), by omega⟩ : Fin 3072) = k := Fin.ext (Nat.add_sub_cancel' h1)
  have := finite_of _ e.symm
  rwa [hk] at this

end Cert.Pre_scores_finite

end
-- ==== Proof.SwaEq.lean ====
/- The windowed attention and its reference leave the same array: both hold the row formula of `SwaMath`. -/
module

public import proofs.«01_k».proof.Defs
public import proofs.«01_k».proof.Proof.Gen.KernelIdeal.Value
public import proofs.«01_k».proof.Proof.SwaArray
public import proofs.«01_k».proof.Proof.SwaRef
public import proofs.«01_k».proof.Proof.SwaFinite

@[expose] public section

set_option maxRecDepth 16384

noncomputable section

open Idealize.ShloMosaic Idealize.ShloMosaic.TcCoe Idealize.SL.Sem
open Idealize.ShloMosaic.Pipeline (Dat)

namespace Cert.SwaEq

open Layer

/-- The precondition gives what the kernel's value needs. -/
theorem finite (m : (ℓ : Loc Cert.KernelIdeal.nD Cert.KernelIdeal.τ Cert.KernelIdeal.sig) → Buf (Elt Ideal) ℓ) (h : Cert.Pre_KernelIdeal_scores_finite m)
    (c : Dev Cert.KernelIdeal.nD) : Cert.KernelIdeal.Att.Finite m c where
  sink := fun i => Cert.Pre_scores_finite.sink_finite _ _ _ (h c).1 i
  rows := fun b s k hk => Cert.Pre_scores_finite.row_finite _ _ _ (h c).2.1 b s k hk
  ctx := fun b l k h1 h2 => Cert.Pre_scores_finite.ctx_finite _ _ _ (h c).2.2 b l k h1 h2

/-- From arguments that agree, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v48 (F := Ideal) m' c = Cert.KernelIdeal.Att.attOut m c := by
  rw [Cert.ReferenceIdeal.Read.val_main_v48_eq, h0, h1, h2]
  funext i
  obtain ⟨b, t, k, rfl⟩ : ∃ (b : Fin 4) (t : Fin 8192) (k : Fin 2048), i = ix3 b t k := ⟨i 0, i 1, i 2, by funext x; fin_cases x <;> rfl⟩
  refine (Cert.ReferenceIdeal.Rows.result_apply _ _ _ _ _ _).trans ((Cert.ReferenceIdeal.Rows.row_apply _ _ _ _ _ _ _ _).trans ?_)
  show _ = Cert.KernelIdeal.Att.attAt m c b ⟨k.val / 512, _⟩ ⟨k.val / 128 % 4, _⟩ t ⟨k.val % 128, _⟩
  unfold Cert.KernelIdeal.Att.attAt
  congr 1
  · funext s
    unfold Cert.ReferenceIdeal.Rows.winScores Cert.KernelIdeal.Att.winScores
    exact if_congr Iff.rfl (Finset.sum_congr rfl fun e _ => mul_comm _ _) rfl
  · funext l
    unfold Cert.ReferenceIdeal.Rows.ctxRow Cert.KernelIdeal.Att.ctxRow
    exact Finset.sum_congr rfl fun e _ => mul_comm _ _

theorem algebraic : Cert.algebraic_KernelIdeal_ReferenceIdeal_pre_scores_finite := by
  intro m g m' g' hpre hag
  refine ⟨fun c => Cert.KernelIdeal.Att.attOut m c, (θ_run Cert.KernelIdeal.defs _ _).mono (fun _ h c => ⟨(h c).1.trans (Cert.KernelIdeal.Att.result m c (finite m hpre c)), (h c).2⟩) (Cert.KernelIdeal.Value.run_blocks m g), ?_⟩
  refine (θ_run Cert.ReferenceIdeal.defs _ _).mono (fun _ h c => ⟨(h c).1.trans ?_, (h c).2⟩) (Cert.ReferenceIdeal.Value.run (F := Ideal) m' g')
  exact result_eq m m' c (hag c).1 (hag c).2.1 (hag c).2.2

end Cert.SwaEq

end
-- ==== Proof.MlpBlock.lean ====
/-
  What one grid point of the MLP kernel leaves in its buffers, as terms over the point's input blocks.

  The kernel walks, for each block of 512 rows, the 8 slices of the hidden width. The first point of a row block
  stores the normalised and modulated rows in one scratch and resets the other; every point adds its slice's
  contribution to that second scratch; the last point turns the accumulated rows into the block of the result.
-/
module

public import proofs.«01_k».proof.Proof.Gen.MlpIdeal.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MlpIdeal.Block

open Cert.MlpIdeal Cert.MlpIdeal.Gen

variable {F : FTy → Type} [FloatOps F]

theorem hz : (![0, 0] : Fin 2 → Nat) = fun _ => 0 := funext fun a => by fin_cases a <;> rfl

/-- Row `2` of the gains: the gain of the norm before the MLP. -/
abbrev gainIn (x2 : Vec F S4x2048 .f32) : Vec F S1x2048 .f32 :=
  View.ld x2 (Rect.unit (s := S4x2048) ![2, 0] S1x2048.size inb_S4x2048_S1x2048_2_0)
/-- Row `3` of the gains: the gain of the norm after the MLP. -/
abbrev gainOut (x2 : Vec F S4x2048 .f32) : Vec F S1x2048 .f32 :=
  View.ld x2 (Rect.unit (s := S4x2048) ![3, 0] S1x2048.size inb_S4x2048_S1x2048_3_0)
/-- Row `3` of the modulation: the shift. -/
abbrev shiftRow (x1 : Vec F S1x6x2048 .f32) : Vec F S1x1x2048 .f32 :=
  View.ld x1 (Rect.unit (s := S1x6x2048) ![0, 3, 0] S1x1x2048.size inb_S1x6x2048_S1x1x2048_0_3_0)
/-- Row `4` of the modulation: the scale. -/
abbrev scaleRow (x1 : Vec F S1x6x2048 .f32) : Vec F S1x1x2048 .f32 :=
  View.ld x1 (Rect.unit (s := S1x6x2048) ![0, 4, 0] S1x1x2048.size inb_S1x6x2048_S1x1x2048_0_4_0)
/-- Row `5` of the modulation: the gate. -/
abbrev gateRow (x1 : Vec F S1x6x2048 .f32) : Vec F S1x1x2048 .f32 :=
  View.ld x1 (Rect.unit (s := S1x6x2048) ![0, 5, 0] S1x1x2048.size inb_S1x6x2048_S1x1x2048_0_5_0)

section
variable (c : Dev nD) (i : grid0.Coords) (arg2 : Memref sig .tc .vmem S512x2048 .f32) (harg2 : arg2.IsWhole) (arg3 : Memref sig .tc .vmem S1x6x2048 .f32) (harg3 : arg3.IsWhole) (arg4 : Memref sig .tc .vmem S4x2048 .f32) (harg4 : arg4.IsWhole) (arg5 : Memref sig .tc .vmem S2048x1024 .bf16) (harg5 : arg5.IsWhole) (arg6 : Memref sig .tc .vmem S1024x2048 .bf16) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole)
  (x0 : Vec F S512x2048 .f32) (x1 : Vec F S1x6x2048 .f32) (x2 : Vec F S4x2048 .f32) (x3 : Vec F S2048x1024 .bf16) (x4 : Vec F S1024x2048 .bf16) (xs0 : Vec F S512x2048 .bf16) (xs1 : Vec F S512x2048 .f32)

/-- The first point of a row block stores the modulated rows. -/
theorem rows_first (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4
      = k0_pay1 x0 (gainIn x2) (scaleRow x1) (shiftRow x1) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S512x2048) hz]
  simp only [View.readAt_eq_ld, harg2.read_unread, harg3.read_unread, harg4.read_unread, View.ld_unit_zero (S := S512x2048) hz]

/-- … and starts the accumulator with its own slice's contribution to the zero block. -/
theorem acc_first (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4
      = k0_pay3 (k0_pay1 x0 (gainIn x2) (scaleRow x1) (shiftRow x1)) x3 k0_pay2 x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x2048) hz]
  simp only [View.readAt_eq_ld, harg2.read_unread, harg3.read_unread, harg4.read_unread, harg5.read_unread, harg6.read_unread,
    View.ld_unit_zero (S := S512x2048) hz, View.ld_unit_zero (S := S2048x1024) hz, View.ld_unit_zero (S := S1024x2048) hz,
    View.readCov_unit_zero (S := S512x2048) _ hz]

/-- A middle point adds its slice's contribution to what the accumulator held. -/
theorem acc_mid (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 x4 xs0 xs1
      = k0_pay3 xs0 x3 xs1 x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S512x2048) hz]
  simp only [View.readAt_eq_ld, harg5.read_unread, harg6.read_unread, harg8.read_unread, harg9.read_unread,
    View.ld_unit_zero (S := S512x2048) hz, View.ld_unit_zero (S := S2048x1024) hz, View.ld_unit_zero (S := S1024x2048) hz]

/-- The last point stores the result's block: the gated, normalised accumulator added to the input rows. -/
theorem out_last (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1
      = k0_pay4 (k0_pay3 xs0 x3 xs1 x4) (gainOut x2) x0 (gateRow x1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S512x2048) hz]
  simp only [View.readAt_eq_ld, harg2.read_unread, harg3.read_unread, harg4.read_unread, harg5.read_unread, harg6.read_unread, harg8.read_unread, harg9.read_unread,
    View.ld_unit_zero (S := S512x2048) hz, View.ld_unit_zero (S := S2048x1024) hz, View.ld_unit_zero (S := S1024x2048) hz,
    View.readCov_unit_zero (S := S512x2048) _ hz]

end

end Cert.MlpIdeal.Block

end
-- ==== Proof.RowMath.lean ====
/-
  The mathematics of one row of the layer, over the extended reals: the root-mean-square norm, the modulation, the
  squared rectifier and the gated residual. No program is named here: the kernels' side and the references' side are
  both read as these functions.
-/
module

public import Idealize.ShloMosaic.Lib.Pointwise

@[expose] public section

noncomputable section

open Idealize.ShloMosaic

namespace Layer

/-- `1 / sqrt (mean (x²) + ε)` of a row of 2048 entries. -/
def invRms (x : Fin 2048 → EReal) : EReal :=
  Ideal.rsqrt (Ideal.div (∑ k, x k * x k) (Ideal.ofBits .f32 0x45000000#32) + Ideal.ofBits .f32 0x358637BD#32)

/-- The normalised row, times its gain. -/
def normRow (x g : Fin 2048 → EReal) (k : Fin 2048) : EReal := x k * invRms x * g k

/-- The normalised row, modulated by a scale and a shift. -/
def modRow (x g sc sh : Fin 2048 → EReal) (k : Fin 2048) : EReal := normRow x g k * (1 + sc k) + sh k

/-- The squared rectifier of the row's product with one column of the first weight. -/
def hiddenAt (u w : Fin 2048 → EReal) : EReal := max (∑ k, u k * w k) 0 * max (∑ k, u k * w k) 0

/-- The input row plus the gated, normalised output row. -/
def resRow (h y g gate : Fin 2048 → EReal) (k : Fin 2048) : EReal := h k + gate k * normRow y g k

/-- A row of the MLP's output before its norm: the sum over the 8192 hidden columns. -/
def mlpRow (u : Fin 2048 → EReal) (w1 : Fin 2048 → Fin 8192 → EReal) (w2 : Fin 8192 → Fin 2048 → EReal) (k : Fin 2048) : EReal :=
  ∑ f : Fin 8192, hiddenAt u (fun a => w1 a f) * w2 f k

/-- Hidden column `f` of the `j`-th slice of 1024. -/
def col (j : ℕ) (hj : j < 8) (f : Fin 1024) : Fin 8192 := ⟨j * 1024 + f.val, by have := f.isLt; omega⟩

/-- What the `j`-th slice of 1024 hidden columns adds to the MLP's row (nothing past the eighth). -/
def mlpPart (u : Fin 2048 → EReal) (w1 : Fin 2048 → Fin 8192 → EReal) (w2 : Fin 8192 → Fin 2048 → EReal) (k : Fin 2048) (j : ℕ) : EReal :=
  if hj : j < 8 then ∑ f : Fin 1024, hiddenAt u (fun a => w1 a (col j hj f)) * w2 (col j hj f) k else 0

/-- The eight slices together are the whole row. -/
theorem sum_mlpPart (u : Fin 2048 → EReal) (w1 : Fin 2048 → Fin 8192 → EReal) (w2 : Fin 8192 → Fin 2048 → EReal) (k : Fin 2048) :
    ∑ j ∈ Finset.range 8, mlpPart u w1 w2 k j = mlpRow u w1 w2 k := by
  unfold mlpRow
  rw [Fin.sum_univ_tiles 8 1024 (by norm_num), Finset.sum_range]
  exact Finset.sum_congr rfl fun j _ => by unfold mlpPart; rw [dif_pos j.isLt]; rfl

/-- A value stored at the first of every `q` points and kept at the others is, at point `n`, the one stored for `n`'s group. -/
theorem kept {α : Type} (q N : ℕ) (S : (n : ℕ) → n < N → α) (U : ℕ → α)
    (first : ∀ n hn, n % q = 0 → S n hn = U (n / q))
    (later : ∀ n hn, ¬(n + 1) % q = 0 → S (n + 1) hn = S n (Nat.lt_of_succ_lt hn)) :
    ∀ n hn, S n hn = U (n / q) := by
  intro n
  induction n with
  | zero => exact fun hn => first 0 hn (Nat.zero_mod q)
  | succ n ih =>
    intro hn
    by_cases h : (n + 1) % q = 0
    · exact first _ hn h
    · have hd : (n + 1) / q = n / q := Nat.succ_div_of_not_dvd fun hd => h (Nat.mod_eq_zero_of_dvd hd)
      rw [later n hn h, ih, hd]

end Layer

end
-- ==== Proof.MlpArray.lean ====
/-
  What the MLP kernel's result array holds: at row `r`, column `k`, the gated residual of the MLP's row `r`.

  The blocks a grid point reads are rows and columns of the argument arrays; the two scratches after point `n` are
  the modulated rows of row block `n / 8` and the sum of the first `n % 8 + 1` slices' contributions.
-/
module

public import proofs.«01_k».proof.Proof.MlpBlock
public import proofs.«01_k».proof.Proof.RowMath
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.MlpIdeal.Block

open Cert.MlpIdeal Cert.MlpIdeal.Gen Layer

/-! ## The payloads at an index -/

theorem modulated_apply (x : Vec Ideal S512x2048 .f32) (g : Vec Ideal S1x2048 .f32) (sc sh : Vec Ideal S1x1x2048 .f32) (r : Fin 512) (k : Fin 2048) :
    k0_pay1 (F := Ideal) x g sc sh (ix2 r k)
      = modRow (fun a => x (ix2 r a)) (fun a => g (ix2 0 a)) (fun a => sc (ix3 0 0 a)) (fun a => sh (ix3 0 0 a)) k := by
  pointwise [k0_pay1, modRow, normRow, invRms]

theorem zero_apply (r : Fin 512) (k : Fin 2048) : k0_pay2 (F := Ideal) (ix2 r k) = 0 := by
  pointwise [k0_pay2]

theorem slice_apply (u : Vec Ideal S512x2048 .bf16) (w1 : Vec Ideal S2048x1024 .bf16) (a : Vec Ideal S512x2048 .f32) (w2 : Vec Ideal S1024x2048 .bf16) (r : Fin 512) (k : Fin 2048) :
    k0_pay3 (F := Ideal) u w1 a w2 (ix2 r k)
      = a (ix2 r k) + ∑ f : Fin 1024, hiddenAt (fun b => u (ix2 r b)) (fun b => w1 (ix2 b f)) * w2 (ix2 f k) := by
  pointwise [k0_pay3, hiddenAt]

theorem residual_apply (y : Vec Ideal S512x2048 .f32) (g : Vec Ideal S1x2048 .f32) (h : Vec Ideal S512x2048 .f32) (gate : Vec Ideal S1x1x2048 .f32) (r : Fin 512) (k : Fin 2048) :
    k0_pay4 (F := Ideal) y g h gate (ix2 r k)
      = resRow (fun a => h (ix2 r a)) (fun a => y (ix2 r a)) (fun a => g (ix2 0 a)) (fun a => gate (ix3 0 0 a)) k := by
  pointwise [k0_pay4, resRow, normRow, invRms]

/-! ## The blocks a point reads -/

variable (m : (ℓ : Loc nD τ sig) → Buf (Elt Ideal) ℓ)

/-- Row `r` of the row block of point `t`. -/
def rowOf (t : Fin cfg0.N) (r : Fin 512) : Fin 32768 :=
  ⟨t.val / 8 * 512 + r.val, by have := r.isLt; have h : t.val < 512 := lt_of_lt_of_eq t.isLt N_0; omega⟩

/-- The batch element of the row block of point `t`. -/
def batchOf (t : Fin cfg0.N) : Fin 4 :=
  ⟨t.val / 128, by have h : t.val < 512 := lt_of_lt_of_eq t.isLt N_0; omega⟩

/-- The index maps of the windows, decided over the grid. -/
theorem idx : ∀ t : Fin cfg0.N, win0_0.index t (0 : Fin 2) = t.val / 8 ∧ win0_0.index t (1 : Fin 2) = 0
    ∧ win0_1.index t (0 : Fin 3) = t.val / 128 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 8
    ∧ win0_4.index t (0 : Fin 2) = t.val % 8 ∧ win0_4.index t (1 : Fin 2) = 0 :=
  (by decide +kernel : ∀ t : Fin grid0.N, _)

/-- The argument arrays, as functions of their coordinates. -/
abbrev H (c : Dev nD) (r : Fin 32768) (k : Fin 2048) : EReal := m ((c : Thread nD τ).loc main_arg0) (ix2 r k)
abbrev M (c : Dev nD) (b : Fin 4) (i : Fin 6) (k : Fin 2048) : EReal := m ((c : Thread nD τ).loc main_arg1) (ix3 b i k)
abbrev G (c : Dev nD) (i : Fin 4) (k : Fin 2048) : EReal := m ((c : Thread nD τ).loc main_arg2) (ix2 i k)
abbrev W1 (c : Dev nD) (k : Fin 2048) (f : Fin 8192) : EReal := m ((c : Thread nD τ).loc main_arg3) (ix2 k f)
abbrev W2 (c : Dev nD) (f : Fin 8192) (k : Fin 2048) : EReal := m ((c : Thread nD τ).loc main_arg4) (ix2 f k)

theorem rows_apply (c : Dev nD) (t : Fin cfg0.N) (r : Fin 512) (k : Fin 2048) :
    (iblk m c 0 t : Vec Ideal S512x2048 .f32) (ix2 r k) = H m c (rowOf t r) k := by
  obtain ⟨e0, e1, -⟩ := idx t
  blk_ext! [iblk, V, rowOf, e0, e1]

theorem mod_apply (c : Dev nD) (t : Fin cfg0.N) (i : Fin 6) (k : Fin 2048) :
    (iblk m c 1 t : Vec Ideal S1x6x2048 .f32) (ix3 0 i k) = M m c (batchOf t) i k := by
  obtain ⟨-, -, e0, e1, e2, -⟩ := idx t
  blk_ext! [iblk, V, batchOf, e0, e1, e2]

theorem gains_apply (c : Dev nD) (t : Fin cfg0.N) (i : Fin 4) (k : Fin 2048) :
    (iblk m c 2 t : Vec Ideal S4x2048 .f32) (ix2 i k) = G m c i k := by
  obtain ⟨-, -, -, -, -, e0, e1, -⟩ := idx t
  blk_ext! [iblk, V, e0, e1]

theorem w1_apply (c : Dev nD) (t : Fin cfg0.N) (k : Fin 2048) (f : Fin 1024) :
    (iblk m c 3 t : Vec Ideal S2048x1024 .bf16) (ix2 k f) = W1 m c k (col (t.val % 8) (Nat.mod_lt _ (by decide)) f) := by
  obtain ⟨-, -, -, -, -, -, -, e0, e1, -⟩ := idx t
  blk_ext! [iblk, V, col, e0, e1]

theorem w2_apply (c : Dev nD) (t : Fin cfg0.N) (f : Fin 1024) (k : Fin 2048) :
    (iblk m c 4 t : Vec Ideal S1024x2048 .bf16) (ix2 f k) = W2 m c (col (t.val % 8) (Nat.mod_lt _ (by decide)) f) k := by
  obtain ⟨-, -, -, -, -, -, -, -, -, e0, e1⟩ := idx t
  blk_ext! [iblk, V, col, e0, e1]

theorem gainIn_apply (x : Vec Ideal S4x2048 .f32) (a : Fin 2048) : gainIn x (ix2 0 a) = x (ix2 2 a) :=
  View.ld_unit_apply_of x _ _ _ _ (ix2 2 a) fun d => match d with | ⟨0, _⟩ => rfl | ⟨1, _⟩ => (Nat.zero_add a.val).symm
theorem gainOut_apply (x : Vec Ideal S4x2048 .f32) (a : Fin 2048) : gainOut x (ix2 0 a) = x (ix2 3 a) :=
  View.ld_unit_apply_of x _ _ _ _ (ix2 3 a) fun d => match d with | ⟨0, _⟩ => rfl | ⟨1, _⟩ => (Nat.zero_add a.val).symm
theorem shiftRow_apply (x : Vec Ideal S1x6x2048 .f32) (a : Fin 2048) : shiftRow x (ix3 0 0 a) = x (ix3 0 3 a) :=
  View.ld_unit_apply_of x _ _ _ _ (ix3 0 3 a) fun d => match d with | ⟨0, _⟩ => rfl | ⟨1, _⟩ => rfl | ⟨2, _⟩ => (Nat.zero_add a.val).symm
theorem scaleRow_apply (x : Vec Ideal S1x6x2048 .f32) (a : Fin 2048) : scaleRow x (ix3 0 0 a) = x (ix3 0 4 a) :=
  View.ld_unit_apply_of x _ _ _ _ (ix3 0 4 a) fun d => match d with | ⟨0, _⟩ => rfl | ⟨1, _⟩ => rfl | ⟨2, _⟩ => (Nat.zero_add a.val).symm
theorem gateRow_apply (x : Vec Ideal S1x6x2048 .f32) (a : Fin 2048) : gateRow x (ix3 0 0 a) = x (ix3 0 5 a) :=
  View.ld_unit_apply_of x _ _ _ _ (ix3 0 5 a) fun d => match d with | ⟨0, _⟩ => rfl | ⟨1, _⟩ => rfl | ⟨2, _⟩ => (Nat.zero_add a.val).symm

/-! ## The two scratches, point by point -/

/-- The modulated rows of the MLP. -/
def uRow (c : Dev nD) (r : Fin 32768) (b : Fin 4) : Fin 2048 → EReal :=
  modRow (H m c r) (G m c 2) (M m c b 4) (M m c b 3)

theorem modulated_block (c : Dev nD) (t : Fin cfg0.N) (r : Fin 512) (k : Fin 2048) :
    k0_pay1 (F := Ideal) (iblk m c 0 t) (gainIn (iblk m c 2 t)) (scaleRow (iblk m c 1 t)) (shiftRow (iblk m c 1 t)) (ix2 r k)
      = uRow m c (rowOf t r) (batchOf t) k := by
  rw [modulated_apply]
  unfold uRow
  congr 1
  · exact funext fun a => rows_apply m c t r a
  · exact funext fun a => (gainIn_apply _ a).trans (gains_apply m c t 2 a)
  · exact funext fun a => (scaleRow_apply _ a).trans (mod_apply m c t 4 a)
  · exact funext fun a => (shiftRow_apply _ a).trans (mod_apply m c t 3 a)

/-- One slice's contribution, over the arrays. -/
theorem slice_block (c : Dev nD) (t : Fin cfg0.N) (u : Vec Ideal S512x2048 .bf16) (a : Vec Ideal S512x2048 .f32) (uu : Fin 2048 → EReal) (r : Fin 512) (k : Fin 2048)
    (hu : ∀ b, u (ix2 r b) = uu b) :
    k0_pay3 (F := Ideal) u (iblk m c 3 t) a (iblk m c 4 t) (ix2 r k)
      = a (ix2 r k) + mlpPart uu (W1 m c) (W2 m c) k (t.val % 8) := by
  rw [slice_apply]
  unfold mlpPart
  rw [dif_pos (Nat.mod_lt _ (by decide))]
  congr 1
  refine Finset.sum_congr rfl fun f _ => ?_
  rw [w2_apply, funext hu]
  congr 2
  exact funext fun b => w1_apply m c t b f

/-- After point `n`: the first scratch holds the modulated rows of the row block, the second the sum of the
    contributions of the slices met so far. -/
theorem scratch (c : Dev nD) : ∀ (n : ℕ) (hn : n < cfg0.N) (r : Fin 512) (k : Fin 2048),
    (outsAt0 m c n hn).2.1 (ix2 r k) = uRow m c (rowOf ⟨n, hn⟩ r) (batchOf ⟨n, hn⟩) k
    ∧ (n % 8 ≠ 7 → (outsAt0 m c n hn).2.2 (ix2 r k)
        = ∑ j ∈ Finset.range (n % 8 + 1), mlpPart (uRow m c (rowOf ⟨n, hn⟩ r) (batchOf ⟨n, hn⟩)) (W1 m c) (W2 m c) k j) := by
  intro n
  induction n with
  | zero =>
    intro hn r k
    have e := outsAt0_A m c ⟨0, hn⟩ rfl (by dsimp only; omega)
    dsimp only at e
    rw [e]
    dsimp only
    rw [rows_first, acc_first]
    refine ⟨modulated_block m c ⟨0, hn⟩ r k, fun _ => ?_⟩
    rw [slice_block m c ⟨0, hn⟩ _ _ _ r k (fun b => modulated_block m c ⟨0, hn⟩ r b), zero_apply]
    simp
  | succ n ih =>
    intro hn r k
    have hN : n + 1 < 512 := lt_of_lt_of_eq hn N_0
    by_cases h0 : (n + 1) % 8 = 0
    · have e := outsAt0_A m c ⟨n + 1, hn⟩ h0 (by dsimp only; omega)
      dsimp only at e
      rw [e]
      dsimp only
      rw [rows_first, acc_first]
      refine ⟨modulated_block m c ⟨n + 1, hn⟩ r k, fun _ => ?_⟩
      rw [slice_block m c ⟨n + 1, hn⟩ _ _ _ r k (fun b => modulated_block m c ⟨n + 1, hn⟩ r b), zero_apply]
      simp [h0]
    · have hn' : n < cfg0.N := Nat.lt_of_succ_lt hn
      have hr : ∀ r : Fin 512, rowOf ⟨n + 1, hn⟩ r = rowOf ⟨n, hn'⟩ r := fun r => Fin.ext (by
        show (n + 1) / 8 * 512 + r.val = n / 8 * 512 + r.val; omega)
      have hb : batchOf ⟨n + 1, hn⟩ = batchOf ⟨n, hn'⟩ := Fin.ext (by show (n + 1) / 128 = n / 128; omega)
      by_cases h1 : (n + 1) % 8 = 7
      · have e := outsAt0_C m c ⟨n + 1, hn⟩ h0 h1
        dsimp only at e
        rw [e]
        dsimp only
        refine ⟨?_, fun h => absurd h1 h⟩
        rw [hr, hb]
        exact (ih hn' r k).1
      · have e := outsAt0_B m c ⟨n + 1, hn⟩ h0 h1
        dsimp only at e
        rw [e]
        dsimp only
        rw [acc_mid]
        refine ⟨?_, fun _ => ?_⟩
        · rw [hr, hb]
          exact (ih hn' r k).1
        · rw [hr, hb]
          refine (slice_block m c ⟨n + 1, hn⟩ _ _ _ r k (fun b => (ih hn' r b).1)).trans ?_
          show (outsAt0 m c n _).2.2 (ix2 r k) + _ = _
          rw [(ih hn' r k).2 (by omega)]
          have h8 : (n + 1) % 8 = n % 8 + 1 := by omega
          show _ + mlpPart _ _ _ k ((n + 1) % 8) = _
          rw [h8, Finset.sum_range_succ _ (n % 8 + 1)]

/-! ## The result array -/

/-- The layer's row `r`: what the result holds there. -/
def outRow (c : Dev nD) (r : Fin 32768) (b : Fin 4) : Fin 2048 → EReal :=
  resRow (H m c r) (mlpRow (uRow m c r b) (W1 m c) (W2 m c)) (G m c 3) (M m c b 5)

/-- What the last point of a row block leaves in the result's block. -/
theorem last_block (c : Dev nD) (n : ℕ) (hn : n < cfg0.N) (h : n % 8 = 7) (r : Fin 512) (k : Fin 2048) :
    (outsAt0 m c n hn).1 (ix2 r k) = outRow m c (rowOf ⟨n, hn⟩ r) (batchOf ⟨n, hn⟩) k := by
  obtain ⟨p, rfl⟩ : ∃ p, n = p + 1 := ⟨n - 1, by omega⟩
  have hN : p + 1 < 512 := lt_of_lt_of_eq hn N_0
  have hn' : p < cfg0.N := Nat.lt_of_succ_lt hn
  have hr : ∀ r : Fin 512, rowOf ⟨p + 1, hn⟩ r = rowOf ⟨p, hn'⟩ r := fun r => Fin.ext (by
    show (p + 1) / 8 * 512 + r.val = p / 8 * 512 + r.val; omega)
  have hb : batchOf ⟨p + 1, hn⟩ = batchOf ⟨p, hn'⟩ := Fin.ext (by show (p + 1) / 128 = p / 128; omega)
  have e := outsAt0_C m c ⟨p + 1, hn⟩ (by dsimp only; omega) h
  dsimp only at e
  rw [e]
  dsimp only
  rw [out_last, residual_apply]
  unfold outRow
  congr 1
  · exact funext fun a => rows_apply m c ⟨p + 1, hn⟩ r a
  · funext a
    refine (slice_block m c ⟨p + 1, hn⟩ _ _ _ r a (fun b => (scratch m c p hn' r b).1)).trans ?_
    show (outsAt0 m c p _).2.2 (ix2 r a) + mlpPart _ _ _ a ((p + 1) % 8) = _
    rw [(scratch m c p hn' r a).2 (by omega), hr, hb, ← sum_mlpPart, Finset.sum_range_succ _ 7, h, show p % 8 + 1 = 7 by omega]
  · exact funext fun a => (gainOut_apply _ a).trans (gains_apply m c ⟨p + 1, hn⟩ 3 a)
  · exact funext fun a => (gateRow_apply _ a).trans (mod_apply m c ⟨p + 1, hn⟩ 5 a)

/-- The result array at an index. -/
theorem result_apply (c : Dev nD) (r : Fin 32768) (k : Fin 2048) :
    (Value.G5 m c : S32768x2048.Idx → EReal) (ix2 r k) = outRow m c r ⟨r.val / 8192, by have := r.isLt; omega⟩ k := by
  have hr := r.isLt
  have hp : Value.pt5Of (ix2 r k) = 8 * (r.val / 512) + 7 := by
    show 8 * (1 * (r.val / 512 - 0) + 1 * (k.val / 2048 - 0)) + 7 = _
    have := k.isLt; omega
  have hlt : 8 * (r.val / 512) + 7 < cfg0.N := lt_of_lt_of_eq (by omega) N_0.symm
  unfold Value.G5
  rw [dif_pos (by rw [hp]; exact hlt), ← Value.outsAt0_sweep m c (Value.pt5Of (ix2 r k)) (by rw [hp]; exact hlt)]
  have hl : Value.loc5Of (ix2 r k) = ix2 ⟨r.val % 512, Nat.mod_lt _ (by decide)⟩ k := by
    blk_ext
  rw [hl, last_block m c _ _ (by rw [hp]; omega)]
  congr 1
  · exact Fin.ext (by show Value.pt5Of (ix2 r k) / 8 * 512 + r.val % 512 = r.val; rw [hp]; omega)
  · exact Fin.ext (by show Value.pt5Of (ix2 r k) / 128 = r.val / 8192; rw [hp]; omega)

end Cert.MlpIdeal.Block

end
-- ==== Proof.MlpRef.lean ====
/- What the MLP's reference computes, read at a row: the same row formula the kernel's result holds. -/
module

public import proofs.«01_k».proof.Proof.Gen.RefMlpIdeal.Read
public import proofs.«01_k».proof.Proof.RowMath
public import Idealize.ShloMosaic.Lib.Pointwise

@[expose] public section

set_option maxRecDepth 16384

noncomputable section

open Idealize.ShloMosaic Idealize.ShloMosaic.TcCoe Idealize.SL.Sem

namespace Cert.RefMlpIdeal.Rows

open Cert.RefMlpIdeal Cert.RefMlpIdeal.Gen Cert.RefMlpIdeal.Read Layer

/-- Row `s` of batch element `b` among the rows laid out one batch element after the other. -/
def rowIn (b : Fin 4) (s : Fin 8192) : Fin 32768 := ⟨b.val * 8192 + s.val, by have := b.isLt; have := s.isLt; omega⟩

variable (x0 : Vec Ideal S32768x2048 .f32) (x1 : Vec Ideal S4x6x2048 .f32) (x2 : Vec Ideal S4x2048 .f32)
  (x3 : Vec Ideal S2048x8192 .f32) (x4 : Vec Ideal S8192x2048 .f32)

theorem input_apply (b : Fin 4) (s : Fin 8192) (k : Fin 2048) :
    val_main_v0 (F := Ideal) x0 (ix3 b s k) = x0 (ix2 (rowIn b s) k) := by
  pointwise [val_main_v0, rowIn]

/-- The modulated row. -/
theorem modulated_apply (b : Fin 4) (s : Fin 8192) (k : Fin 2048) :
    val_main_v27 (F := Ideal) x0 x1 x2 (ix3 b s k)
      = modRow (fun a => x0 (ix2 (rowIn b s) a)) (fun a => x2 (ix2 2 a)) (fun a => x1 (ix3 b 4 a)) (fun a => x1 (ix3 b 3 a)) k := by
  simp only [val_main_v27, val_main_v22, val_main_v26, val_main_v25, val_main_v24, val_main_v23, val_main_v21, val_main_v20,
    val_main_v19, val_main_cst_2, val_main_v18, val_main_v17, val_main_v16, val_main_v15, val_main_v14, val_main_v13, val_main_v12,
    val_main_v11, val_main_v10, val_main_v9, val_main_v8, val_main_cst_1, val_main_v7, val_main_v6, val_main_cst_0, val_main_v5,
    val_main_v4, val_main_cst, val_main_v3, val_main_v2, val_main_v1]
  pointwise [input_apply, modRow, normRow, invRms]

/-- The MLP's row before its norm. -/
theorem mlp_apply (b : Fin 4) (s : Fin 8192) (k : Fin 2048) :
    val_main_v31 (F := Ideal) x0 x1 x2 x3 x4 (ix3 b s k)
      = mlpRow (fun a => val_main_v27 (F := Ideal) x0 x1 x2 (ix3 b s a)) (fun a f => x3 (ix2 a f)) (fun f a => x4 (ix2 f a)) k := by
  simp only [val_main_v31, val_main_v30, val_main_v29, val_main_call0_v0, val_main_call0_cst, val_main_v28]
  pointwise [mlpRow, hiddenAt]

/-- The result row. -/
theorem residual_apply (b : Fin 4) (s : Fin 8192) (k : Fin 2048) :
    val_main_v52 (F := Ideal) x0 x1 x2 x3 x4 (ix3 b s k)
      = resRow (fun a => x0 (ix2 (rowIn b s) a)) (fun a => val_main_v31 (F := Ideal) x0 x1 x2 x3 x4 (ix3 b s a)) (fun a => x2 (ix2 3 a)) (fun a => x1 (ix3 b 5 a)) k := by
  simp only [val_main_v52, val_main_v51, val_main_v50, val_main_v49, val_main_v48, val_main_v47, val_main_v46, val_main_v45,
    val_main_v44, val_main_v43, val_main_v42, val_main_cst_5, val_main_v41, val_main_v40, val_main_cst_4, val_main_v39, val_main_v38,
    val_main_cst_3, val_main_v37, val_main_v36, val_main_v35, val_main_v34, val_main_v33, val_main_v32]
  pointwise [input_apply, resRow, normRow, invRms]

/-- The reference's result at an index. -/
theorem result_apply (r : Fin 32768) (k : Fin 2048) :
    val_main_v53 (F := Ideal) x0 x1 x2 x3 x4 (ix2 r k)
      = resRow (fun a => x0 (ix2 r a))
          (mlpRow (modRow (fun a => x0 (ix2 r a)) (fun a => x2 (ix2 2 a)) (fun a => x1 (ix3 ⟨r.val / 8192, by have := r.isLt; omega⟩ 4 a))
            (fun a => x1 (ix3 ⟨r.val / 8192, by have := r.isLt; omega⟩ 3 a))) (fun a f => x3 (ix2 a f)) (fun f a => x4 (ix2 f a)))
          (fun a => x2 (ix2 3 a)) (fun a => x1 (ix3 ⟨r.val / 8192, by have := r.isLt; omega⟩ 5 a)) k := by
  have hr := r.isLt
  have hrow : rowIn ⟨r.val / 8192, by omega⟩ ⟨r.val % 8192, by omega⟩ = r := Fin.ext (by show r.val / 8192 * 8192 + r.val % 8192 = r.val; omega)
  have e : val_main_v53 (F := Ideal) x0 x1 x2 x3 x4 (ix2 r k)
      = val_main_v52 (F := Ideal) x0 x1 x2 x3 x4 (ix3 ⟨r.val / 8192, by omega⟩ ⟨r.val % 8192, by omega⟩ k) := by
    pointwise [val_main_v53]
  rw [e, residual_apply]
  simp only [mlp_apply, modulated_apply, hrow]

end Cert.RefMlpIdeal.Rows
-- ==== Proof.MlpEq.lean ====
/- The MLP and its reference leave the same array: both hold the row formula of `RowMath`. -/
module

public import proofs.«01_k».proof.Defs
public import proofs.«01_k».proof.Proof.MlpArray
public import proofs.«01_k».proof.Proof.MlpRef

@[expose] public section

set_option maxRecDepth 16384

noncomputable section

open Idealize.ShloMosaic Idealize.ShloMosaic.TcCoe Idealize.SL.Sem

namespace Cert.MlpEq

open Layer

/-- From arguments that agree, the reference's result is the kernel's. -/
theorem result_eq (m : (ℓ : Loc Cert.MlpIdeal.nD Cert.MlpIdeal.τ Cert.MlpIdeal.sig) → Buf (Elt Ideal) ℓ)
    (m' : (ℓ : Loc Cert.RefMlpIdeal.nD Cert.RefMlpIdeal.τ Cert.RefMlpIdeal.sig) → Buf (Elt Ideal) ℓ) (c : Dev Cert.MlpIdeal.nD)
    (h0 : m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0))
    (h1 : m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1))
    (h2 : m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2))
    (h3 : m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3))
    (h4 : m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)) :
    Cert.RefMlpIdeal.Value.res_main_v53 (F := Ideal) m' c = Cert.MlpIdeal.Value.G5 m c := by
  rw [Cert.RefMlpIdeal.Read.val_main_v53_eq, h0, h1, h2, h3, h4]
  funext i
  idx_vars i
  exact (Cert.RefMlpIdeal.Rows.result_apply _ _ _ _ _ _ _).trans (Cert.MlpIdeal.Block.result_apply m c _ _).symm

theorem algebraic : Cert.algebraic_MlpIdeal_RefMlpIdeal := by
  intro m g m' g' _ hag
  refine ⟨fun c => Cert.MlpIdeal.Value.G5 m c, Cert.MlpIdeal.Value.run m g, ?_⟩
  refine (θ_run Cert.RefMlpIdeal.defs _ _).mono (fun _ h c => ⟨(h c).1.trans ?_, (h c).2⟩) (Cert.RefMlpIdeal.Value.run (F := Ideal) m' g')
  exact result_eq m m' c (hag c).1 (hag c).2.1 (hag c).2.2.1 (hag c).2.2.2.1 (hag c).2.2.2.2

end Cert.MlpEq

end
-- ==== Proof.InProjA.lean ====
/-
  What the input projection of an HGRN2 layer leaves in its result: at row `r`, column `k`, the product of the modulated
  row `r` with column `k` of the weight.

  The kernel walks, for each block of 1024 rows, the ten slices of 1024 columns. The first point of a row block stores
  the normalised and modulated rows in a scratch; every point multiplies the scratch with its slice of the weight.
-/
module

public import proofs.«01_k».proof.Proof.Gen.InProjAIdeal.Value
public import proofs.«01_k».proof.Proof.RowMath
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.InProjAIdeal.Block

open Cert.InProjAIdeal Cert.InProjAIdeal.Gen Layer

/-! ## The point's buffers -/

section
variable {F : FTy → Type} [FloatOps F]

theorem hz : (![0, 0] : Fin 2 → Nat) = fun _ => 0 := funext fun a => by fin_cases a <;> rfl

/-- Row `0` of the gains: the gain of the norm before the mixer. -/
abbrev gainIn (x2 : Vec F S4x2048 .f32) : Vec F S1x2048 .f32 :=
  View.ld x2 (Rect.unit (s := S4x2048) ![0, 0] S1x2048.size inb_S4x2048_S1x2048_0_0)
/-- Row `0` of the modulation: the shift. -/
abbrev shiftRow (x1 : Vec F S1x6x2048 .f32) : Vec F S1x1x2048 .f32 :=
  View.ld x1 (Rect.unit (s := S1x6x2048) ![0, 0, 0] S1x1x2048.size inb_S1x6x2048_S1x1x2048_0_0_0)
/-- Row `1` of the modulation: the scale. -/
abbrev scaleRow (x1 : Vec F S1x6x2048 .f32) : Vec F S1x1x2048 .f32 :=
  View.ld x1 (Rect.unit (s := S1x6x2048) ![0, 1, 0] S1x1x2048.size inb_S1x6x2048_S1x1x2048_0_1_0)

variable (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S4x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole)
  (x0 : Vec F S1024x2048 .f32) (x1 : Vec F S1x6x2048 .f32) (x2 : Vec F S4x2048 .f32) (x3 : Vec F S2048x1024 .bf16) (xs0 : Vec F S1024x2048 .bf16)

/-- The first point of a row block stores the modulated rows. -/
theorem rows_first (hc0 : cond0_0 i) :
    sout0_A_0 c i arg2 harg2 arg3 harg3 arg4 harg4 arg5 harg5 arg6 harg6 arg7 harg7 hc0 x0 x1 x2 x3
      = k0_pay1 x0 (gainIn x2) (scaleRow x1) (shiftRow x1) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero (S := S1024x2048) hz]
  simp only [View.readAt_eq_ld, harg2.read_unread, harg3.read_unread, harg4.read_unread, View.ld_unit_zero (S := S1024x2048) hz]

/-- … and the product of those rows with its slice of the weight. -/
theorem out_first (hc0 : cond0_0 i) :
    out0_A_4 c i arg2 harg2 arg3 harg3 arg4 harg4 arg5 harg5 arg6 harg6 arg7 harg7 hc0 x0 x1 x2 x3
      = k0_pay2 (k0_pay1 x0 (gainIn x2) (scaleRow x1) (shiftRow x1)) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S1024x1024) hz]
  simp only [View.readAt_eq_ld, harg2.read_unread, harg3.read_unread, harg4.read_unread, harg5.read_unread,
    View.ld_unit_zero (S := S1024x2048) hz, View.ld_unit_zero (S := S2048x1024) hz, View.readCov_unit_zero (S := S1024x2048) _ hz]

/-- A later point multiplies what the scratch held. -/
theorem out_later (hc0 : ¬cond0_0 i) :
    out0_B_4 c i arg2 harg2 arg3 harg3 arg4 harg4 arg5 harg5 arg6 harg6 arg7 harg7 hc0 x0 x1 x2 x3 xs0 = k0_pay2 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S1024x1024) hz]
  simp only [View.readAt_eq_ld, harg5.read_unread, harg7.read_unread, View.ld_unit_zero (S := S1024x2048) hz, View.ld_unit_zero (S := S2048x1024) hz]

end

/-! ## The payloads at an index -/

theorem modulated_apply (x : Vec Ideal S1024x2048 .f32) (g : Vec Ideal S1x2048 .f32) (sc sh : Vec Ideal S1x1x2048 .f32) (r : Fin 1024) (k : Fin 2048) :
    k0_pay1 (F := Ideal) x g sc sh (ix2 r k)
      = modRow (fun a => x (ix2 r a)) (fun a => g (ix2 0 a)) (fun a => sc (ix3 0 0 a)) (fun a => sh (ix3 0 0 a)) k := by
  pointwise [k0_pay1, modRow, normRow, invRms]

theorem product_apply (u : Vec Ideal S1024x2048 .bf16) (w : Vec Ideal S2048x1024 .bf16) (r f : Fin 1024) :
    k0_pay2 (F := Ideal) u w (ix2 r f) = ∑ a, u (ix2 r a) * w (ix2 a f) := by
  pointwise [k0_pay2]

theorem gainIn_apply (x : Vec Ideal S4x2048 .f32) (a : Fin 2048) : gainIn x (ix2 0 a) = x (ix2 0 a) :=
  View.ld_unit_apply_of x _ _ _ _ (ix2 0 a) fun d => match d with | ⟨0, _⟩ => rfl | ⟨1, _⟩ => (Nat.zero_add a.val).symm
theorem shiftRow_apply (x : Vec Ideal S1x6x2048 .f32) (a : Fin 2048) : shiftRow x (ix3 0 0 a) = x (ix3 0 0 a) :=
  View.ld_unit_apply_of x _ _ _ _ (ix3 0 0 a) fun d => match d with | ⟨0, _⟩ => rfl | ⟨1, _⟩ => rfl | ⟨2, _⟩ => (Nat.zero_add a.val).symm
theorem scaleRow_apply (x : Vec Ideal S1x6x2048 .f32) (a : Fin 2048) : scaleRow x (ix3 0 0 a) = x (ix3 0 1 a) :=
  View.ld_unit_apply_of x _ _ _ _ (ix3 0 1 a) fun d => match d with | ⟨0, _⟩ => rfl | ⟨1, _⟩ => rfl | ⟨2, _⟩ => (Nat.zero_add a.val).symm

/-! ## The arrays -/

variable (m : (ℓ : Loc nD τ sig) → Buf (Elt Ideal) ℓ)

/-- The argument arrays, as functions of their coordinates. -/
abbrev H (c : Dev nD) (r : Fin 32768) (k : Fin 2048) : EReal := m ((c : Thread nD τ).loc main_arg0) (ix2 r k)
abbrev M (c : Dev nD) (b : Fin 4) (i : Fin 6) (k : Fin 2048) : EReal := m ((c : Thread nD τ).loc main_arg1) (ix3 b i k)
abbrev G (c : Dev nD) (i : Fin 4) (k : Fin 2048) : EReal := m ((c : Thread nD τ).loc main_arg2) (ix2 i k)
abbrev W (c : Dev nD) (k : Fin 2048) (f : Fin 10240) : EReal := m ((c : Thread nD τ).loc main_arg3) (ix2 k f)

/-- The rows, the batch element and the columns of point `t`. -/
def rowOf (t : Fin cfg0.N) (r : Fin 1024) : Fin 32768 := ⟨t.val / 10 * 1024 + r.val, by have h : t.val < 320 := lt_of_lt_of_eq t.isLt N_0; omega⟩
def batchOf (t : Fin cfg0.N) : Fin 4 := ⟨t.val / 80, by have h : t.val < 320 := lt_of_lt_of_eq t.isLt N_0; omega⟩
def colOf (t : Fin cfg0.N) (f : Fin 1024) : Fin 10240 := ⟨t.val % 10 * 1024 + f.val, by omega⟩

/-- The index maps of the windows, decided over the grid. -/
theorem idx : ∀ t : Fin cfg0.N, win0_0.index t (0 : Fin 2) = t.val / 10 ∧ win0_0.index t (1 : Fin 2) = 0
    ∧ win0_1.index t (0 : Fin 3) = t.val / 80 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 10
    ∧ win0_4.index t (0 : Fin 2) = t.val / 10 ∧ win0_4.index t (1 : Fin 2) = t.val % 10 :=
  (by decide +kernel : ∀ t : Fin grid0.N, _)

theorem covers : (cfg0.win 4).Covers := by decide +kernel

theorem rows_apply (c : Dev nD) (t : Fin cfg0.N) (r : Fin 1024) (k : Fin 2048) :
    (iblk m c 0 t : Vec Ideal S1024x2048 .f32) (ix2 r k) = H m c (rowOf t r) k := by
  obtain ⟨e0, e1, -⟩ := idx t
  blk_ext! [iblk, V, rowOf, e0, e1]

theorem mod_apply (c : Dev nD) (t : Fin cfg0.N) (i : Fin 6) (k : Fin 2048) :
    (iblk m c 1 t : Vec Ideal S1x6x2048 .f32) (ix3 0 i k) = M m c (batchOf t) i k := by
  obtain ⟨-, -, e0, e1, e2, -⟩ := idx t
  blk_ext! [iblk, V, batchOf, e0, e1, e2]

theorem gains_apply (c : Dev nD) (t : Fin cfg0.N) (i : Fin 4) (k : Fin 2048) :
    (iblk m c 2 t : Vec Ideal S4x2048 .f32) (ix2 i k) = G m c i k := by
  obtain ⟨-, -, -, -, -, e0, e1, -⟩ := idx t
  blk_ext! [iblk, V, e0, e1]

theorem w_apply (c : Dev nD) (t : Fin cfg0.N) (k : Fin 2048) (f : Fin 1024) :
    (iblk m c 3 t : Vec Ideal S2048x1024 .bf16) (ix2 k f) = W m c k (colOf t f) := by
  obtain ⟨-, -, -, -, -, -, -, e0, e1, -⟩ := idx t
  blk_ext! [iblk, V, colOf, e0, e1]

/-- The modulated rows. -/
def uRow (c : Dev nD) (r : Fin 32768) (b : Fin 4) : Fin 2048 → EReal := modRow (H m c r) (G m c 0) (M m c b 1) (M m c b 0)

theorem modulated_block (c : Dev nD) (t : Fin cfg0.N) (r : Fin 1024) (k : Fin 2048) :
    k0_pay1 (F := Ideal) (iblk m c 0 t) (gainIn (iblk m c 2 t)) (scaleRow (iblk m c 1 t)) (shiftRow (iblk m c 1 t)) (ix2 r k)
      = uRow m c (rowOf t r) (batchOf t) k := by
  rw [modulated_apply]
  unfold uRow
  congr 1
  · exact funext fun a => rows_apply m c t r a
  · exact funext fun a => (gainIn_apply _ a).trans (gains_apply m c t 0 a)
  · exact funext fun a => (scaleRow_apply _ a).trans (mod_apply m c t 1 a)
  · exact funext fun a => (shiftRow_apply _ a).trans (mod_apply m c t 0 a)

/-- After point `t` the scratch holds the modulated rows of its row block. -/
theorem scratch (c : Dev nD) (t : Fin cfg0.N) (r : Fin 1024) (k : Fin 2048) :
    (outsAt0 m c t.val t.isLt).2 (ix2 r k) = uRow m c (rowOf t r) (batchOf t) k := by
  let U : ℕ → EReal := fun i => if h : i < 32 then uRow m c ⟨i * 1024 + r.val, by omega⟩ ⟨i / 8, by omega⟩ k else 0
  have hU : ∀ (n : ℕ) (hn : n < cfg0.N), U (n / 10) = uRow m c (rowOf ⟨n, hn⟩ r) (batchOf ⟨n, hn⟩) k := by
    intro n hn
    have h : n < 320 := lt_of_lt_of_eq hn N_0
    have hb : (⟨n / 10 / 8, by omega⟩ : Fin 4) = batchOf ⟨n, hn⟩ := Fin.ext (Nat.div_div_eq_div_mul n 10 8)
    exact (dif_pos (by omega)).trans (by rw [hb]; rfl)
  refine (kept 10 cfg0.N (fun n hn => (outsAt0 m c n hn).2 (ix2 r k)) U ?_ ?_ t.val t.isLt).trans (hU t.val t.isLt)
  · intro n hn h0
    have e := outsAt0_A m c ⟨n, hn⟩ h0
    dsimp only at e ⊢
    rw [e, hU n hn]
    dsimp only
    rw [rows_first]
    exact modulated_block m c ⟨n, hn⟩ r k
  · intro n hn h0
    have e := outsAt0_B m c ⟨n + 1, hn⟩ h0
    dsimp only at e ⊢
    rw [e]
    rfl

/-- What the result holds. -/
def projected (c : Dev nD) (i : S32768x10240.Idx) : EReal :=
  ∑ a, uRow m c (i 0) ⟨(i 0).val / 8192, by have h : (i 0).val < 32768 := (i 0).isLt; omega⟩ a * W m c a (i 1)

/-- What point `t` leaves in the result's block. -/
theorem block (c : Dev nD) (t : Fin cfg0.N) (r f : Fin 1024) :
    (outsAt0 m c t.val t.isLt).1 (ix2 r f) = ∑ a, uRow m c (rowOf t r) (batchOf t) a * W m c a (colOf t f) := by
  by_cases h0 : t.val % 10 = 0
  · rw [outsAt0_A m c t h0]
    dsimp only
    rw [out_first, product_apply]
    exact Finset.sum_congr rfl fun a _ => by rw [modulated_block, w_apply]
  · have hs := scratch m c t r
    rw [outsAt0_B m c t h0] at hs ⊢
    dsimp only
    rw [out_later, product_apply]
    exact Finset.sum_congr rfl fun a _ => by rw [← hs a, w_apply]; rfl

/-- The run leaves the products in the result array. -/
theorem result (c : Dev nD) : (dats m 0 c).arrAt 4 cfg0.N = projected m c := by
  refine (dats m 0 c).arrAt_eq_of_covers 4 _ covers fun t _ y => ?_
  obtain ⟨-, -, -, -, -, -, -, -, -, e0, e1⟩ := idx t
  rw [after0_4]
  blk_simp
  obtain ⟨r, f, rfl⟩ : ∃ r f : Fin 1024, y = ix2 r f := ⟨y 0, y 1, by funext x; fin_cases x <;> rfl⟩
  have he : (win0_4.blk t).view.emb (ix2 r f) = ix2 (rowOf t r) (colOf t f) := by
    blk_ext! [rowOf, colOf, e0, e1]
  rw [he]
  refine (block m c t r f).trans ?_
  unfold projected
  have hb : (⟨(rowOf t r).val / 8192, by have := (rowOf t r).isLt; omega⟩ : Fin 4) = batchOf t := Fin.ext (by
    show (t.val / 10 * 1024 + r.val) / 8192 = t.val / 80; omega)
  show _ = ∑ a, uRow m c (rowOf t r) ⟨(rowOf t r).val / 8192, _⟩ a * W m c a (colOf t f)
  rw [hb]

end Cert.InProjAIdeal.Block

end
-- ==== Proof.InProjRef.lean ====
/-
  What the references of the input projections compute, read at an index: the modulated row times a column of the weight.
  The three references modulate by the same text, so the modulated row is read once and taken over for the others.
-/
module

public import proofs.«01_k».proof.Proof.Gen.RefInProjAIdeal.Read
public import proofs.«01_k».proof.Proof.Gen.RefInProjBIdeal.Read
public import proofs.«01_k».proof.Proof.Gen.RefInProjCIdeal.Read
public import proofs.«01_k».proof.Proof.RowMath
public import Idealize.ShloMosaic.Lib.Pointwise

@[expose] public section

set_option maxRecDepth 16384

noncomputable section

open Idealize.ShloMosaic Idealize.ShloMosaic.TcCoe Idealize.SL.Sem

namespace Cert.InProjRef

open Layer

/-- Row `s` of batch element `b` among the rows laid out one batch element after the other. -/
def rowIn (b : Fin 4) (s : Fin 8192) : Fin 32768 := ⟨b.val * 8192 + s.val, by have := b.isLt; have := s.isLt; omega⟩

/-- The batch element of a row, and the row's place in it. -/
def batch (r : Fin 32768) : Fin 4 := ⟨r.val / 8192, by have := r.isLt; omega⟩
def place (r : Fin 32768) : Fin 8192 := ⟨r.val % 8192, by omega⟩

theorem rowIn_batch (r : Fin 32768) : rowIn (batch r) (place r) = r :=
  Fin.ext (by show r.val / 8192 * 8192 + r.val % 8192 = r.val; omega)

section
open Cert.RefInProjAIdeal Cert.RefInProjAIdeal.Gen Cert.RefInProjAIdeal.Read

theorem input_apply (x0 : Vec Ideal S32768x2048 .f32) (b : Fin 4) (s : Fin 8192) (k : Fin 2048) :
    val_main_v0 (F := Ideal) x0 (ix3 b s k) = x0 (ix2 (rowIn b s) k) := by
  pointwise [val_main_v0, rowIn]

/-- The modulated row. -/
theorem modulated_apply (x0 : Vec Ideal S32768x2048 .f32) (x1 : Vec Ideal S4x6x2048 .f32) (x2 : Vec Ideal S4x2048 .f32)
    (b : Fin 4) (s : Fin 8192) (k : Fin 2048) :
    val_main_v27 (F := Ideal) x0 x1 x2 (ix3 b s k)
      = modRow (fun a => x0 (ix2 (rowIn b s) a)) (fun a => x2 (ix2 0 a)) (fun a => x1 (ix3 b 1 a)) (fun a => x1 (ix3 b 0 a)) k := by
  simp only [val_main_v27, val_main_v22, val_main_v26, val_main_v25, val_main_v24, val_main_v23, val_main_v21, val_main_v20,
    val_main_v19, val_main_cst_2, val_main_v18, val_main_v17, val_main_v16, val_main_v15, val_main_v14, val_main_v13, val_main_v12,
    val_main_v11, val_main_v10, val_main_v9, val_main_v8, val_main_cst_1, val_main_v7, val_main_v6, val_main_cst_0, val_main_v5,
    val_main_v4, val_main_cst, val_main_v3, val_main_v2, val_main_v1]
  pointwise [input_apply, modRow, normRow, invRms]

theorem resultA_apply (x0 : Vec Ideal S32768x2048 .f32) (x1 : Vec Ideal S4x6x2048 .f32) (x2 : Vec Ideal S4x2048 .f32)
    (x3 : Vec Ideal S2048x10240 .f32) (r : Fin 32768) (k : Fin 10240) :
    val_main_v29 (F := Ideal) x0 x1 x2 x3 (ix2 r k)
      = ∑ a, modRow (fun d => x0 (ix2 r d)) (fun d => x2 (ix2 0 d)) (fun d => x1 (ix3 (batch r) 1 d)) (fun d => x1 (ix3 (batch r) 0 d)) a * x3 (ix2 a k) := by
  have e : val_main_v29 (F := Ideal) x0 x1 x2 x3 (ix2 r k) = val_main_v28 (F := Ideal) x0 x1 x2 x3 (ix3 (batch r) (place r) k) := by
    unfold val_main_v29
    generalize val_main_v28 (F := Ideal) x0 x1 x2 x3 = y
    pointwise [batch, place]
  have p : val_main_v28 (F := Ideal) x0 x1 x2 x3 (ix3 (batch r) (place r) k)
      = ∑ a, val_main_v27 (F := Ideal) x0 x1 x2 (ix3 (batch r) (place r) a) * x3 (ix2 a k) := by
    unfold val_main_v28
    generalize val_main_v27 (F := Ideal) x0 x1 x2 = y
    pointwise []
  rw [e, p]
  simp only [modulated_apply, rowIn_batch]

end

section
open Cert.RefInProjBIdeal Cert.RefInProjBIdeal.Gen Cert.RefInProjBIdeal.Read

theorem modulatedB (x0 : Vec Ideal S32768x2048 .f32) (x1 : Vec Ideal S4x6x2048 .f32) (x2 : Vec Ideal S4x2048 .f32) :
    val_main_v27 (F := Ideal) x0 x1 x2 = Cert.RefInProjAIdeal.Read.val_main_v27 (F := Ideal) x0 x1 x2 := rfl

theorem resultB_apply (x0 : Vec Ideal S32768x2048 .f32) (x1 : Vec Ideal S4x6x2048 .f32) (x2 : Vec Ideal S4x2048 .f32)
    (x3 : Vec Ideal S2048x3072 .f32) (r : Fin 32768) (k : Fin 3072) :
    val_main_v29 (F := Ideal) x0 x1 x2 x3 (ix2 r k)
      = ∑ a, modRow (fun d => x0 (ix2 r d)) (fun d => x2 (ix2 0 d)) (fun d => x1 (ix3 (batch r) 1 d)) (fun d => x1 (ix3 (batch r) 0 d)) a * x3 (ix2 a k) := by
  have e : val_main_v29 (F := Ideal) x0 x1 x2 x3 (ix2 r k) = val_main_v28 (F := Ideal) x0 x1 x2 x3 (ix3 (batch r) (place r) k) := by
    unfold val_main_v29
    generalize val_main_v28 (F := Ideal) x0 x1 x2 x3 = y
    pointwise [batch, place]
  have p : val_main_v28 (F := Ideal) x0 x1 x2 x3 (ix3 (batch r) (place r) k)
      = ∑ a, val_main_v27 (F := Ideal) x0 x1 x2 (ix3 (batch r) (place r) a) * x3 (ix2 a k) := by
    unfold val_main_v28
    generalize val_main_v27 (F := Ideal) x0 x1 x2 = y
    pointwise []
  rw [e, p, modulatedB]
  simp only [modulated_apply, rowIn_batch]

end

section
open Cert.RefInProjCIdeal Cert.RefInProjCIdeal.Gen Cert.RefInProjCIdeal.Read

theorem modulatedC (x0 : Vec Ideal S32768x2048 .f32) (x1 : Vec Ideal S4x6x2048 .f32) (x2 : Vec Ideal S4x2048 .f32) :
    val_main_v27 (F := Ideal) x0 x1 x2 = Cert.RefInProjAIdeal.Read.val_main_v27 (F := Ideal) x0 x1 x2 := rfl

theorem resultC_apply (x0 : Vec Ideal S32768x2048 .f32) (x1 : Vec Ideal S4x6x2048 .f32) (x2 : Vec Ideal S4x2048 .f32)
    (x3 : Vec Ideal S2048x10368 .f32) (r : Fin 32768) (k : Fin 10368) :
    val_main_v29 (F := Ideal) x0 x1 x2 x3 (ix2 r k)
      = ∑ a, modRow (fun d => x0 (ix2 r d)) (fun d => x2 (ix2 0 d)) (fun d => x1 (ix3 (batch r) 1 d)) (fun d => x1 (ix3 (batch r) 0 d)) a * x3 (ix2 a k) := by
  have e : val_main_v29 (F := Ideal) x0 x1 x2 x3 (ix2 r k) = val_main_v28 (F := Ideal) x0 x1 x2 x3 (ix3 (batch r) (place r) k) := by
    unfold val_main_v29
    generalize val_main_v28 (F := Ideal) x0 x1 x2 x3 = y
    pointwise [batch, place]
  have p : val_main_v28 (F := Ideal) x0 x1 x2 x3 (ix3 (batch r) (place r) k)
      = ∑ a, val_main_v27 (F := Ideal) x0 x1 x2 (ix3 (batch r) (place r) a) * x3 (ix2 a k) := by
    unfold val_main_v28
    generalize val_main_v27 (F := Ideal) x0 x1 x2 = y
    pointwise []
  rw [e, p, modulatedC]
  simp only [modulated_apply, rowIn_batch]

end

end Cert.InProjRef

end
-- ==== Proof.InProjAEq.lean ====
/- The input projection of the HGRN2 layer and its reference leave the same array. -/
module

public import proofs.«01_k».proof.Defs
public import proofs.«01_k».proof.Proof.InProjA
public import proofs.«01_k».proof.Proof.InProjRef
public import proofs.«01_k».proof.Proof.Gen.RefInProjAIdeal.Run

@[expose] public section

set_option maxRecDepth 16384

noncomputable section

open Idealize.ShloMosaic Idealize.ShloMosaic.TcCoe Idealize.SL.Sem

namespace Cert.InProjAEq

open Cert.InProjAIdeal.Block

theorem algebraic : Cert.algebraic_InProjAIdeal_RefInProjAIdeal := by
  intro m g m' g' _ hag
  refine ⟨fun c => projected m c, (θ_run Cert.InProjAIdeal.defs _ _).mono (fun _ h c => ⟨(h c).1.trans (result m c), (h c).2⟩) (Cert.InProjAIdeal.Value.run_blocks m g), ?_⟩
  refine (θ_run Cert.RefInProjAIdeal.defs _ _).mono (fun _ h c => ⟨(h c).1.trans ?_, (h c).2⟩) (Cert.RefInProjAIdeal.Value.run (F := Ideal) m' g')
  obtain ⟨h0, h1, h2, h3⟩ := hag c
  rw [Cert.RefInProjAIdeal.Read.val_main_v29_eq, h0, h1, h2, h3]
  funext i
  obtain ⟨r, k, rfl⟩ : ∃ (r : Fin 32768) (k : Fin 10240), i = ix2 r k := ⟨i 0, i 1, by funext x; fin_cases x <;> rfl⟩
  exact Cert.InProjRef.resultA_apply _ _ _ _ r k

end Cert.InProjAEq

end
-- ==== Proof.HeadMath.lean ====
/-
  The HGRN2 readout of one row, over the extended reals: the row's 2048 entries are 16 heads of 128; each head is divided
  by its own root mean square, multiplied with its gains and gated. No program is named here.
-/
module

public import Idealize.ShloMosaic.Lib.Pointwise

@[expose] public section

noncomputable section

open Idealize.ShloMosaic

namespace Layer

/-- Entry `e` of head `n` in the row, and the head and the entry of a place in the row. -/
def headCol (n : Fin 16) (e : Fin 128) : Fin 2048 := ⟨n.val * 128 + e.val, by omega⟩
def headOf (d : Fin 2048) : Fin 16 := ⟨d.val / 128, by omega⟩
def laneOf (d : Fin 2048) : Fin 128 := ⟨d.val % 128, by omega⟩

theorem headCol_of (d : Fin 2048) : headCol (headOf d) (laneOf d) = d :=
  Fin.ext (by show d.val / 128 * 128 + d.val % 128 = d.val; omega)

/-- `1 / sqrt (mean (o²) + ε)` of a head. -/
def headInvRms (o : Fin 128 → EReal) : EReal :=
  Ideal.rsqrt (Ideal.div (∑ e, o e * o e) (Ideal.ofBits .f32 0x43000000#32) + Ideal.ofBits .f32 0x358637BD#32)

/-- The gate: `z` times its logistic. -/
def siluAt (z : EReal) : EReal := z * Ideal.logistic z

/-- A normalised and gated head. -/
def gatedHead (o g z : Fin 128 → EReal) (e : Fin 128) : EReal := o e * headInvRms o * g e * siluAt (z e)

/-- The whole row, head by head. -/
def gatedRow (o g z : Fin 2048 → EReal) (d : Fin 2048) : EReal :=
  gatedHead (fun e => o (headCol (headOf d) e)) (fun e => g (headCol (headOf d) e)) (fun e => z (headCol (headOf d) e)) (laneOf d)

end Layer

end
-- ==== Proof.OutProjA.lean ====
/-
  What the output projection of an HGRN2 layer leaves in its result. A point takes 256 rows of the two directions' states.
  It treats the 16 heads one after the other — sum of the directions, norm, gain, gate —, sets them side by side, multiplies
  with the weight, and stores the residual sum.
-/
module

public import proofs.«01_k».proof.Proof.Gen.OutProjAIdeal.Value
public import proofs.«01_k».proof.Proof.RowMath
public import proofs.«01_k».proof.Proof.HeadMath
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.OutProjAIdeal.Block

open Cert.OutProjAIdeal Cert.OutProjAIdeal.Gen Layer

/-! ## The sixteen heads -/

section
variable {F : FTy → Type} [FloatOps F]

theorem hz : (![0, 0] : Fin 2 → Nat) = fun _ => 0 := funext fun a => by fin_cases a <;> rfl

/-- The columns of head `n` in a block of rows, and in the gains. -/
abbrev headRect (n : Fin 16) : Rect S256x2048 :=
  Rect.unit (s := S256x2048) ![0, n.val * 128] S256x128.size (by
    intro d; fin_cases d
    · show 0 + 256 ≤ 256; omega
    · show n.val * 128 + 128 ≤ 2048; omega)
abbrev gainRect (n : Fin 16) : Rect S1x2048 :=
  Rect.unit (s := S1x2048) ![0, n.val * 128] S1x128.size (by
    intro d; fin_cases d
    · show 0 + 1 ≤ 1; omega
    · show n.val * 128 + 128 ≤ 2048; omega)

/-- Head `n` of a block: every head is the first head's text at its own columns. -/
def head (f b : Vec F S256x2048 .f32) (z : Vec F S256x2048 .f32) (g : Vec F S1x2048 .f32) (n : Fin 16) : FVec F S256x128 .bf16 :=
  k0_pay2 (View.ld f (headRect n)) (View.ld b (headRect n)) (View.ld g (gainRect n)) (View.ld z (headRect n))

/-- Sixteen heads side by side. -/
def row (q : Fin 16 → FVec F S256x128 .bf16) : FVec F S256x2048 .bf16 :=
  concatenate S256x2048 1 (List.ofFn fun n : Fin 16 => (⟨S256x128, q n⟩ : (s : Shape) × (s.Idx → F .bf16)))
    concatenates_S256x128_S256x128_S256x128_S256x128_S256x128_S256x128_S256x128_S256x128_S256x128_S256x128_S256x128_S256x128_S256x128_S256x128_S256x128_S256x128_S256x2048_d1

end

theorem row_apply (q : Fin 16 → FVec Ideal S256x128 .bf16) (r : Fin 256) (d : Fin 2048) :
    row q (ix2 r d) = q (headOf d) (ix2 r (laneOf d)) :=
  concatenate_ofFn_apply (t := S256x2048) (s₁ := S256x128) 1 q _ rfl 128 rfl (ix2 r d) (headOf d) rfl (ix2 r (laneOf d)) rfl
    fun b hb => by
      fin_cases b
      · rfl
      · exact absurd rfl hb

theorem head_text_apply (f b : Vec Ideal S256x128 .f32) (g : Vec Ideal S1x128 .f32) (z : Vec Ideal S256x128 .f32) (r : Fin 256) (e : Fin 128) :
    k0_pay2 (F := Ideal) f b g z (ix2 r e)
      = gatedHead (fun a => f (ix2 r a) + b (ix2 r a)) (fun a => g (ix2 0 a)) (fun a => z (ix2 r a)) e := by
  pointwise [k0_pay2, gatedHead, headInvRms, siluAt]

theorem ld_head_apply (x : Vec Ideal S256x2048 .f32) (n : Fin 16) (r : Fin 256) (e : Fin 128) :
    View.ld x (headRect n) (ix2 r e) = x (ix2 r (headCol n e)) :=
  View.ld_unit_apply_of x _ _ _ _ (ix2 r (headCol n e)) fun d => match d with | ⟨0, _⟩ => (Nat.zero_add r.val).symm | ⟨1, _⟩ => rfl
theorem ld_gain_apply (x : Vec Ideal S1x2048 .f32) (n : Fin 16) (e : Fin 128) :
    View.ld x (gainRect n) (ix2 0 e) = x (ix2 0 (headCol n e)) :=
  View.ld_unit_apply_of x _ _ _ _ (ix2 0 (headCol n e)) fun d => match d with | ⟨0, _⟩ => rfl | ⟨1, _⟩ => rfl

/-- The row the weight multiplies. -/
theorem heads_apply (f b z : Vec Ideal S256x2048 .f32) (g : Vec Ideal S1x2048 .f32) (r : Fin 256) (d : Fin 2048) :
    row (head f b z g) (ix2 r d) = gatedRow (fun a => f (ix2 r a) + b (ix2 r a)) (fun a => g (ix2 0 a)) (fun a => z (ix2 r a)) d := by
  rw [row_apply]
  unfold head
  rw [head_text_apply]
  unfold gatedRow
  congr 1
  · exact funext fun a => congrArg₂ (· + ·) (ld_head_apply f _ r a) (ld_head_apply b _ r a)
  · exact funext fun a => ld_gain_apply g _ a
  · exact funext fun a => ld_head_apply z _ r a

/-- The last payload: the product of the heads with the weight, normalised. The fifteenth head arrives before its cast, the
    sixteenth as its four pieces. -/
theorem product_apply (q : Fin 14 → FVec Ideal S256x128 .bf16) (v : FVec Ideal S256x128 .f32) (f b : Vec Ideal S256x128 .f32)
    (g : Vec Ideal S1x128 .f32) (z : Vec Ideal S256x128 .f32) (w : Vec Ideal S2048x2048 .bf16) (a : FVec Ideal S256x2048 .bf16)
    (ha : a = row ![q 0, q 1, q 2, q 3, q 4, q 5, q 6, q 7, q 8, q 9, q 10, q 11, q 12, q 13, truncf .bf16 v bitsLt_bf16_f32, k0_pay2 f b g z])
    (r : Fin 256) (k : Fin 2048) :
    k0_pay28 (F := Ideal) (q 0) (q 1) (q 2) (q 3) (q 4) (q 5) (q 6) (q 7) (q 8) (q 9) (q 10) (q 11) (q 12) (q 13) v f b g z w (ix2 r k)
      = (∑ d, a (ix2 r d) * w (ix2 d k)) * invRms (fun k => ∑ d, a (ix2 r d) * w (ix2 d k)) := by
  have hcat : ∀ (v24 v49 v74 v99 v124 v149 v174 v199 v224 v249 v274 v299 v324 v349 v374 v399 : FVec Ideal S256x128 .bf16) h,
      concatenate S256x2048 1 [⟨S256x128, v24⟩, ⟨S256x128, v49⟩, ⟨S256x128, v74⟩, ⟨S256x128, v99⟩, ⟨S256x128, v124⟩, ⟨S256x128, v149⟩,
        ⟨S256x128, v174⟩, ⟨S256x128, v199⟩, ⟨S256x128, v224⟩, ⟨S256x128, v249⟩, ⟨S256x128, v274⟩, ⟨S256x128, v299⟩, ⟨S256x128, v324⟩,
        ⟨S256x128, v349⟩, ⟨S256x128, v374⟩, ⟨S256x128, v399⟩] h
      = row ![v24, v49, v74, v99, v124, v149, v174, v199, v224, v249, v274, v299, v324, v349, v374, v399] := fun _ _ _ _ _ _ _ _ _ _ _ _ _ _ _ _ _ => rfl
  unfold k0_pay28
  dsimp only
  rw [hcat]
  unfold k0_pay2 at ha
  dsimp only at ha
  rw [← ha]
  pointwise [invRms]

theorem residual_apply (y : Vec Ideal S256x2048 .f32) (g : Vec Ideal S1x2048 .f32) (h : Vec Ideal S256x2048 .f32) (gate : Vec Ideal S1x1x2048 .f32) (r : Fin 256) (k : Fin 2048) :
    k0_pay1 (F := Ideal) y g h gate (ix2 r k) = h (ix2 r k) + gate (ix3 0 0 k) * (y (ix2 r k) * g (ix2 0 k)) := by
  pointwise [k0_pay1]

/-! ## The point's buffer -/

/-- Row `1` of the gains: the gain of the norm after the mixer. -/
abbrev gainOut (x7 : Vec Ideal S4x2048 .f32) : Vec Ideal S1x2048 .f32 := View.ld x7 r0_33
/-- Row `2` of the modulation: the gate. -/
abbrev gateRow (x6 : Vec Ideal S1x6x2048 .f32) : Vec Ideal S1x1x2048 .f32 := View.ld x6 r0_35

theorem gainOut_apply (x : Vec Ideal S4x2048 .f32) (a : Fin 2048) : gainOut x (ix2 0 a) = x (ix2 1 a) :=
  View.ld_unit_apply_of x _ _ _ _ (ix2 1 a) fun d => match d with | ⟨0, _⟩ => rfl | ⟨1, _⟩ => (Nat.zero_add a.val).symm
theorem gateRow_apply (x : Vec Ideal S1x6x2048 .f32) (a : Fin 2048) : gateRow x (ix3 0 0 a) = x (ix3 0 2 a) :=
  View.ld_unit_apply_of x _ _ _ _ (ix3 0 2 a) fun d => match d with | ⟨0, _⟩ => rfl | ⟨1, _⟩ => rfl | ⟨2, _⟩ => (Nat.zero_add a.val).symm

/-- What the point stores: the residual row over the product of the gated heads with the weight. -/
theorem out_apply (x0 x1 x2 : Vec Ideal S256x2048 .f32) (x3 : Vec Ideal S1x2048 .f32) (x4 : Vec Ideal S2048x2048 .bf16) (x5 : Vec Ideal S256x2048 .f32)
    (x6 : Vec Ideal S1x6x2048 .f32) (x7 : Vec Ideal S4x2048 .f32) (r : Fin 256) (k : Fin 2048) :
    out0_8 (F := Ideal) x0 x1 x2 x3 x4 x5 x6 x7 (ix2 r k)
      = resRow (fun a => x5 (ix2 r a))
          (fun a => ∑ d, gatedRow (fun a => x0 (ix2 r a) + x1 (ix2 r a)) (fun a => x3 (ix2 0 a)) (fun a => x2 (ix2 r a)) d * x4 (ix2 d a))
          (fun a => x7 (ix2 1 a)) (fun a => x6 (ix3 0 2 a)) k := by
  unfold out0_8
  rw [View.canon_unit_zero (S := S256x2048) hz]
  simp only [View.ld_unit_zero (S := S256x2048) hz, View.ld_unit_zero (S := S2048x2048) hz]
  refine (residual_apply _ _ _ _ r k).trans ?_
  have hq : row (head x0 x1 x2 x3) = row ![head x0 x1 x2 x3 0, head x0 x1 x2 x3 1, head x0 x1 x2 x3 2, head x0 x1 x2 x3 3, head x0 x1 x2 x3 4,
      head x0 x1 x2 x3 5, head x0 x1 x2 x3 6, head x0 x1 x2 x3 7, head x0 x1 x2 x3 8, head x0 x1 x2 x3 9, head x0 x1 x2 x3 10, head x0 x1 x2 x3 11,
      head x0 x1 x2 x3 12, head x0 x1 x2 x3 13, head x0 x1 x2 x3 14, head x0 x1 x2 x3 15] :=
    congrArg row (funext fun n => by fin_cases n <;> rfl)
  refine congrArg₂ (· + ·) rfl (congrArg₂ (· * ·) (gateRow_apply x6 k) (congrArg₂ (· * ·) ?_ (gainOut_apply x7 k)))
  refine (product_apply (fun n => head x0 x1 x2 x3 (n.castLE (by omega))) _ _ _ _ _ x4 (row (head x0 x1 x2 x3)) hq r k).trans ?_
  simp only [heads_apply]

/-! ## The arrays -/

variable (m : (ℓ : Loc nD τ sig) → Buf (Elt Ideal) ℓ)

/-- The argument arrays, as functions of a row and a column. The states and the projected columns come batch element by
    batch element. -/
abbrev Of (c : Dev nD) (r : Fin 32768) (k : Fin 2048) : EReal := m ((c : Thread nD τ).loc main_arg0) (ix3 (⟨r.val / 8192, by omega⟩ : Fin 4) (⟨r.val % 8192, by omega⟩ : Fin 8192) k)
abbrev Ob (c : Dev nD) (r : Fin 32768) (k : Fin 2048) : EReal := m ((c : Thread nD τ).loc main_arg1) (ix3 (⟨r.val / 8192, by omega⟩ : Fin 4) (⟨r.val % 8192, by omega⟩ : Fin 8192) k)
abbrev Z (c : Dev nD) (r : Fin 32768) (k : Fin 2048) : EReal := m ((c : Thread nD τ).loc main_arg2) (ix3 (⟨r.val / 8192, by omega⟩ : Fin 4) (⟨r.val % 8192, by omega⟩ : Fin 8192) (⟨2048 + k.val, by omega⟩ : Fin 10240))
abbrev N (c : Dev nD) (k : Fin 2048) : EReal := m ((c : Thread nD τ).loc main_arg3) (ix1 k)
abbrev W (c : Dev nD) (a : Fin 2048) (k : Fin 2048) : EReal := m ((c : Thread nD τ).loc main_arg4) (ix2 a k)
abbrev H (c : Dev nD) (r : Fin 32768) (k : Fin 2048) : EReal := m ((c : Thread nD τ).loc main_arg5) (ix2 r k)
abbrev M (c : Dev nD) (b : Fin 4) (i : Fin 6) (k : Fin 2048) : EReal := m ((c : Thread nD τ).loc main_arg6) (ix3 b i k)
abbrev G (c : Dev nD) (i : Fin 4) (k : Fin 2048) : EReal := m ((c : Thread nD τ).loc main_arg7) (ix2 i k)

/-- The rows and the batch element of point `t`. -/
def rowOf (t : Fin cfg0.N) (r : Fin 256) : Fin 32768 := ⟨t.val * 256 + r.val, by have h : t.val < 128 := lt_of_lt_of_eq t.isLt N_0; omega⟩
def batchOf (t : Fin cfg0.N) : Fin 4 := ⟨t.val / 32, by have h : t.val < 128 := lt_of_lt_of_eq t.isLt N_0; omega⟩

/-- The index maps of the windows, decided over the grid. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 1
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val / 32 ∧ win0_6.index t (1 : Fin 3) = 0 ∧ win0_6.index t (2 : Fin 3) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem covers : (cfg0.win 8).Covers := by decide +kernel

theorem forward_apply (c : Dev nD) (t : Fin cfg0.N) (r : Fin 256) (k : Fin 2048) :
    (iblk m c 0 t : Vec Ideal S256x2048 .f32) (ix2 r k) = Of m c (rowOf t r) k := by
  obtain ⟨e0, e1, -⟩ := idx t
  blk_ext! [iblk, V, rowOf, e0, e1]

theorem backward_apply (c : Dev nD) (t : Fin cfg0.N) (r : Fin 256) (k : Fin 2048) :
    (iblk m c 1 t : Vec Ideal S256x2048 .f32) (ix2 r k) = Ob m c (rowOf t r) k := by
  obtain ⟨-, -, e0, e1, -⟩ := idx t
  blk_ext! [iblk, V, rowOf, e0, e1]

theorem gates_apply (c : Dev nD) (t : Fin cfg0.N) (r : Fin 256) (k : Fin 2048) :
    (iblk m c 2 t : Vec Ideal S256x2048 .f32) (ix2 r k) = Z m c (rowOf t r) k := by
  obtain ⟨-, -, -, -, e0, e1, -⟩ := idx t
  blk_ext! [iblk, V, rowOf, e0, e1]

theorem headGains_apply (c : Dev nD) (t : Fin cfg0.N) (k : Fin 2048) :
    (iblk m c 3 t : Vec Ideal S1x2048 .f32) (ix2 0 k) = N m c k := by
  obtain ⟨-, -, -, -, -, -, e0, e1, -⟩ := idx t
  blk_ext! [iblk, V, e0, e1]

theorem w_apply (c : Dev nD) (t : Fin cfg0.N) (a k : Fin 2048) :
    (iblk m c 4 t : Vec Ideal S2048x2048 .bf16) (ix2 a k) = W m c a k := by
  obtain ⟨-, -, -, -, -, -, -, -, e0, e1, -⟩ := idx t
  blk_ext! [iblk, V, e0, e1]

theorem rows_apply (c : Dev nD) (t : Fin cfg0.N) (r : Fin 256) (k : Fin 2048) :
    (iblk m c 5 t : Vec Ideal S256x2048 .f32) (ix2 r k) = H m c (rowOf t r) k := by
  obtain ⟨-, -, -, -, -, -, -, -, -, -, e0, e1, -⟩ := idx t
  blk_ext! [iblk, V, rowOf, e0, e1]

theorem mod_apply (c : Dev nD) (t : Fin cfg0.N) (i : Fin 6) (k : Fin 2048) :
    (iblk m c 6 t : Vec Ideal S1x6x2048 .f32) (ix3 0 i k) = M m c (batchOf t) i k := by
  obtain ⟨-, -, -, -, -, -, -, -, -, -, -, -, e0, e1, e2, -⟩ := idx t
  blk_ext! [iblk, V, batchOf, e0, e1, e2]

theorem gains_apply (c : Dev nD) (t : Fin cfg0.N) (i : Fin 4) (k : Fin 2048) :
    (iblk m c 7 t : Vec Ideal S4x2048 .f32) (ix2 i k) = G m c i k := by
  obtain ⟨-, -, -, -, -, -, -, -, -, -, -, -, -, -, -, e0, e1, -⟩ := idx t
  blk_ext! [iblk, V, e0, e1]

/-- The result's row `r`, in batch element `b`. -/
def resultRow (c : Dev nD) (r : Fin 32768) (b : Fin 4) : Fin 2048 → EReal :=
  resRow (H m c r) (fun k => ∑ d, gatedRow (fun a => Of m c r a + Ob m c r a) (N m c) (Z m c r) d * W m c d k) (G m c 1) (M m c b 2)

/-- What the result holds. -/
def projected (c : Dev nD) (i : S32768x2048.Idx) : EReal :=
  resultRow m c (i 0) ⟨(i 0).val / 8192, by have h : (i 0).val < 32768 := (i 0).isLt; omega⟩ (i 1)

/-- What point `t` leaves in the result's block. -/
theorem block (c : Dev nD) (t : Fin cfg0.N) (r : Fin 256) (k : Fin 2048) :
    out0_8 (F := Ideal) (iblk m c 0 t) (iblk m c 1 t) (iblk m c 2 t) (iblk m c 3 t) (iblk m c 4 t) (iblk m c 5 t) (iblk m c 6 t) (iblk m c 7 t) (ix2 r k)
      = resultRow m c (rowOf t r) (batchOf t) k := by
  rw [out_apply]
  unfold resultRow
  simp only [forward_apply, backward_apply, gates_apply, headGains_apply, w_apply, rows_apply, mod_apply, gains_apply]

/-- The run leaves the residual rows in the result array. -/
theorem result (c : Dev nD) : (dats m 0 c).arrAt 8 cfg0.N = projected m c := by
  refine (dats m 0 c).arrAt_eq_of_covers 8 _ covers fun t _ y => ?_
  obtain ⟨-, -, -, -, -, -, -, -, -, -, -, -, -, -, -, -, -, e0, e1⟩ := idx t
  rw [after0_8]
  blk_simp
  obtain ⟨r, k, rfl⟩ : ∃ (r : Fin 256) (k : Fin 2048), y = ix2 r k := ⟨y 0, y 1, by funext x; fin_cases x <;> rfl⟩
  have he : (win0_8.blk t).view.emb (ix2 r k) = ix2 (rowOf t r) k := by
    blk_ext! [rowOf, e0, e1]
  rw [he]
  refine (block m c t r k).trans ?_
  have hb : (⟨(rowOf t r).val / 8192, by have := (rowOf t r).isLt; omega⟩ : Fin 4) = batchOf t := Fin.ext (by
    show (t.val * 256 + r.val) / 8192 = t.val / 32; omega)
  show _ = resultRow m c (rowOf t r) ⟨(rowOf t r).val / 8192, _⟩ k
  rw [hb]

end Cert.OutProjAIdeal.Block

end
-- ==== Proof.OutProjARef.lean ====
/-
  What the reference of an HGRN2 layer's output projection computes, read at an index: the input's row plus the gated norm of
  the product of the row's gated heads with the weight.
-/
module

public import proofs.«01_k».proof.Proof.Gen.RefOutProjAIdeal.Read
public import proofs.«01_k».proof.Proof.InProjRef
public import proofs.«01_k».proof.Proof.RowMath
public import proofs.«01_k».proof.Proof.HeadMath
public import Idealize.ShloMosaic.Lib.Pointwise

@[expose] public section

set_option maxRecDepth 16384

noncomputable section

open Idealize.ShloMosaic Idealize.ShloMosaic.TcCoe Idealize.SL.Sem

namespace Cert.OutProjARef

open Layer
open Cert.InProjRef (rowIn batch place rowIn_batch)
open Cert.RefOutProjAIdeal Cert.RefOutProjAIdeal.Gen Cert.RefOutProjAIdeal.Read

/-- Column `k` of the gate among the projected columns. -/
def gateCol (k : Fin 2048) : Fin 10240 := ⟨2048 + k.val, by omega⟩

variable (x0 x1 : Vec Ideal S4x8192x2048 .f32) (x2 : Vec Ideal S4x8192x10240 .f32) (x3 : Vec Ideal S2048 .f32)
  (x4 : Vec Ideal S2048x2048 .f32) (x5 : Vec Ideal S32768x2048 .f32) (x6 : Vec Ideal S4x6x2048 .f32) (x7 : Vec Ideal S4x2048 .f32)

theorem input_apply (b : Fin 4) (s : Fin 8192) (k : Fin 2048) :
    val_main_v0 (F := Ideal) x5 (ix3 b s k) = x5 (ix2 (rowIn b s) k) := by
  pointwise [val_main_v0, rowIn]

/-- The summed directions, head by head. -/
theorem summed_apply (b : Fin 4) (s : Fin 8192) (n : Fin 16) (e : Fin 128) :
    val_main_v2 (F := Ideal) x0 x1 (ix4 b s n e) = x0 (ix3 b s (headCol n e)) + x1 (ix3 b s (headCol n e)) := by
  pointwise [val_main_v2, val_main_v1, headCol]

theorem gains_apply (n : Fin 16) (e : Fin 128) : val_main_v3 (F := Ideal) x3 (ix2 n e) = x3 (ix1 (headCol n e)) := by
  pointwise [val_main_v3, headCol]

/-- The normalised heads. -/
theorem normed_apply (b : Fin 4) (s : Fin 8192) (n : Fin 16) (e : Fin 128) :
    val_main_v16 (F := Ideal) x0 x1 x3 (ix4 b s n e)
      = val_main_v2 (F := Ideal) x0 x1 (ix4 b s n e) * headInvRms (fun a => val_main_v2 (F := Ideal) x0 x1 (ix4 b s n a)) * val_main_v3 (F := Ideal) x3 (ix2 n e) := by
  simp only [val_main_v16, val_main_v15, val_main_v14, val_main_v13, val_main_v12, val_main_v11, val_main_v10, val_main_v9, val_main_cst_1,
    val_main_v8, val_main_v7, val_main_cst_0, val_main_v6, val_main_v5, val_main_cst, val_main_v4]
  generalize val_main_v2 (F := Ideal) x0 x1 = y
  generalize val_main_v3 (F := Ideal) x3 = g
  pointwise [headInvRms]

theorem laid_apply (b : Fin 4) (s : Fin 8192) (d : Fin 2048) :
    val_main_v17 (F := Ideal) x0 x1 x3 (ix3 b s d) = val_main_v16 (F := Ideal) x0 x1 x3 (ix4 b s (headOf d) (laneOf d)) := by
  unfold val_main_v17
  generalize val_main_v16 (F := Ideal) x0 x1 x3 = y
  pointwise [headOf, laneOf]

theorem gate_apply (b : Fin 4) (s : Fin 8192) (d : Fin 2048) :
    val_main_v25 (F := Ideal) x2 (ix3 b s d) = siluAt (x2 (ix3 b s (gateCol d))) := by
  pointwise [val_main_v25, val_main_v24, val_main_v23, val_main_cst_3, val_main_v22, val_main_v21, val_main_cst_2, val_main_v20,
    val_main_v19, val_main_v18, siluAt, gateCol]
  rfl

/-- The row the weight multiplies. -/
theorem heads_apply (b : Fin 4) (s : Fin 8192) (d : Fin 2048) :
    val_main_v26 (F := Ideal) x0 x1 x2 x3 (ix3 b s d)
      = gatedRow (fun a => x0 (ix3 b s a) + x1 (ix3 b s a)) (fun a => x3 (ix1 a)) (fun a => x2 (ix3 b s (gateCol a))) d := by
  have p : val_main_v26 (F := Ideal) x0 x1 x2 x3 (ix3 b s d)
      = val_main_v17 (F := Ideal) x0 x1 x3 (ix3 b s d) * val_main_v25 (F := Ideal) x2 (ix3 b s d) := rfl
  rw [p, laid_apply, normed_apply, gate_apply, gains_apply]
  simp only [summed_apply]
  unfold gatedRow gatedHead
  dsimp only
  rw [headCol_of]

theorem product_apply (b : Fin 4) (s : Fin 8192) (k : Fin 2048) :
    val_main_v27 (F := Ideal) x0 x1 x2 x3 x4 (ix3 b s k) = ∑ d, val_main_v26 (F := Ideal) x0 x1 x2 x3 (ix3 b s d) * x4 (ix2 d k) := by
  unfold val_main_v27
  generalize val_main_v26 (F := Ideal) x0 x1 x2 x3 = y
  pointwise []

theorem residual_apply (b : Fin 4) (s : Fin 8192) (k : Fin 2048) :
    val_main_v48 (F := Ideal) x0 x1 x2 x3 x4 x5 x6 x7 (ix3 b s k)
      = resRow (fun a => x5 (ix2 (rowIn b s) a)) (fun a => val_main_v27 (F := Ideal) x0 x1 x2 x3 x4 (ix3 b s a)) (fun a => x7 (ix2 1 a)) (fun a => x6 (ix3 b 2 a)) k := by
  simp only [val_main_v48, val_main_v47, val_main_v46, val_main_v45, val_main_v44, val_main_v43, val_main_v42, val_main_v41, val_main_v40,
    val_main_v39, val_main_v38, val_main_cst_6, val_main_v37, val_main_v36, val_main_cst_5, val_main_v35, val_main_v34, val_main_cst_4,
    val_main_v33, val_main_v32, val_main_v31, val_main_v30, val_main_v29, val_main_v28]
  generalize val_main_v27 (F := Ideal) x0 x1 x2 x3 x4 = y
  pointwise [input_apply, resRow, normRow, invRms]

theorem result_apply (r : Fin 32768) (k : Fin 2048) :
    val_main_v49 (F := Ideal) x0 x1 x2 x3 x4 x5 x6 x7 (ix2 r k)
      = resRow (fun a => x5 (ix2 r a))
          (fun a => ∑ d, gatedRow (fun a => x0 (ix3 (batch r) (place r) a) + x1 (ix3 (batch r) (place r) a)) (fun a => x3 (ix1 a))
            (fun a => x2 (ix3 (batch r) (place r) (gateCol a))) d * x4 (ix2 d a))
          (fun a => x7 (ix2 1 a)) (fun a => x6 (ix3 (batch r) 2 a)) k := by
  have e : val_main_v49 (F := Ideal) x0 x1 x2 x3 x4 x5 x6 x7 (ix2 r k) = val_main_v48 (F := Ideal) x0 x1 x2 x3 x4 x5 x6 x7 (ix3 (batch r) (place r) k) := by
    unfold val_main_v49
    generalize val_main_v48 (F := Ideal) x0 x1 x2 x3 x4 x5 x6 x7 = y
    pointwise [batch, place]
  rw [e, residual_apply]
  simp only [product_apply, heads_apply, rowIn_batch]

end Cert.OutProjARef

end
-- ==== Proof.OutProjAEq.lean ====
/- The output projection of an HGRN2 layer and its reference leave the same array. -/
module

public import proofs.«01_k».proof.Defs
public import proofs.«01_k».proof.Proof.OutProjA
public import proofs.«01_k».proof.Proof.OutProjARef
public import proofs.«01_k».proof.Proof.Gen.RefOutProjAIdeal.Run

@[expose] public section

set_option maxRecDepth 16384

noncomputable section

open Idealize.ShloMosaic Idealize.ShloMosaic.TcCoe Idealize.SL.Sem

namespace Cert.OutProjAEq

open Cert.OutProjAIdeal.Block

theorem algebraic : Cert.algebraic_OutProjAIdeal_RefOutProjAIdeal := by
  intro m g m' g' _ hag
  refine ⟨fun c => projected m c, (θ_run Cert.OutProjAIdeal.defs _ _).mono (fun _ h c => ⟨(h c).1.trans (result m c), (h c).2⟩) (Cert.OutProjAIdeal.Value.run_blocks m g), ?_⟩
  refine (θ_run Cert.RefOutProjAIdeal.defs _ _).mono (fun _ h c => ⟨(h c).1.trans ?_, (h c).2⟩) (Cert.RefOutProjAIdeal.Value.run (F := Ideal) m' g')
  obtain ⟨h0, h1, h2, h3, h4, h5, h6, h7⟩ := hag c
  rw [Cert.RefOutProjAIdeal.Read.val_main_v49_eq, h0, h1, h2, h3, h4, h5, h6, h7]
  funext i
  obtain ⟨r, k, rfl⟩ : ∃ (r : Fin 32768) (k : Fin 2048), i = ix2 r k := ⟨i 0, i 1, by funext x; fin_cases x <;> rfl⟩
  exact Cert.OutProjARef.result_apply _ _ _ _ _ _ _ _ r k

end Cert.OutProjAEq

end
-- ==== Proof.InProjC.lean ====
/-
  What the input projection of a state-space layer leaves in its result. The kernel is the one of `InProjA`, over nine
  slices of 1152 columns; its row formulas are taken over from there.
-/
module

public import proofs.«01_k».proof.Proof.Gen.InProjCIdeal.Value
public import proofs.«01_k».proof.Proof.InProjA
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.InProjCIdeal.Block

open Cert.InProjCIdeal Cert.InProjCIdeal.Gen Layer
open Cert.InProjAIdeal.Block (gainIn shiftRow scaleRow modulated_apply gainIn_apply shiftRow_apply scaleRow_apply)

/-! ## The point's buffers -/

section
variable {F : FTy → Type} [FloatOps F]

theorem hz : (![0, 0] : Fin 2 → Nat) = fun _ => 0 := funext fun a => by fin_cases a <;> rfl

variable (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S4x2048 .f32) (harg4 : arg4.IsWhole) (arg5 : Memref sig .tc .vmem S2048x1152 .bf16) (harg5 : arg5.IsWhole) (arg6 : Memref sig .tc .vmem S1024x1152 .f32) (harg6 : arg6.IsWhole) (arg7 : Memref sig .tc .vmem S1024x2048 .bf16) (harg7 : arg7.IsWhole)
  (x0 : Vec F S1024x2048 .f32) (x1 : Vec F S1x6x2048 .f32) (x2 : Vec F S4x2048 .f32) (x3 : Vec F S2048x1152 .bf16) (xs0 : Vec F S1024x2048 .bf16)

/-- The first point of a row block stores the modulated rows. -/
theorem rows_first (hc0 : cond0_0 i) :
    sout0_A_0 c i arg2 harg2 arg3 harg3 arg4 harg4 arg5 harg5 arg6 harg6 arg7 harg7 hc0 x0 x1 x2 x3
      = k0_pay1 x0 (gainIn x2) (scaleRow x1) (shiftRow x1) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero (S := S1024x2048) hz]
  simp only [View.readAt_eq_ld, harg2.read_unread, harg3.read_unread, harg4.read_unread, View.ld_unit_zero (S := S1024x2048) hz]

/-- … and the product of those rows with its slice of the weight. -/
theorem out_first (hc0 : cond0_0 i) :
    out0_A_4 c i arg2 harg2 arg3 harg3 arg4 harg4 arg5 harg5 arg6 harg6 arg7 harg7 hc0 x0 x1 x2 x3
      = k0_pay2 (k0_pay1 x0 (gainIn x2) (scaleRow x1) (shiftRow x1)) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S1024x1152) hz]
  simp only [View.readAt_eq_ld, harg2.read_unread, harg3.read_unread, harg4.read_unread, harg5.read_unread,
    View.ld_unit_zero (S := S1024x2048) hz, View.ld_unit_zero (S := S2048x1152) hz, View.readCov_unit_zero (S := S1024x2048) _ hz]

/-- A later point multiplies what the scratch held. -/
theorem out_later (hc0 : ¬cond0_0 i) :
    out0_B_4 c i arg2 harg2 arg3 harg3 arg4 harg4 arg5 harg5 arg6 harg6 arg7 harg7 hc0 x0 x1 x2 x3 xs0 = k0_pay2 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S1024x1152) hz]
  simp only [View.readAt_eq_ld, harg5.read_unread, harg7.read_unread, View.ld_unit_zero (S := S1024x2048) hz, View.ld_unit_zero (S := S2048x1152) hz]

end

/-! ## The payloads at an index -/

/-- The rows are modulated by the text of the first projection. -/
theorem modulated_eq (x : Vec Ideal S1024x2048 .f32) (g : Vec Ideal S1x2048 .f32) (sc sh : Vec Ideal S1x1x2048 .f32) :
    k0_pay1 (F := Ideal) x g sc sh = Cert.InProjAIdeal.Gen.k0_pay1 (F := Ideal) x g sc sh := rfl

theorem product_apply (u : Vec Ideal S1024x2048 .bf16) (w : Vec Ideal S2048x1152 .bf16) (r : Fin 1024) (f : Fin 1152) :
    k0_pay2 (F := Ideal) u w (ix2 r f) = ∑ a, u (ix2 r a) * w (ix2 a f) := by
  pointwise [k0_pay2]

/-! ## The arrays -/

variable (m : (ℓ : Loc nD τ sig) → Buf (Elt Ideal) ℓ)

/-- The argument arrays, as functions of their coordinates. -/
abbrev H (c : Dev nD) (r : Fin 32768) (k : Fin 2048) : EReal := m ((c : Thread nD τ).loc main_arg0) (ix2 r k)
abbrev M (c : Dev nD) (b : Fin 4) (i : Fin 6) (k : Fin 2048) : EReal := m ((c : Thread nD τ).loc main_arg1) (ix3 b i k)
abbrev G (c : Dev nD) (i : Fin 4) (k : Fin 2048) : EReal := m ((c : Thread nD τ).loc main_arg2) (ix2 i k)
abbrev W (c : Dev nD) (k : Fin 2048) (f : Fin 10368) : EReal := m ((c : Thread nD τ).loc main_arg3) (ix2 k f)

/-- The rows, the batch element and the columns of point `t`. -/
def rowOf (t : Fin cfg0.N) (r : Fin 1024) : Fin 32768 := ⟨t.val / 9 * 1024 + r.val, by have h : t.val < 288 := lt_of_lt_of_eq t.isLt N_0; omega⟩
def batchOf (t : Fin cfg0.N) : Fin 4 := ⟨t.val / 72, by have h : t.val < 288 := lt_of_lt_of_eq t.isLt N_0; omega⟩
def colOf (t : Fin cfg0.N) (f : Fin 1152) : Fin 10368 := ⟨t.val % 9 * 1152 + f.val, by omega⟩

/-- The index maps of the windows, decided over the grid. -/
theorem idx : ∀ t : Fin cfg0.N, win0_0.index t (0 : Fin 2) = t.val / 9 ∧ win0_0.index t (1 : Fin 2) = 0
    ∧ win0_1.index t (0 : Fin 3) = t.val / 72 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 9
    ∧ win0_4.index t (0 : Fin 2) = t.val / 9 ∧ win0_4.index t (1 : Fin 2) = t.val % 9 :=
  (by decide +kernel : ∀ t : Fin grid0.N, _)

theorem covers : (cfg0.win 4).Covers := by decide +kernel

theorem rows_apply (c : Dev nD) (t : Fin cfg0.N) (r : Fin 1024) (k : Fin 2048) :
    (iblk m c 0 t : Vec Ideal S1024x2048 .f32) (ix2 r k) = H m c (rowOf t r) k := by
  obtain ⟨e0, e1, -⟩ := idx t
  blk_ext! [iblk, V, rowOf, e0, e1]

theorem mod_apply (c : Dev nD) (t : Fin cfg0.N) (i : Fin 6) (k : Fin 2048) :
    (iblk m c 1 t : Vec Ideal S1x6x2048 .f32) (ix3 0 i k) = M m c (batchOf t) i k := by
  obtain ⟨-, -, e0, e1, e2, -⟩ := idx t
  blk_ext! [iblk, V, batchOf, e0, e1, e2]

theorem gains_apply (c : Dev nD) (t : Fin cfg0.N) (i : Fin 4) (k : Fin 2048) :
    (iblk m c 2 t : Vec Ideal S4x2048 .f32) (ix2 i k) = G m c i k := by
  obtain ⟨-, -, -, -, -, e0, e1, -⟩ := idx t
  blk_ext! [iblk, V, e0, e1]

theorem w_apply (c : Dev nD) (t : Fin cfg0.N) (k : Fin 2048) (f : Fin 1152) :
    (iblk m c 3 t : Vec Ideal S2048x1152 .bf16) (ix2 k f) = W m c k (colOf t f) := by
  obtain ⟨-, -, -, -, -, -, -, e0, e1, -⟩ := idx t
  blk_ext! [iblk, V, colOf, e0, e1]

/-- The modulated rows. -/
def uRow (c : Dev nD) (r : Fin 32768) (b : Fin 4) : Fin 2048 → EReal := modRow (H m c r) (G m c 0) (M m c b 1) (M m c b 0)

theorem modulated_block (c : Dev nD) (t : Fin cfg0.N) (r : Fin 1024) (k : Fin 2048) :
    k0_pay1 (F := Ideal) (iblk m c 0 t) (gainIn (iblk m c 2 t)) (scaleRow (iblk m c 1 t)) (shiftRow (iblk m c 1 t)) (ix2 r k)
      = uRow m c (rowOf t r) (batchOf t) k := by
  rw [modulated_eq, modulated_apply]
  unfold uRow
  congr 1
  · exact funext fun a => rows_apply m c t r a
  · exact funext fun a => (gainIn_apply _ a).trans (gains_apply m c t 0 a)
  · exact funext fun a => (scaleRow_apply _ a).trans (mod_apply m c t 1 a)
  · exact funext fun a => (shiftRow_apply _ a).trans (mod_apply m c t 0 a)

/-- After point `t` the scratch holds the modulated rows of its row block. -/
theorem scratch (c : Dev nD) (t : Fin cfg0.N) (r : Fin 1024) (k : Fin 2048) :
    (outsAt0 m c t.val t.isLt).2 (ix2 r k) = uRow m c (rowOf t r) (batchOf t) k := by
  let U : ℕ → EReal := fun i => if h : i < 32 then uRow m c ⟨i * 1024 + r.val, by omega⟩ ⟨i / 8, by omega⟩ k else 0
  have hU : ∀ (n : ℕ) (hn : n < cfg0.N), U (n / 9) = uRow m c (rowOf ⟨n, hn⟩ r) (batchOf ⟨n, hn⟩) k := by
    intro n hn
    have h : n < 288 := lt_of_lt_of_eq hn N_0
    have hb : (⟨n / 9 / 8, by omega⟩ : Fin 4) = batchOf ⟨n, hn⟩ := Fin.ext (Nat.div_div_eq_div_mul n 9 8)
    exact (dif_pos (by omega)).trans (by rw [hb]; rfl)
  refine (kept 9 cfg0.N (fun n hn => (outsAt0 m c n hn).2 (ix2 r k)) U ?_ ?_ t.val t.isLt).trans (hU t.val t.isLt)
  · intro n hn h0
    have e := outsAt0_A m c ⟨n, hn⟩ h0
    dsimp only at e ⊢
    rw [e, hU n hn]
    dsimp only
    rw [rows_first]
    exact modulated_block m c ⟨n, hn⟩ r k
  · intro n hn h0
    have e := outsAt0_B m c ⟨n + 1, hn⟩ h0
    dsimp only at e ⊢
    rw [e]
    rfl

/-- What the result holds. -/
def projected (c : Dev nD) (i : S32768x10368.Idx) : EReal :=
  ∑ a, uRow m c (i 0) ⟨(i 0).val / 8192, by have h : (i 0).val < 32768 := (i 0).isLt; omega⟩ a * W m c a (i 1)

/-- What point `t` leaves in the result's block. -/
theorem block (c : Dev nD) (t : Fin cfg0.N) (r : Fin 1024) (f : Fin 1152) :
    (outsAt0 m c t.val t.isLt).1 (ix2 r f) = ∑ a, uRow m c (rowOf t r) (batchOf t) a * W m c a (colOf t f) := by
  by_cases h0 : t.val % 9 = 0
  · rw [outsAt0_A m c t h0]
    dsimp only
    rw [out_first, product_apply]
    exact Finset.sum_congr rfl fun a _ => by rw [modulated_block, w_apply]
  · have hs := scratch m c t r
    rw [outsAt0_B m c t h0] at hs ⊢
    dsimp only
    rw [out_later, product_apply]
    exact Finset.sum_congr rfl fun a _ => by rw [← hs a, w_apply]; rfl

/-- The run leaves the products in the result array. -/
theorem result (c : Dev nD) : (dats m 0 c).arrAt 4 cfg0.N = projected m c := by
  refine (dats m 0 c).arrAt_eq_of_covers 4 _ covers fun t _ y => ?_
  obtain ⟨-, -, -, -, -, -, -, -, -, e0, e1⟩ := idx t
  rw [after0_4]
  blk_simp
  obtain ⟨r, f, rfl⟩ : ∃ (r : Fin 1024) (f : Fin 1152), y = ix2 r f := ⟨y 0, y 1, by funext x; fin_cases x <;> rfl⟩
  have he : (win0_4.blk t).view.emb (ix2 r f) = ix2 (rowOf t r) (colOf t f) := by
    blk_ext! [rowOf, colOf, e0, e1]
  rw [he]
  refine (block m c t r f).trans ?_
  unfold projected
  have hb : (⟨(rowOf t r).val / 8192, by have := (rowOf t r).isLt; omega⟩ : Fin 4) = batchOf t := Fin.ext (by
    show (t.val / 9 * 1024 + r.val) / 8192 = t.val / 72; omega)
  show _ = ∑ a, uRow m c (rowOf t r) ⟨(rowOf t r).val / 8192, _⟩ a * W m c a (colOf t f)
  rw [hb]

end Cert.InProjCIdeal.Block

end
-- ==== Proof.InProjCEq.lean ====
/- The input projection of the state-space layer and its reference leave the same array. -/
module

public import proofs.«01_k».proof.Defs
public import proofs.«01_k».proof.Proof.InProjC
public import proofs.«01_k».proof.Proof.InProjRef
public import proofs.«01_k».proof.Proof.Gen.RefInProjCIdeal.Run

@[expose] public section

set_option maxRecDepth 16384

noncomputable section

open Idealize.ShloMosaic Idealize.ShloMosaic.TcCoe Idealize.SL.Sem

namespace Cert.InProjCEq

open Cert.InProjCIdeal.Block

theorem algebraic : Cert.algebraic_InProjCIdeal_RefInProjCIdeal := by
  intro m g m' g' _ hag
  refine ⟨fun c => projected m c, (θ_run Cert.InProjCIdeal.defs _ _).mono (fun _ h c => ⟨(h c).1.trans (result m c), (h c).2⟩) (Cert.InProjCIdeal.Value.run_blocks m g), ?_⟩
  refine (θ_run Cert.RefInProjCIdeal.defs _ _).mono (fun _ h c => ⟨(h c).1.trans ?_, (h c).2⟩) (Cert.RefInProjCIdeal.Value.run (F := Ideal) m' g')
  obtain ⟨h0, h1, h2, h3⟩ := hag c
  rw [Cert.RefInProjCIdeal.Read.val_main_v29_eq, h0, h1, h2, h3]
  funext i
  obtain ⟨r, k, rfl⟩ : ∃ (r : Fin 32768) (k : Fin 10368), i = ix2 r k := ⟨i 0, i 1, by funext x; fin_cases x <;> rfl⟩
  exact Cert.InProjRef.resultC_apply _ _ _ _ r k

end Cert.InProjCEq

end
-- ==== Proof.OutProjB.lean ====
/-
  What the output projection of an attention layer leaves in its result: each row of the input plus the gated norm of the
  mixed row times the weight.

  The kernel walks the blocks of 512 rows. A point clears its scratch, adds the product of its rows with the weight, and
  stores the residual sum. The row formulas are stated for any block, and taken over by the wider projection.
-/
module

public import proofs.«01_k».proof.Proof.Gen.OutProjBIdeal.Value
public import proofs.«01_k».proof.Proof.RowMath
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.OutProjBIdeal.Block

open Cert.OutProjBIdeal Cert.OutProjBIdeal.Gen Layer

/-! ## The point's buffers -/

section
variable {F : FTy → Type} [FloatOps F]

theorem hz : (![0, 0] : Fin 2 → Nat) = fun _ => 0 := funext fun a => by fin_cases a <;> rfl

/-- Row `1` of the gains: the gain of the norm after the mixer. -/
abbrev gainOut (x4 : Vec F S4x2048 .f32) : Vec F S1x2048 .f32 :=
  View.ld x4 (Rect.unit (s := S4x2048) ![1, 0] S1x2048.size inb_S4x2048_S1x2048_1_0)
/-- Row `2` of the modulation: the gate. -/
abbrev gateRow (x3 : Vec F S1x6x2048 .f32) : Vec F S1x1x2048 .f32 :=
  View.ld x3 (Rect.unit (s := S1x6x2048) ![0, 2, 0] S1x1x2048.size inb_S1x6x2048_S1x1x2048_0_2_0)

variable (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x6x2048 .f32) (harg5 : arg5.IsWhole) (arg6 : Memref sig .tc .vmem S4x2048 .f32) (harg6 : arg6.IsWhole) (arg7 : Memref sig .tc .vmem S512x2048 .f32) (harg7 : arg7.IsWhole) (arg8 : Memref sig .tc .vmem S512x2048 .f32) (harg8 : arg8.IsWhole)
  (x0 : Vec F S512x2048 .bf16) (x1 : Vec F S2048x2048 .bf16) (x2 : Vec F S512x2048 .f32) (x3 : Vec F S1x6x2048 .f32) (x4 : Vec F S4x2048 .f32)

/-- A point stores the residual sum of the product it has just accumulated. -/
theorem out_eq (hc0 : cond0_0 i) (hc1 : cond0_1 i) :
    out0_A_5 c i arg2 harg2 arg3 harg3 arg4 harg4 arg5 harg5 arg6 harg6 arg7 harg7 arg8 harg8 hc0 hc1 x0 x1 x2 x3 x4
      = k0_pay3 (k0_pay2 (k0_pay1 (F := F)) x0 x1) (gainOut x4) x2 (gateRow x3) := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero (S := S512x2048) hz]
  simp only [View.readAt_eq_ld, harg2.read_unread, harg3.read_unread, harg4.read_unread, harg5.read_unread, harg6.read_unread,
    View.ld_unit_zero (S := S512x2048) hz, View.ld_unit_zero (S := S2048x2048) hz, View.readCov_unit_zero (S := S512x2048) _ hz, View.readCov_cons_toLoadRect]

end

/-! ## The payloads at an index -/

theorem cleared_apply (r : Fin 512) (k : Fin 2048) : k0_pay1 (F := Ideal) (ix2 r k) = 0 := by
  pointwise [k0_pay1]

theorem added_apply (acc : Vec Ideal S512x2048 .f32) (a : Vec Ideal S512x2048 .bf16) (w : Vec Ideal S2048x2048 .bf16) (r : Fin 512) (k : Fin 2048) :
    k0_pay2 (F := Ideal) acc a w (ix2 r k) = acc (ix2 r k) + ∑ d, a (ix2 r d) * w (ix2 d k) := by
  pointwise [k0_pay2]

theorem residual_apply (y : Vec Ideal S512x2048 .f32) (g : Vec Ideal S1x2048 .f32) (h : Vec Ideal S512x2048 .f32) (gate : Vec Ideal S1x1x2048 .f32) (r : Fin 512) (k : Fin 2048) :
    k0_pay3 (F := Ideal) y g h gate (ix2 r k)
      = resRow (fun a => h (ix2 r a)) (fun a => y (ix2 r a)) (fun a => g (ix2 0 a)) (fun a => gate (ix3 0 0 a)) k := by
  pointwise [k0_pay3, resRow, normRow, invRms]

theorem gainOut_apply (x : Vec Ideal S4x2048 .f32) (a : Fin 2048) : gainOut x (ix2 0 a) = x (ix2 1 a) :=
  View.ld_unit_apply_of x _ _ _ _ (ix2 1 a) fun d => match d with | ⟨0, _⟩ => rfl | ⟨1, _⟩ => (Nat.zero_add a.val).symm
theorem gateRow_apply (x : Vec Ideal S1x6x2048 .f32) (a : Fin 2048) : gateRow x (ix3 0 0 a) = x (ix3 0 2 a) :=
  View.ld_unit_apply_of x _ _ _ _ (ix3 0 2 a) fun d => match d with | ⟨0, _⟩ => rfl | ⟨1, _⟩ => rfl | ⟨2, _⟩ => (Nat.zero_add a.val).symm

/-! ## The arrays -/

variable (m : (ℓ : Loc nD τ sig) → Buf (Elt Ideal) ℓ)

/-- The argument arrays, as functions of their coordinates. -/
abbrev A (c : Dev nD) (r : Fin 32768) (k : Fin 2048) : EReal := m ((c : Thread nD τ).loc main_arg0) (ix2 r k)
abbrev W (c : Dev nD) (a : Fin 2048) (k : Fin 2048) : EReal := m ((c : Thread nD τ).loc main_arg1) (ix2 a k)
abbrev H (c : Dev nD) (r : Fin 32768) (k : Fin 2048) : EReal := m ((c : Thread nD τ).loc main_arg2) (ix2 r k)
abbrev M (c : Dev nD) (b : Fin 4) (i : Fin 6) (k : Fin 2048) : EReal := m ((c : Thread nD τ).loc main_arg3) (ix3 b i k)
abbrev G (c : Dev nD) (i : Fin 4) (k : Fin 2048) : EReal := m ((c : Thread nD τ).loc main_arg4) (ix2 i k)

/-- The rows and the batch element of point `t`. -/
def rowOf (t : Fin cfg0.N) (r : Fin 512) : Fin 32768 := ⟨t.val * 512 + r.val, by have h : t.val < 64 := lt_of_lt_of_eq t.isLt N_0; omega⟩
def batchOf (t : Fin cfg0.N) : Fin 4 := ⟨t.val / 16, by have h : t.val < 64 := lt_of_lt_of_eq t.isLt N_0; omega⟩

/-- The index maps of the windows, decided over the grid. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 16 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem covers : (cfg0.win 5).Covers := by decide +kernel

theorem a_apply (c : Dev nD) (t : Fin cfg0.N) (r : Fin 512) (k : Fin 2048) :
    (iblk m c 0 t : Vec Ideal S512x2048 .bf16) (ix2 r k) = A m c (rowOf t r) k := by
  obtain ⟨e0, e1, -⟩ := idx t
  blk_ext! [iblk, V, rowOf, e0, e1]

theorem w_apply (c : Dev nD) (t : Fin cfg0.N) (a k : Fin 2048) :
    (iblk m c 1 t : Vec Ideal S2048x2048 .bf16) (ix2 a k) = W m c a k := by
  obtain ⟨-, -, e0, e1, -⟩ := idx t
  blk_ext! [iblk, V, e0, e1]

theorem rows_apply (c : Dev nD) (t : Fin cfg0.N) (r : Fin 512) (k : Fin 2048) :
    (iblk m c 2 t : Vec Ideal S512x2048 .f32) (ix2 r k) = H m c (rowOf t r) k := by
  obtain ⟨-, -, -, -, e0, e1, -⟩ := idx t
  blk_ext! [iblk, V, rowOf, e0, e1]

theorem mod_apply (c : Dev nD) (t : Fin cfg0.N) (i : Fin 6) (k : Fin 2048) :
    (iblk m c 3 t : Vec Ideal S1x6x2048 .f32) (ix3 0 i k) = M m c (batchOf t) i k := by
  obtain ⟨-, -, -, -, -, -, e0, e1, e2, -⟩ := idx t
  blk_ext! [iblk, V, batchOf, e0, e1, e2]

theorem gains_apply (c : Dev nD) (t : Fin cfg0.N) (i : Fin 4) (k : Fin 2048) :
    (iblk m c 4 t : Vec Ideal S4x2048 .f32) (ix2 i k) = G m c i k := by
  obtain ⟨-, -, -, -, -, -, -, -, -, e0, e1, -⟩ := idx t
  blk_ext! [iblk, V, e0, e1]

/-- The result's row `r`, in batch element `b`. -/
def resultRow (c : Dev nD) (r : Fin 32768) (b : Fin 4) : Fin 2048 → EReal :=
  resRow (H m c r) (fun k => ∑ d, A m c r d * W m c d k) (G m c 1) (M m c b 2)

/-- What the result holds. -/
def projected (c : Dev nD) (i : S32768x2048.Idx) : EReal :=
  resultRow m c (i 0) ⟨(i 0).val / 8192, by have h : (i 0).val < 32768 := (i 0).isLt; omega⟩ (i 1)

/-- What point `t` leaves in the result's block. -/
theorem block (c : Dev nD) (t : Fin cfg0.N) (r : Fin 512) (k : Fin 2048) :
    outsAt0 m c t (ix2 r k) = resultRow m c (rowOf t r) (batchOf t) k := by
  unfold outsAt0
  rw [out_eq, residual_apply]
  unfold resultRow
  congr 1
  · exact funext fun a => rows_apply m c t r a
  · funext a
    rw [added_apply, cleared_apply, zero_add]
    exact Finset.sum_congr rfl fun d _ => by rw [a_apply, w_apply]
  · exact funext fun a => (gainOut_apply _ a).trans (gains_apply m c t 1 a)
  · exact funext fun a => (gateRow_apply _ a).trans (mod_apply m c t 2 a)

/-- The run leaves the residual rows in the result array. -/
theorem result (c : Dev nD) : (dats m 0 c).arrAt 5 cfg0.N = projected m c := by
  refine (dats m 0 c).arrAt_eq_of_covers 5 _ covers fun t _ y => ?_
  obtain ⟨-, -, -, -, -, -, -, -, -, -, -, e0, e1⟩ := idx t
  rw [after0_5]
  blk_simp
  obtain ⟨r, k, rfl⟩ : ∃ (r : Fin 512) (k : Fin 2048), y = ix2 r k := ⟨y 0, y 1, by funext x; fin_cases x <;> rfl⟩
  have he : (win0_5.blk t).view.emb (ix2 r k) = ix2 (rowOf t r) k := by
    blk_ext! [rowOf, e0, e1]
  rw [he]
  refine (block m c t r k).trans ?_
  have hb : (⟨(rowOf t r).val / 8192, by have := (rowOf t r).isLt; omega⟩ : Fin 4) = batchOf t := Fin.ext (by
    show (t.val * 512 + r.val) / 8192 = t.val / 16; omega)
  show _ = resultRow m c (rowOf t r) ⟨(rowOf t r).val / 8192, _⟩ k
  rw [hb]

end Cert.OutProjBIdeal.Block

end
-- ==== Proof.OutProjC.lean ====
/-
  What the output projection of a state-space layer leaves in its result. The kernel is the one of `OutProjB` over a mixed
  row twice as wide: a block of 512 rows takes two points, the first of which clears the scratch and adds its half of the
  product, the second adds the other half and stores the residual sum. The row formulas are taken over from there.
-/
module

public import proofs.«01_k».proof.Proof.Gen.OutProjCIdeal.Value
public import proofs.«01_k».proof.Proof.OutProjB
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.OutProjCIdeal.Block

open Cert.OutProjCIdeal Cert.OutProjCIdeal.Gen Layer
open Cert.OutProjBIdeal.Block (gainOut gateRow gainOut_apply gateRow_apply cleared_apply added_apply residual_apply)

/-! ## The point's buffers -/

section
variable {F : FTy → Type} [FloatOps F]

theorem hz : (![0, 0] : Fin 2 → Nat) = fun _ => 0 := funext fun a => by fin_cases a <;> rfl

variable (c : Dev nD) (i : grid0.Coords) (arg2 : Memref sig .tc .vmem S512x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1x6x2048 .f32) (harg5 : arg5.IsWhole) (arg6 : Memref sig .tc .vmem S4x2048 .f32) (harg6 : arg6.IsWhole) (arg7 : Memref sig .tc .vmem S512x2048 .f32) (harg7 : arg7.IsWhole) (arg8 : Memref sig .tc .vmem S512x2048 .f32) (harg8 : arg8.IsWhole)
  (x0 : Vec F S512x2048 .bf16) (x1 : Vec F S2048x2048 .bf16) (x2 : Vec F S512x2048 .f32) (x3 : Vec F S1x6x2048 .f32) (x4 : Vec F S4x2048 .f32) (xs0 : Vec F S512x2048 .f32)

/-- The first point of a row block leaves its half of the product in the scratch. -/
theorem half_first (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x2048) hz]
  simp only [View.readAt_eq_ld, harg2.read_unread, harg3.read_unread,
    View.ld_unit_zero (S := S512x2048) hz, View.ld_unit_zero (S := S2048x2048) hz, View.readCov_unit_zero (S := S512x2048) _ hz]

/-- The second adds the other half and stores the residual sum. -/
theorem out_second (hc0 : ¬cond0_0 i) (hc1 : cond0_1 i) :
    out0_B_5 c i arg2 harg2 arg3 harg3 arg4 harg4 arg5 harg5 arg6 harg6 arg7 harg7 arg8 harg8 hc0 hc1 x0 x1 x2 x3 x4 xs0
      = k0_pay3 (k0_pay2 xs0 x0 x1) (gainOut x4) x2 (gateRow x3) := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S512x2048) hz]
  simp only [View.readAt_eq_ld, harg2.read_unread, harg3.read_unread, harg4.read_unread, harg5.read_unread, harg6.read_unread, harg8.read_unread,
    View.ld_unit_zero (S := S512x2048) hz, View.ld_unit_zero (S := S2048x2048) hz, View.readCov_unit_zero (S := S512x2048) _ hz, View.readCov_cons_toLoadRect]

end

/-! ## The payloads are those of the narrower projection -/

theorem cleared_eq : k0_pay1 (F := Ideal) = Cert.OutProjBIdeal.Gen.k0_pay1 (F := Ideal) := rfl
theorem added_eq (acc : Vec Ideal S512x2048 .f32) (a : Vec Ideal S512x2048 .bf16) (w : Vec Ideal S2048x2048 .bf16) :
    k0_pay2 (F := Ideal) acc a w = Cert.OutProjBIdeal.Gen.k0_pay2 (F := Ideal) acc a w := rfl
theorem residual_eq (y : Vec Ideal S512x2048 .f32) (g : Vec Ideal S1x2048 .f32) (h : Vec Ideal S512x2048 .f32) (gate : Vec Ideal S1x1x2048 .f32) :
    k0_pay3 (F := Ideal) y g h gate = Cert.OutProjBIdeal.Gen.k0_pay3 (F := Ideal) y g h gate := rfl

/-! ## The arrays -/

variable (m : (ℓ : Loc nD τ sig) → Buf (Elt Ideal) ℓ)

/-- The argument arrays, as functions of their coordinates. -/
abbrev A (c : Dev nD) (r : Fin 32768) (k : Fin 4096) : EReal := m ((c : Thread nD τ).loc main_arg0) (ix2 r k)
abbrev W (c : Dev nD) (a : Fin 4096) (k : Fin 2048) : EReal := m ((c : Thread nD τ).loc main_arg1) (ix2 a k)
abbrev H (c : Dev nD) (r : Fin 32768) (k : Fin 2048) : EReal := m ((c : Thread nD τ).loc main_arg2) (ix2 r k)
abbrev M (c : Dev nD) (b : Fin 4) (i : Fin 6) (k : Fin 2048) : EReal := m ((c : Thread nD τ).loc main_arg3) (ix3 b i k)
abbrev G (c : Dev nD) (i : Fin 4) (k : Fin 2048) : EReal := m ((c : Thread nD τ).loc main_arg4) (ix2 i k)

/-- The rows and the batch element of point `t`. -/
def rowOf (t : Fin cfg0.N) (r : Fin 512) : Fin 32768 := ⟨t.val / 2 * 512 + r.val, by have h : t.val < 128 := lt_of_lt_of_eq t.isLt N_0; omega⟩
def batchOf (t : Fin cfg0.N) : Fin 4 := ⟨t.val / 32, by have h : t.val < 128 := lt_of_lt_of_eq t.isLt N_0; omega⟩
/-- Column `d` of the `j`-th half of the mixed row. -/
def halfCol (j : Fin 2) (d : Fin 2048) : Fin 4096 := ⟨j.val * 2048 + d.val, by omega⟩
/-- A sum over the mixed row is the sum over its two halves. -/
theorem sum_halves (f : Fin 4096 → EReal) : ∑ d, f d = ∑ d, f (halfCol 0 d) + ∑ d, f (halfCol 1 d) := by
  rw [Fin.sum_univ_tiles 2 2048 (by norm_num), Fin.sum_univ_two]
  rfl
/-- The half of point `t`. -/
def halfOf (t : Fin cfg0.N) : Fin 2 := ⟨t.val % 2, by omega⟩

/-- The index maps of the windows, decided over the grid. -/
theorem idx : ∀ t : Fin cfg0.N, win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = t.val / 2 ∧ win0_2.index t (1 : Fin 2) = 0
    ∧ win0_3.index t (0 : Fin 3) = t.val / 32 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val / 2 ∧ win0_5.index t (1 : Fin 2) = 0 :=
  (by decide +kernel : ∀ t : Fin grid0.N, _)

theorem covers : (cfg0.win 5).Covers := by decide +kernel

theorem a_apply (c : Dev nD) (t : Fin cfg0.N) (r : Fin 512) (k : Fin 2048) :
    (iblk m c 0 t : Vec Ideal S512x2048 .bf16) (ix2 r k) = A m c (rowOf t r) (halfCol (halfOf t) k) := by
  obtain ⟨e0, e1, -⟩ := idx t
  blk_ext! [iblk, V, rowOf, halfCol, halfOf, e0, e1]

theorem w_apply (c : Dev nD) (t : Fin cfg0.N) (a k : Fin 2048) :
    (iblk m c 1 t : Vec Ideal S2048x2048 .bf16) (ix2 a k) = W m c (halfCol (halfOf t) a) k := by
  obtain ⟨-, -, e0, e1, -⟩ := idx t
  blk_ext! [iblk, V, halfCol, halfOf, e0, e1]

theorem rows_apply (c : Dev nD) (t : Fin cfg0.N) (r : Fin 512) (k : Fin 2048) :
    (iblk m c 2 t : Vec Ideal S512x2048 .f32) (ix2 r k) = H m c (rowOf t r) k := by
  obtain ⟨-, -, -, -, e0, e1, -⟩ := idx t
  blk_ext! [iblk, V, rowOf, e0, e1]

theorem mod_apply (c : Dev nD) (t : Fin cfg0.N) (i : Fin 6) (k : Fin 2048) :
    (iblk m c 3 t : Vec Ideal S1x6x2048 .f32) (ix3 0 i k) = M m c (batchOf t) i k := by
  obtain ⟨-, -, -, -, -, -, e0, e1, e2, -⟩ := idx t
  blk_ext! [iblk, V, batchOf, e0, e1, e2]

theorem gains_apply (c : Dev nD) (t : Fin cfg0.N) (i : Fin 4) (k : Fin 2048) :
    (iblk m c 4 t : Vec Ideal S4x2048 .f32) (ix2 i k) = G m c i k := by
  obtain ⟨-, -, -, -, -, -, -, -, -, e0, e1, -⟩ := idx t
  blk_ext! [iblk, V, e0, e1]

/-- The result's row `r`, in batch element `b`. -/
def resultRow (c : Dev nD) (r : Fin 32768) (b : Fin 4) : Fin 2048 → EReal :=
  resRow (H m c r) (fun k => ∑ d, A m c r d * W m c d k) (G m c 1) (M m c b 2)

/-- What the result holds. -/
def projected (c : Dev nD) (i : S32768x2048.Idx) : EReal :=
  resultRow m c (i 0) ⟨(i 0).val / 8192, by have h : (i 0).val < 32768 := (i 0).isLt; omega⟩ (i 1)

/-- After the first point of a row block the scratch holds the first half of the product. -/
theorem scratch (c : Dev nD) (t : Fin cfg0.N) (h0 : t.val % 2 = 0) (r : Fin 512) (k : Fin 2048) :
    (outsAt0 m c t.val t.isLt).2 (ix2 r k) = ∑ d, A m c (rowOf t r) (halfCol 0 d) * W m c (halfCol 0 d) k := by
  have hh : halfOf t = 0 := Fin.ext h0
  rw [outsAt0_A m c t h0 (by omega)]
  dsimp only
  rw [half_first, added_eq, cleared_eq, added_apply, cleared_apply, zero_add]
  exact Finset.sum_congr rfl fun d _ => by rw [a_apply, w_apply, hh]

/-- What the second point leaves in the result's block. -/
theorem block (c : Dev nD) (t : Fin cfg0.N) (h1 : t.val % 2 = 1) (r : Fin 512) (k : Fin 2048) :
    (outsAt0 m c t.val t.isLt).1 (ix2 r k) = resultRow m c (rowOf t r) (batchOf t) k := by
  have hh : halfOf t = 1 := Fin.ext h1
  have hp : t.val - 1 < cfg0.N := Nat.lt_of_le_of_lt (Nat.sub_le _ _) t.isLt
  have hrow : rowOf ⟨t.val - 1, hp⟩ r = rowOf t r := Fin.ext (by show (t.val - 1) / 2 * 512 + r.val = t.val / 2 * 512 + r.val; omega)
  have hs := fun k => scratch m c ⟨t.val - 1, hp⟩ (by show (t.val - 1) % 2 = 0; omega) r k
  rw [outsAt0_B m c t (by omega) h1]
  dsimp only
  rw [out_second, residual_eq, added_eq, residual_apply]
  unfold resultRow
  congr 1
  · exact funext fun a => rows_apply m c t r a
  · funext a
    rw [added_apply, sum_halves, hs a, hrow]
    congr 1
    exact Finset.sum_congr rfl fun d _ => by rw [a_apply, w_apply, hh]
  · exact funext fun a => (gainOut_apply _ a).trans (gains_apply m c t 1 a)
  · exact funext fun a => (gateRow_apply _ a).trans (mod_apply m c t 2 a)

/-- The run leaves the residual rows in the result array. -/
theorem result (c : Dev nD) : (dats m 0 c).arrAt 5 cfg0.N = projected m c := by
  refine (dats m 0 c).arrAt_eq_of_covers 5 _ covers fun t hf y => ?_
  obtain ⟨-, -, -, -, -, -, -, -, -, -, -, e0, e1⟩ := idx t
  rw [after0_5]
  blk_simp
  obtain ⟨r, k, rfl⟩ : ∃ (r : Fin 512) (k : Fin 2048), y = ix2 r k := ⟨y 0, y 1, by funext x; fin_cases x <;> rfl⟩
  have he : (win0_5.blk t).view.emb (ix2 r k) = ix2 (rowOf t r) k := by
    blk_ext! [rowOf, e0, e1]
  rw [he]
  refine (block m c t ((flush0_5 t).mp hf) r k).trans ?_
  have hb : (⟨(rowOf t r).val / 8192, by have := (rowOf t r).isLt; omega⟩ : Fin 4) = batchOf t := Fin.ext (by
    show (t.val / 2 * 512 + r.val) / 8192 = t.val / 32; omega)
  show _ = resultRow m c (rowOf t r) ⟨(rowOf t r).val / 8192, _⟩ k
  rw [hb]

end Cert.OutProjCIdeal.Block

end
-- ==== Proof.OutProjRef.lean ====
/-
  What the references of the output projections compute, read at an index: the input's row plus the gated norm of the
  mixed row times the weight.
-/
module

public import proofs.«01_k».proof.Proof.Gen.RefOutProjBIdeal.Read
public import proofs.«01_k».proof.Proof.Gen.RefOutProjCIdeal.Read
public import proofs.«01_k».proof.Proof.InProjRef
public import proofs.«01_k».proof.Proof.RowMath
public import Idealize.ShloMosaic.Lib.Pointwise

@[expose] public section

set_option maxRecDepth 16384

noncomputable section

open Idealize.ShloMosaic Idealize.ShloMosaic.TcCoe Idealize.SL.Sem

namespace Cert.OutProjRef

open Layer
open Cert.InProjRef (rowIn batch place rowIn_batch)

section
open Cert.RefOutProjBIdeal Cert.RefOutProjBIdeal.Gen Cert.RefOutProjBIdeal.Read

variable (x0 : Vec Ideal S32768x2048 .bf16) (x1 : Vec Ideal S2048x2048 .f32) (x2 : Vec Ideal S32768x2048 .f32)
  (x3 : Vec Ideal S4x6x2048 .f32) (x4 : Vec Ideal S4x2048 .f32)

theorem inputB_apply (b : Fin 4) (s : Fin 8192) (k : Fin 2048) :
    val_main_v0 (F := Ideal) x2 (ix3 b s k) = x2 (ix2 (rowIn b s) k) := by
  pointwise [val_main_v0, rowIn]

theorem mixedB_apply (b : Fin 4) (s : Fin 8192) (k : Fin 2048) :
    val_main_v2 (F := Ideal) x0 (ix3 b s k) = x0 (ix2 (rowIn b s) k) := by
  pointwise [val_main_v2, val_main_v1, rowIn]

theorem productB_apply (b : Fin 4) (s : Fin 8192) (k : Fin 2048) :
    val_main_v3 (F := Ideal) x0 x1 (ix3 b s k) = ∑ d, x0 (ix2 (rowIn b s) d) * x1 (ix2 d k) := by
  have p : val_main_v3 (F := Ideal) x0 x1 (ix3 b s k) = ∑ d, val_main_v2 (F := Ideal) x0 (ix3 b s d) * x1 (ix2 d k) := by
    unfold val_main_v3
    generalize val_main_v2 (F := Ideal) x0 = y
    pointwise []
  rw [p]
  simp only [mixedB_apply]

theorem residualB_apply (b : Fin 4) (s : Fin 8192) (k : Fin 2048) :
    val_main_v24 (F := Ideal) x0 x1 x2 x3 x4 (ix3 b s k)
      = resRow (fun a => x2 (ix2 (rowIn b s) a)) (fun a => val_main_v3 (F := Ideal) x0 x1 (ix3 b s a)) (fun a => x4 (ix2 1 a)) (fun a => x3 (ix3 b 2 a)) k := by
  simp only [val_main_v24, val_main_v23, val_main_v22, val_main_v21, val_main_v20, val_main_v19, val_main_v18, val_main_v17,
    val_main_v16, val_main_v15, val_main_v14, val_main_cst_1, val_main_v13, val_main_v12, val_main_cst_0, val_main_v11, val_main_v10,
    val_main_cst, val_main_v9, val_main_v8, val_main_v7, val_main_v6, val_main_v5, val_main_v4]
  generalize val_main_v3 (F := Ideal) x0 x1 = y
  pointwise [inputB_apply, resRow, normRow, invRms]

theorem resultB_apply (r : Fin 32768) (k : Fin 2048) :
    val_main_v25 (F := Ideal) x0 x1 x2 x3 x4 (ix2 r k)
      = resRow (fun a => x2 (ix2 r a)) (fun a => ∑ d, x0 (ix2 r d) * x1 (ix2 d a)) (fun a => x4 (ix2 1 a)) (fun a => x3 (ix3 (batch r) 2 a)) k := by
  have e : val_main_v25 (F := Ideal) x0 x1 x2 x3 x4 (ix2 r k) = val_main_v24 (F := Ideal) x0 x1 x2 x3 x4 (ix3 (batch r) (place r) k) := by
    unfold val_main_v25
    generalize val_main_v24 (F := Ideal) x0 x1 x2 x3 x4 = y
    pointwise [batch, place]
  rw [e, residualB_apply]
  simp only [productB_apply, rowIn_batch]

end

section
open Cert.RefOutProjCIdeal Cert.RefOutProjCIdeal.Gen Cert.RefOutProjCIdeal.Read

variable (x0 : Vec Ideal S32768x4096 .bf16) (x1 : Vec Ideal S4096x2048 .f32) (x2 : Vec Ideal S32768x2048 .f32)
  (x3 : Vec Ideal S4x6x2048 .f32) (x4 : Vec Ideal S4x2048 .f32)

theorem inputC_eq : val_main_v0 (F := Ideal) x2 = Cert.RefOutProjBIdeal.Read.val_main_v0 (F := Ideal) x2 := rfl

theorem mixedC_apply (b : Fin 4) (s : Fin 8192) (k : Fin 4096) :
    val_main_v2 (F := Ideal) x0 (ix3 b s k) = x0 (ix2 (rowIn b s) k) := by
  pointwise [val_main_v2, val_main_v1, rowIn]

theorem productC_apply (b : Fin 4) (s : Fin 8192) (k : Fin 2048) :
    val_main_v3 (F := Ideal) x0 x1 (ix3 b s k) = ∑ d, x0 (ix2 (rowIn b s) d) * x1 (ix2 d k) := by
  have p : val_main_v3 (F := Ideal) x0 x1 (ix3 b s k) = ∑ d, val_main_v2 (F := Ideal) x0 (ix3 b s d) * x1 (ix2 d k) := by
    unfold val_main_v3
    generalize val_main_v2 (F := Ideal) x0 = y
    pointwise []
  rw [p]
  simp only [mixedC_apply]

theorem residualC_apply (b : Fin 4) (s : Fin 8192) (k : Fin 2048) :
    val_main_v24 (F := Ideal) x0 x1 x2 x3 x4 (ix3 b s k)
      = resRow (fun a => x2 (ix2 (rowIn b s) a)) (fun a => val_main_v3 (F := Ideal) x0 x1 (ix3 b s a)) (fun a => x4 (ix2 1 a)) (fun a => x3 (ix3 b 2 a)) k := by
  simp only [val_main_v24, val_main_v23, val_main_v22, val_main_v21, val_main_v20, val_main_v19, val_main_v18, val_main_v17,
    val_main_v16, val_main_v15, val_main_v14, val_main_cst_1, val_main_v13, val_main_v12, val_main_cst_0, val_main_v11, val_main_v10,
    val_main_cst, val_main_v9, val_main_v8, val_main_v7, val_main_v6, val_main_v5, val_main_v4, inputC_eq]
  generalize val_main_v3 (F := Ideal) x0 x1 = y
  pointwise [inputB_apply, resRow, normRow, invRms]

theorem resultC_apply (r : Fin 32768) (k : Fin 2048) :
    val_main_v25 (F := Ideal) x0 x1 x2 x3 x4 (ix2 r k)
      = resRow (fun a => x2 (ix2 r a)) (fun a => ∑ d, x0 (ix2 r d) * x1 (ix2 d a)) (fun a => x4 (ix2 1 a)) (fun a => x3 (ix3 (batch r) 2 a)) k := by
  have e : val_main_v25 (F := Ideal) x0 x1 x2 x3 x4 (ix2 r k) = val_main_v24 (F := Ideal) x0 x1 x2 x3 x4 (ix3 (batch r) (place r) k) := by
    unfold val_main_v25
    generalize val_main_v24 (F := Ideal) x0 x1 x2 x3 x4 = y
    pointwise [batch, place]
  rw [e, residualC_apply]
  simp only [productC_apply, rowIn_batch]

end

end Cert.OutProjRef

end
-- ==== Proof.OutProjCEq.lean ====
/- The output projection of the state-space layer and its reference leave the same array. -/
module

public import proofs.«01_k».proof.Defs
public import proofs.«01_k».proof.Proof.OutProjC
public import proofs.«01_k».proof.Proof.OutProjRef
public import proofs.«01_k».proof.Proof.Gen.RefOutProjCIdeal.Run

@[expose] public section

set_option maxRecDepth 16384

noncomputable section

open Idealize.ShloMosaic Idealize.ShloMosaic.TcCoe Idealize.SL.Sem

namespace Cert.OutProjCEq

open Cert.OutProjCIdeal.Block

theorem algebraic : Cert.algebraic_OutProjCIdeal_RefOutProjCIdeal := by
  intro m g m' g' _ hag
  refine ⟨fun c => projected m c, (θ_run Cert.OutProjCIdeal.defs _ _).mono (fun _ h c => ⟨(h c).1.trans (result m c), (h c).2⟩) (Cert.OutProjCIdeal.Value.run_blocks m g), ?_⟩
  refine (θ_run Cert.RefOutProjCIdeal.defs _ _).mono (fun _ h c => ⟨(h c).1.trans ?_, (h c).2⟩) (Cert.RefOutProjCIdeal.Value.run (F := Ideal) m' g')
  obtain ⟨h0, h1, h2, h3, h4⟩ := hag c
  rw [Cert.RefOutProjCIdeal.Read.val_main_v25_eq, h0, h1, h2, h3, h4]
  funext i
  obtain ⟨r, k, rfl⟩ : ∃ (r : Fin 32768) (k : Fin 2048), i = ix2 r k := ⟨i 0, i 1, by funext x; fin_cases x <;> rfl⟩
  exact Cert.OutProjRef.resultC_apply _ _ _ _ _ r k

end Cert.OutProjCEq

end
-- ==== Proof.InProjB.lean ====
/-
  What the input projection of an attention layer leaves in its result. The kernel is the one of `InProjA`, over three
  slices of 1024 columns; its row formulas are taken over from there.
-/
module

public import proofs.«01_k».proof.Proof.Gen.InProjBIdeal.Value
public import proofs.«01_k».proof.Proof.InProjA
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.InProjBIdeal.Block

open Cert.InProjBIdeal Cert.InProjBIdeal.Gen Layer
open Cert.InProjAIdeal.Block (gainIn shiftRow scaleRow modulated_apply gainIn_apply shiftRow_apply scaleRow_apply)

/-! ## The point's buffers -/

section
variable {F : FTy → Type} [FloatOps F]

theorem hz : (![0, 0] : Fin 2 → Nat) = fun _ => 0 := funext fun a => by fin_cases a <;> rfl

variable (c : Dev nD) (i : grid0.Coords) (arg2 : Memref sig .tc .vmem S1024x2048 .f32) (harg2 : arg2.IsWhole) (arg3 : Memref sig .tc .vmem S1x6x2048 .f32) (harg3 : arg3.IsWhole) (arg4 : Memref sig .tc .vmem S4x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x2048 .bf16) (harg7 : arg7.IsWhole)
  (x0 : Vec F S1024x2048 .f32) (x1 : Vec F S1x6x2048 .f32) (x2 : Vec F S4x2048 .f32) (x3 : Vec F S2048x1024 .bf16) (xs0 : Vec F S1024x2048 .bf16)

/-- The first point of a row block stores the modulated rows. -/
theorem rows_first (hc0 : cond0_0 i) :
    sout0_A_0 c i arg2 harg2 arg3 harg3 arg4 harg4 arg5 harg5 arg6 harg6 arg7 harg7 hc0 x0 x1 x2 x3
      = k0_pay1 x0 (gainIn x2) (scaleRow x1) (shiftRow x1) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero (S := S1024x2048) hz]
  simp only [View.readAt_eq_ld, harg2.read_unread, harg3.read_unread, harg4.read_unread, View.ld_unit_zero (S := S1024x2048) hz]

/-- … and the product of those rows with its slice of the weight. -/
theorem out_first (hc0 : cond0_0 i) :
    out0_A_4 c i arg2 harg2 arg3 harg3 arg4 harg4 arg5 harg5 arg6 harg6 arg7 harg7 hc0 x0 x1 x2 x3
      = k0_pay2 (k0_pay1 x0 (gainIn x2) (scaleRow x1) (shiftRow x1)) x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S1024x1024) hz]
  simp only [View.readAt_eq_ld, harg2.read_unread, harg3.read_unread, harg4.read_unread, harg5.read_unread,
    View.ld_unit_zero (S := S1024x2048) hz, View.ld_unit_zero (S := S2048x1024) hz, View.readCov_unit_zero (S := S1024x2048) _ hz]

/-- A later point multiplies what the scratch held. -/
theorem out_later (hc0 : ¬cond0_0 i) :
    out0_B_4 c i arg2 harg2 arg3 harg3 arg4 harg4 arg5 harg5 arg6 harg6 arg7 harg7 hc0 x0 x1 x2 x3 xs0 = k0_pay2 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S1024x1024) hz]
  simp only [View.readAt_eq_ld, harg5.read_unread, harg7.read_unread, View.ld_unit_zero (S := S1024x2048) hz, View.ld_unit_zero (S := S2048x1024) hz]

end

/-! ## The payloads at an index -/

/-- The rows are modulated by the text of the first projection. -/
theorem modulated_eq (x : Vec Ideal S1024x2048 .f32) (g : Vec Ideal S1x2048 .f32) (sc sh : Vec Ideal S1x1x2048 .f32) :
    k0_pay1 (F := Ideal) x g sc sh = Cert.InProjAIdeal.Gen.k0_pay1 (F := Ideal) x g sc sh := rfl

theorem product_apply (u : Vec Ideal S1024x2048 .bf16) (w : Vec Ideal S2048x1024 .bf16) (r f : Fin 1024) :
    k0_pay2 (F := Ideal) u w (ix2 r f) = ∑ a, u (ix2 r a) * w (ix2 a f) := by
  pointwise [k0_pay2]

/-! ## The arrays -/

variable (m : (ℓ : Loc nD τ sig) → Buf (Elt Ideal) ℓ)

/-- The argument arrays, as functions of their coordinates. -/
abbrev H (c : Dev nD) (r : Fin 32768) (k : Fin 2048) : EReal := m ((c : Thread nD τ).loc main_arg0) (ix2 r k)
abbrev M (c : Dev nD) (b : Fin 4) (i : Fin 6) (k : Fin 2048) : EReal := m ((c : Thread nD τ).loc main_arg1) (ix3 b i k)
abbrev G (c : Dev nD) (i : Fin 4) (k : Fin 2048) : EReal := m ((c : Thread nD τ).loc main_arg2) (ix2 i k)
abbrev W (c : Dev nD) (k : Fin 2048) (f : Fin 3072) : EReal := m ((c : Thread nD τ).loc main_arg3) (ix2 k f)

/-- The rows, the batch element and the columns of point `t`. -/
def rowOf (t : Fin cfg0.N) (r : Fin 1024) : Fin 32768 := ⟨t.val / 3 * 1024 + r.val, by have h : t.val < 96 := lt_of_lt_of_eq t.isLt N_0; omega⟩
def batchOf (t : Fin cfg0.N) : Fin 4 := ⟨t.val / 24, by have h : t.val < 96 := lt_of_lt_of_eq t.isLt N_0; omega⟩
def colOf (t : Fin cfg0.N) (f : Fin 1024) : Fin 3072 := ⟨t.val % 3 * 1024 + f.val, by omega⟩

/-- The index maps of the windows, decided over the grid. -/
theorem idx : ∀ t : Fin cfg0.N, win0_0.index t (0 : Fin 2) = t.val / 3 ∧ win0_0.index t (1 : Fin 2) = 0
    ∧ win0_1.index t (0 : Fin 3) = t.val / 24 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 3
    ∧ win0_4.index t (0 : Fin 2) = t.val / 3 ∧ win0_4.index t (1 : Fin 2) = t.val % 3 :=
  (by decide +kernel : ∀ t : Fin grid0.N, _)

theorem covers : (cfg0.win 4).Covers := by decide +kernel

theorem rows_apply (c : Dev nD) (t : Fin cfg0.N) (r : Fin 1024) (k : Fin 2048) :
    (iblk m c 0 t : Vec Ideal S1024x2048 .f32) (ix2 r k) = H m c (rowOf t r) k := by
  obtain ⟨e0, e1, -⟩ := idx t
  blk_ext! [iblk, V, rowOf, e0, e1]

theorem mod_apply (c : Dev nD) (t : Fin cfg0.N) (i : Fin 6) (k : Fin 2048) :
    (iblk m c 1 t : Vec Ideal S1x6x2048 .f32) (ix3 0 i k) = M m c (batchOf t) i k := by
  obtain ⟨-, -, e0, e1, e2, -⟩ := idx t
  blk_ext! [iblk, V, batchOf, e0, e1, e2]

theorem gains_apply (c : Dev nD) (t : Fin cfg0.N) (i : Fin 4) (k : Fin 2048) :
    (iblk m c 2 t : Vec Ideal S4x2048 .f32) (ix2 i k) = G m c i k := by
  obtain ⟨-, -, -, -, -, e0, e1, -⟩ := idx t
  blk_ext! [iblk, V, e0, e1]

theorem w_apply (c : Dev nD) (t : Fin cfg0.N) (k : Fin 2048) (f : Fin 1024) :
    (iblk m c 3 t : Vec Ideal S2048x1024 .bf16) (ix2 k f) = W m c k (colOf t f) := by
  obtain ⟨-, -, -, -, -, -, -, e0, e1, -⟩ := idx t
  blk_ext! [iblk, V, colOf, e0, e1]

/-- The modulated rows. -/
def uRow (c : Dev nD) (r : Fin 32768) (b : Fin 4) : Fin 2048 → EReal := modRow (H m c r) (G m c 0) (M m c b 1) (M m c b 0)

theorem modulated_block (c : Dev nD) (t : Fin cfg0.N) (r : Fin 1024) (k : Fin 2048) :
    k0_pay1 (F := Ideal) (iblk m c 0 t) (gainIn (iblk m c 2 t)) (scaleRow (iblk m c 1 t)) (shiftRow (iblk m c 1 t)) (ix2 r k)
      = uRow m c (rowOf t r) (batchOf t) k := by
  rw [modulated_eq, modulated_apply]
  unfold uRow
  congr 1
  · exact funext fun a => rows_apply m c t r a
  · exact funext fun a => (gainIn_apply _ a).trans (gains_apply m c t 0 a)
  · exact funext fun a => (scaleRow_apply _ a).trans (mod_apply m c t 1 a)
  · exact funext fun a => (shiftRow_apply _ a).trans (mod_apply m c t 0 a)

/-- After point `t` the scratch holds the modulated rows of its row block. -/
theorem scratch (c : Dev nD) (t : Fin cfg0.N) (r : Fin 1024) (k : Fin 2048) :
    (outsAt0 m c t.val t.isLt).2 (ix2 r k) = uRow m c (rowOf t r) (batchOf t) k := by
  let U : ℕ → EReal := fun i => if h : i < 32 then uRow m c ⟨i * 1024 + r.val, by omega⟩ ⟨i / 8, by omega⟩ k else 0
  have hU : ∀ (n : ℕ) (hn : n < cfg0.N), U (n / 3) = uRow m c (rowOf ⟨n, hn⟩ r) (batchOf ⟨n, hn⟩) k := by
    intro n hn
    have h : n < 96 := lt_of_lt_of_eq hn N_0
    have hb : (⟨n / 3 / 8, by omega⟩ : Fin 4) = batchOf ⟨n, hn⟩ := Fin.ext (Nat.div_div_eq_div_mul n 3 8)
    exact (dif_pos (by omega)).trans (by rw [hb]; rfl)
  refine (kept 3 cfg0.N (fun n hn => (outsAt0 m c n hn).2 (ix2 r k)) U ?_ ?_ t.val t.isLt).trans (hU t.val t.isLt)
  · intro n hn h0
    have e := outsAt0_A m c ⟨n, hn⟩ h0
    dsimp only at e ⊢
    rw [e, hU n hn]
    dsimp only
    rw [rows_first]
    exact modulated_block m c ⟨n, hn⟩ r k
  · intro n hn h0
    have e := outsAt0_B m c ⟨n + 1, hn⟩ h0
    dsimp only at e ⊢
    rw [e]
    rfl

/-- What the result holds. -/
def projected (c : Dev nD) (i : S32768x3072.Idx) : EReal :=
  ∑ a, uRow m c (i 0) ⟨(i 0).val / 8192, by have h : (i 0).val < 32768 := (i 0).isLt; omega⟩ a * W m c a (i 1)

/-- What point `t` leaves in the result's block. -/
theorem block (c : Dev nD) (t : Fin cfg0.N) (r f : Fin 1024) :
    (outsAt0 m c t.val t.isLt).1 (ix2 r f) = ∑ a, uRow m c (rowOf t r) (batchOf t) a * W m c a (colOf t f) := by
  by_cases h0 : t.val % 3 = 0
  · rw [outsAt0_A m c t h0]
    dsimp only
    rw [out_first, product_apply]
    exact Finset.sum_congr rfl fun a _ => by rw [modulated_block, w_apply]
  · have hs := scratch m c t r
    rw [outsAt0_B m c t h0] at hs ⊢
    dsimp only
    rw [out_later, product_apply]
    exact Finset.sum_congr rfl fun a _ => by rw [← hs a, w_apply]; rfl

/-- The run leaves the products in the result array. -/
theorem result (c : Dev nD) : (dats m 0 c).arrAt 4 cfg0.N = projected m c := by
  refine (dats m 0 c).arrAt_eq_of_covers 4 _ covers fun t _ y => ?_
  obtain ⟨-, -, -, -, -, -, -, -, -, e0, e1⟩ := idx t
  rw [after0_4]
  blk_simp
  obtain ⟨r, f, rfl⟩ : ∃ r f : Fin 1024, y = ix2 r f := ⟨y 0, y 1, by funext x; fin_cases x <;> rfl⟩
  have he : (win0_4.blk t).view.emb (ix2 r f) = ix2 (rowOf t r) (colOf t f) := by
    blk_ext! [rowOf, colOf, e0, e1]
  rw [he]
  refine (block m c t r f).trans ?_
  unfold projected
  have hb : (⟨(rowOf t r).val / 8192, by have := (rowOf t r).isLt; omega⟩ : Fin 4) = batchOf t := Fin.ext (by
    show (t.val / 3 * 1024 + r.val) / 8192 = t.val / 24; omega)
  show _ = ∑ a, uRow m c (rowOf t r) ⟨(rowOf t r).val / 8192, _⟩ a * W m c a (colOf t f)
  rw [hb]

end Cert.InProjBIdeal.Block

end
-- ==== Proof.InProjBEq.lean ====
/- The input projection of the attention layer and its reference leave the same array. -/
module

public import proofs.«01_k».proof.Defs
public import proofs.«01_k».proof.Proof.InProjB
public import proofs.«01_k».proof.Proof.InProjRef
public import proofs.«01_k».proof.Proof.Gen.RefInProjBIdeal.Run

@[expose] public section

set_option maxRecDepth 16384

noncomputable section

open Idealize.ShloMosaic Idealize.ShloMosaic.TcCoe Idealize.SL.Sem

namespace Cert.InProjBEq

open Cert.InProjBIdeal.Block

theorem algebraic : Cert.algebraic_InProjBIdeal_RefInProjBIdeal := by
  intro m g m' g' _ hag
  refine ⟨fun c => projected m c, (θ_run Cert.InProjBIdeal.defs _ _).mono (fun _ h c => ⟨(h c).1.trans (result m c), (h c).2⟩) (Cert.InProjBIdeal.Value.run_blocks m g), ?_⟩
  refine (θ_run Cert.RefInProjBIdeal.defs _ _).mono (fun _ h c => ⟨(h c).1.trans ?_, (h c).2⟩) (Cert.RefInProjBIdeal.Value.run (F := Ideal) m' g')
  obtain ⟨h0, h1, h2, h3⟩ := hag c
  rw [Cert.RefInProjBIdeal.Read.val_main_v29_eq, h0, h1, h2, h3]
  funext i
  obtain ⟨r, k, rfl⟩ : ∃ (r : Fin 32768) (k : Fin 3072), i = ix2 r k := ⟨i 0, i 1, by funext x; fin_cases x <;> rfl⟩
  exact Cert.InProjRef.resultB_apply _ _ _ _ r k

end Cert.InProjBEq

end
-- ==== Proof.OutProjBEq.lean ====
/- The output projection of the attention layer and its reference leave the same array. -/
module

public import proofs.«01_k».proof.Defs
public import proofs.«01_k».proof.Proof.OutProjB
public import proofs.«01_k».proof.Proof.OutProjRef
public import proofs.«01_k».proof.Proof.Gen.RefOutProjBIdeal.Run

@[expose] public section

set_option maxRecDepth 16384

noncomputable section

open Idealize.ShloMosaic Idealize.ShloMosaic.TcCoe Idealize.SL.Sem

namespace Cert.OutProjBEq

open Cert.OutProjBIdeal.Block

theorem algebraic : Cert.algebraic_OutProjBIdeal_RefOutProjBIdeal := by
  intro m g m' g' _ hag
  refine ⟨fun c => projected m c, (θ_run Cert.OutProjBIdeal.defs _ _).mono (fun _ h c => ⟨(h c).1.trans (result m c), (h c).2⟩) (Cert.OutProjBIdeal.Value.run_blocks m g), ?_⟩
  refine (θ_run Cert.RefOutProjBIdeal.defs _ _).mono (fun _ h c => ⟨(h c).1.trans ?_, (h c).2⟩) (Cert.RefOutProjBIdeal.Value.run (F := Ideal) m' g')
  obtain ⟨h0, h1, h2, h3, h4⟩ := hag c
  rw [Cert.RefOutProjBIdeal.Read.val_main_v25_eq, h0, h1, h2, h3, h4]
  funext i
  obtain ⟨r, k, rfl⟩ : ∃ (r : Fin 32768) (k : Fin 2048), i = ix2 r k := ⟨i 0, i 1, by funext x; fin_cases x <;> rfl⟩
  exact Cert.OutProjRef.resultB_apply _ _ _ _ _ r k

end Cert.OutProjBEq

end
-- ==== Proof.GroupMath.lean ====
/-
  The state-space readout of one row, over the extended reals: the two directions' sums and the skipped input are gated,
  and each group of 512 of the row's 4096 entries is divided by its own root mean square and multiplied with its gains. And
  the entry of the convolution that prepares the scans. No program is named here.
-/
module

public import proofs.«01_k».proof.Proof.HeadMath

@[expose] public section

noncomputable section

open Idealize.ShloMosaic

namespace Layer

/-- Entry `e` of group `n` in the row, and the group and the entry of a place in the row. -/
def groupCol (n : Fin 8) (e : Fin 512) : Fin 4096 := ⟨n.val * 512 + e.val, by omega⟩
def groupOf (k : Fin 4096) : Fin 8 := ⟨k.val / 512, by omega⟩
def inGroup (k : Fin 4096) : Fin 512 := ⟨k.val % 512, by omega⟩
/-- The head of 64 entries a place of the row lies in: its skip weight's index. -/
def skipOf (k : Fin 4096) : Fin 64 := ⟨k.val / 64, by omega⟩

theorem groupCol_of (k : Fin 4096) : groupCol (groupOf k) (inGroup k) = k :=
  Fin.ext (by show k.val / 512 * 512 + k.val % 512 = k.val; omega)

/-- `1 / sqrt (mean (y²) + ε)` of a group. -/
def groupInvRms (y : Fin 512 → EReal) : EReal :=
  Ideal.rsqrt (Ideal.div (∑ e, y e * y e) (Ideal.ofBits .f32 0x44000000#32) + Ideal.ofBits .f32 0x358637BD#32)

/-- One entry before the norm: both directions and the skipped input, gated. -/
def readoutIn (f b d x z : EReal) : EReal := (f + b + d * x) * siluAt z

/-- A normalised group. -/
def normGroup (y g : Fin 512 → EReal) (e : Fin 512) : EReal := y e * groupInvRms y * g e

/-- The whole row, group by group. -/
def readoutRow (y g : Fin 4096 → EReal) (k : Fin 4096) : EReal :=
  normGroup (fun e => y (groupCol (groupOf k) e)) (fun e => g (groupCol (groupOf k) e)) (inGroup k)

/-- The convolution's five taps and its bias, before the activation. -/
def fiveTaps (x w : Fin 5 → EReal) (b : EReal) : EReal := (x 0 * w 0 + x 1 * w 1 + x 2 * w 2 + x 3 * w 3 + x 4 * w 4) + b

/-- The place two to the left of tap `k` of place `s`, in a sequence of 8192 with nothing (zero) past its two ends. -/
def tapAt (x : Fin 8192 → EReal) (s : Fin 8192) (k : Fin 5) : EReal :=
  if h : 2 ≤ s.val + k.val ∧ s.val + k.val - 2 < 8192 then x ⟨s.val + k.val - 2, h.2⟩ else 0

end Layer

end
-- ==== Proof.Conv.lean ====
/-
  What the convolution before the state-space scans leaves in its result. A point takes 512 places of 1024 channels of one
  batch element. It lays them into a scratch between the last eight places of the block before and the first eight of the
  block after (times zero where there is no such block), and sums the five shifted readings of that scratch.
-/
module

public import proofs.«01_k».proof.Proof.Gen.ConvIdeal.Value
public import proofs.«01_k».proof.Proof.GroupMath
public import Idealize.ShloMosaic.Lib.Tactic
public import Idealize.ShloMosaic.Lib.KernelVsHost
public import Idealize.ShloMosaic.Lib.Pipeline.ValueKit.Point
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.ConvIdeal.Block

open Cert.ConvIdeal Cert.ConvIdeal.Gen Layer

/-! ## The point's buffers -/

section
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The scratch: the block between its two halos. -/
def ext (i : grid0.Coords) (x0 : Vec F S1x8x1024 .f32) (x1 : Vec F S1x512x1024 .f32) (x2 : Vec F S1x8x1024 .f32) : Vec F S528x1024 .f32 :=
  View.canon [⟨Rect.unit (s := S528x1024) ![520, 0] S8x1024.size inb_S528x1024_S8x1024_520_0, k0_pay4 i x2⟩,
    ⟨Rect.unit (s := S528x1024) ![8, 0] S512x1024.size inb_S528x1024_S512x1024_8_0, k0_pay3 x1⟩,
    ⟨Rect.unit (s := S528x1024) ![0, 0] S8x1024.size inb_S528x1024_S8x1024_0_0, k0_pay2 i x0⟩]

theorem tapInb (k : Fin 5) : ∀ a, (![6 + k.val, 0] : Fin 2 → Nat) a + S512x1024.size a ≤ S528x1024.size a := by
  intro d; fin_cases d
  · show 6 + k.val + 512 ≤ 528; omega
  · show 0 + 1024 ≤ 1024; omega
theorem weightInb (k : Fin 5) : ∀ a, (![k.val, 0] : Fin 2 → Nat) a + S1x1024.size a ≤ S5x1024.size a := by
  intro d; fin_cases d
  · show k.val + 1 ≤ 5; omega
  · show 0 + 1024 ≤ 1024; omega

/-- Tap `k` reads the scratch from row `6 + k` on, and the weight's row `k`. -/
def tap (e : Vec F S528x1024 .f32) (k : Fin 5) : Vec F S512x1024 .f32 := View.ld e (Rect.unit (s := S528x1024) ![6 + k.val, 0] S512x1024.size (tapInb k))
def weight (w : Vec F S5x1024 .f32) (k : Fin 5) : Vec F S1x1024 .f32 := View.ld w (Rect.unit (s := S5x1024) ![k.val, 0] S1x1024.size (weightInb k))

/-- The taps at the rows they are written with. -/
theorem tap0 (e : Vec F S528x1024 .f32) : tap e 0 = View.ld e (Rect.unit (s := S528x1024) ![6, 0] S512x1024.size inb_S528x1024_S512x1024_6_0) := rfl
theorem tap1 (e : Vec F S528x1024 .f32) : tap e 1 = View.ld e (Rect.unit (s := S528x1024) ![7, 0] S512x1024.size inb_S528x1024_S512x1024_7_0) := rfl
theorem tap2 (e : Vec F S528x1024 .f32) : tap e 2 = View.ld e (Rect.unit (s := S528x1024) ![8, 0] S512x1024.size inb_S528x1024_S512x1024_8_0) := rfl
theorem tap3 (e : Vec F S528x1024 .f32) : tap e 3 = View.ld e (Rect.unit (s := S528x1024) ![9, 0] S512x1024.size inb_S528x1024_S512x1024_9_0) := rfl
theorem tap4 (e : Vec F S528x1024 .f32) : tap e 4 = View.ld e (Rect.unit (s := S528x1024) ![10, 0] S512x1024.size inb_S528x1024_S512x1024_10_0) := rfl

variable (c : Dev nD) (i : grid0.Coords) (arg3 : Memref sig .tc .vmem S1x8x1024 .f32) (harg3 : arg3.IsWhole) (arg4 : Memref sig .tc .vmem S1x512x1024 .f32) (harg4 : arg4.IsWhole) (arg5 : Memref sig .tc .vmem S1x8x1024 .f32) (harg5 : arg5.IsWhole) (arg6 : Memref sig .tc .vmem S5x1024 .f32) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S528x1024 .f32) (harg9 : arg9.IsWhole)
  (x0 : Vec F S1x8x1024 .f32) (x1 : Vec F S1x512x1024 .f32) (x2 : Vec F S1x8x1024 .f32) (x3 : Vec F S5x1024 .f32) (x4 : Vec F S1x1024 .f32)

/-- What the point stores. -/
theorem out_text :
    out0_A_5 c i arg3 harg3 arg4 harg4 arg5 harg5 arg6 harg6 arg7 harg7 arg8 harg8 arg9 harg9 x0 x1 x2 x3 x4
      = k0_pay1 (k0_pay5 x4) (tap (ext i x0 x1 x2) 0) (weight x3 0) (tap (ext i x0 x1 x2) 1) (weight x3 1) (tap (ext i x0 x1 x2) 2) (weight x3 2)
          (tap (ext i x0 x1 x2) 3) (weight x3 3) (tap (ext i x0 x1 x2) 4) (weight x3 4) := by
  unfold out0_A_5
  rw [View.read_writes_junk_eq_canon]
  unfold kernelRun0_A
  dsimp only
  sl_unfold_words
  rw [View.canon_unit_zero (S := S1x512x1024) hz3]
  simp only [View.readAt_eq_ld, View.readCov_eq_canon', harg3.read_unread, harg4.read_unread, harg5.read_unread, harg6.read_unread, harg7.read_unread,
    View.ld_unit_zero (S := S1x8x1024) hz3, View.ld_unit_zero (S := S1x512x1024) hz3, View.ld_unit_zero (S := S1x1024) hz2]
  rw [tap0, tap1, tap2, tap3, tap4]
  rfl

end

theorem tap_apply (e : Vec Ideal S528x1024 .f32) (k : Fin 5) (r : Fin 512) (h : Fin 1024) :
    tap e k (ix2 r h) = e (ix2 (⟨6 + k.val + r.val, by omega⟩ : Fin 528) h) :=
  View.ld_unit_apply_of e _ _ _ _ (ix2 (⟨6 + k.val + r.val, by omega⟩ : Fin 528) h) fun d => match d with | ⟨0, _⟩ => rfl | ⟨1, _⟩ => (Nat.zero_add h.val).symm
theorem weight_apply (w : Vec Ideal S5x1024 .f32) (k : Fin 5) (h : Fin 1024) : weight w k (ix2 0 h) = w (ix2 k h) :=
  View.ld_unit_apply_of w _ _ _ _ (ix2 k h) fun d => match d with | ⟨0, _⟩ => rfl | ⟨1, _⟩ => (Nat.zero_add h.val).symm

/-- The stored entry. -/
theorem text_apply (b : Vec Ideal S1x1024 .f32) (e0 e1 e2 e3 e4 : Vec Ideal S512x1024 .f32) (w0 w1 w2 w3 w4 : Vec Ideal S1x1024 .f32) (r : Fin 512) (h : Fin 1024) :
    k0_pay1 (F := Ideal) (k0_pay5 b) e0 w0 e1 w1 e2 w2 e3 w3 e4 w4 (ix3 0 r h)
      = siluAt ((0 + b (ix2 0 h)) + e0 (ix2 r h) * w0 (ix2 0 h) + e1 (ix2 r h) * w1 (ix2 0 h) + e2 (ix2 r h) * w2 (ix2 0 h)
          + e3 (ix2 r h) * w3 (ix2 0 h) + e4 (ix2 r h) * w4 (ix2 0 h)) := by
  pointwise [k0_pay1, k0_pay5, siluAt]

theorem taps_sum (b : EReal) (p : Fin 5 → EReal) : (0 + b) + p 0 + p 1 + p 2 + p 3 + p 4 = (p 0 + p 1 + p 2 + p 3 + p 4) + b := by
  rw [zero_add]; ac_rfl

/-- Whether there is a block before, and a block after. -/
theorem hasPrev : ∀ n : Fin 16, Scalar.cmpi .sgt (BitVec.ofNat 32 n.val) 0#32 = if n.val = 0 then 0#1 else 1#1 := by decide
theorem hasNext : ∀ n : Fin 16, Scalar.cmpi .slt (BitVec.ofNat 32 n.val) 15#32 = if n.val = 15 then 0#1 else 1#1 := by decide

theorem sitofp_bit (p : Prop) [Decidable p] :
    (Scalar.sitofp .f32 (Scalar.extui (if p then 0#1 else 1#1) : BitVec 32) : Ideal .f32) = if p then 0 else 1 := by
  split
  · exact sitofp_zero
  · show (((Scalar.extui 1#1 : BitVec 32).toInt : ℝ) : EReal) = 1
    norm_num [Scalar.extui]

theorem prev_apply (i : grid0.Coords) (x : Vec Ideal S1x8x1024 .f32) (p : Fin 8) (h : Fin 1024) :
    k0_pay2 (F := Ideal) i x (ix2 p h) = if (i 1).val = 0 then 0 else x (ix3 0 p h) := by
  have e : k0_pay2 (F := Ideal) i x (ix2 p h)
      = x (ix3 0 p h) * (Scalar.sitofp .f32 (Scalar.extui (Scalar.cmpi .sgt (BitVec.ofNat 32 (i 1).val) 0#32) : BitVec 32) : Ideal .f32) := by
    pointwise [k0_pay2]
  rw [e, hasPrev (i 1), sitofp_bit]
  split
  · exact mul_zero _
  · exact mul_one _

theorem next_apply (i : grid0.Coords) (x : Vec Ideal S1x8x1024 .f32) (p : Fin 8) (h : Fin 1024) :
    k0_pay4 (F := Ideal) i x (ix2 p h) = if (i 1).val = 15 then 0 else x (ix3 0 p h) := by
  have e : k0_pay4 (F := Ideal) i x (ix2 p h)
      = x (ix3 0 p h) * (Scalar.sitofp .f32 (Scalar.extui (Scalar.cmpi .slt (BitVec.ofNat 32 (i 1).val) 15#32) : BitVec 32) : Ideal .f32) := by
    pointwise [k0_pay4]
  rw [e, hasNext (i 1), sitofp_bit]
  split
  · exact mul_zero _
  · exact mul_one _

theorem middle_apply (x : Vec Ideal S1x512x1024 .f32) (p : Fin 512) (h : Fin 1024) :
    k0_pay3 (F := Ideal) x (ix2 p h) = x (ix3 0 p h) := by
  pointwise [k0_pay3]

/-- The scratch at row `p` holds `v`, when each of the three pieces that covers `p` does. -/
theorem ext_eq (i : grid0.Coords) (x0 : Vec Ideal S1x8x1024 .f32) (x1 : Vec Ideal S1x512x1024 .f32) (x2 : Vec Ideal S1x8x1024 .f32)
    (p : Fin 528) (h : Fin 1024) (v : EReal)
    (h0 : ∀ q : Fin 8, p.val = q.val → (if (i 1).val = 0 then 0 else x0 (ix3 0 q h)) = v)
    (h1 : ∀ q : Fin 512, p.val = 8 + q.val → x1 (ix3 0 q h) = v)
    (h2 : ∀ q : Fin 8, p.val = 520 + q.val → (if (i 1).val = 15 then 0 else x2 (ix3 0 q h)) = v) :
    ext i x0 x1 x2 (ix2 p h) = v := by
  refine View.canon_eq_of_allAt _ _ _ ?_ (View.allAt_cons_unit _ _ _ _ _ ?_ (View.allAt_cons_unit _ _ _ _ _ ?_ (View.allAt_cons_unit _ _ _ _ _ ?_ (View.allAt_nil _ _))))
  · by_cases hp : p.val < 8
    · refine ⟨_, List.mem_cons_of_mem _ (List.mem_cons_of_mem _ List.mem_cons_self), (Rect.mem_set_unit (inb := inb_S528x1024_S8x1024_0_0)).mpr fun a => ?_⟩
      fin_cases a
      · exact ⟨Nat.zero_le _, by show p.val < 0 + 8; omega⟩
      · exact ⟨Nat.zero_le _, by show h.val < 0 + 1024; omega⟩
    · by_cases hq : p.val < 520
      · refine ⟨_, List.mem_cons_of_mem _ List.mem_cons_self, (Rect.mem_set_unit (inb := inb_S528x1024_S512x1024_8_0)).mpr fun a => ?_⟩
        fin_cases a
        · exact ⟨by show 8 ≤ p.val; omega, by show p.val < 8 + 512; omega⟩
        · exact ⟨Nat.zero_le _, by show h.val < 0 + 1024; omega⟩
      · refine ⟨_, List.mem_cons_self, (Rect.mem_set_unit (inb := inb_S528x1024_S8x1024_520_0)).mpr fun a => ?_⟩
        fin_cases a
        · exact ⟨by show 520 ≤ p.val; omega, by show p.val < 520 + 8; omega⟩
        · exact ⟨Nat.zero_le _, by show h.val < 0 + 1024; omega⟩
  · intro x hx
    obtain ⟨q, e, rfl⟩ : ∃ (q : Fin 8) (e : Fin 1024), x = ix2 q e := ⟨x 0, x 1, by funext a; fin_cases a <;> rfl⟩
    have a0 : p.val = 520 + q.val := hx 0
    have a1 : h.val = 0 + e.val := hx 1
    obtain rfl : h = e := Fin.ext (by omega)
    exact (next_apply i x2 q h).trans (h2 q a0)
  · intro x hx
    obtain ⟨q, e, rfl⟩ : ∃ (q : Fin 512) (e : Fin 1024), x = ix2 q e := ⟨x 0, x 1, by funext a; fin_cases a <;> rfl⟩
    have a0 : p.val = 8 + q.val := hx 0
    have a1 : h.val = 0 + e.val := hx 1
    obtain rfl : h = e := Fin.ext (by omega)
    exact (middle_apply x1 q h).trans (h1 q a0)
  · intro x hx
    obtain ⟨q, e, rfl⟩ : ∃ (q : Fin 8) (e : Fin 1024), x = ix2 q e := ⟨x 0, x 1, by funext a; fin_cases a <;> rfl⟩
    have a0 : p.val = 0 + q.val := hx 0
    have a1 : h.val = 0 + e.val := hx 1
    obtain rfl : h = e := Fin.ext (by omega)
    exact (prev_apply i x0 q h).trans (h0 q (by omega))

/-! ## The arrays -/

variable (m : (ℓ : Loc nD τ sig) → Buf (Elt Ideal) ℓ)

/-- The sequence of one channel of one batch element; the channels begin at column 4096. -/
abbrev Seq (c : Dev nD) (b : Fin 4) (h : Fin 6144) (s : Fin 8192) : EReal :=
  m ((c : Thread nD τ).loc main_arg0) (ix3 b s (⟨4096 + h.val, by omega⟩ : Fin 10368))
abbrev W (c : Dev nD) (k : Fin 5) (h : Fin 6144) : EReal := m ((c : Thread nD τ).loc main_arg1) (ix2 k h)
abbrev Bias (c : Dev nD) (h : Fin 6144) : EReal := m ((c : Thread nD τ).loc main_arg2) (ix1 h)

/-- The batch element, the places and the channels of point `t`. -/
def batchOf (t : Fin cfg0.N) : Fin 4 := ⟨t.val / 96, by have h : t.val < 384 := lt_of_lt_of_eq t.isLt N_0; omega⟩
def blockOf (t : Fin cfg0.N) : ℕ := t.val / 6 % 16
def placeOf (t : Fin cfg0.N) (r : Fin 512) : Fin 8192 := ⟨blockOf t * 512 + r.val, by unfold blockOf; omega⟩
def chanOf (t : Fin cfg0.N) (h : Fin 1024) : Fin 6144 := ⟨t.val % 6 * 1024 + h.val, by omega⟩

/-- The grid's coordinate and the index maps of the windows, decided over the grid. -/
theorem idx : ∀ t : Fin cfg0.N, (grid0.coords t 1).val = t.val / 6 % 16
    ∧ win0_0.index t (0 : Fin 3) = t.val / 96 ∧ win0_0.index t (1 : Fin 3) = t.val / 6 % 16 * 64 - 1 ∧ win0_0.index t (2 : Fin 3) = 4 + t.val % 6
    ∧ win0_1.index t (0 : Fin 3) = t.val / 96 ∧ win0_1.index t (1 : Fin 3) = t.val / 6 % 16 ∧ win0_1.index t (2 : Fin 3) = 4 + t.val % 6
    ∧ win0_2.index t (0 : Fin 3) = t.val / 96 ∧ win0_2.index t (1 : Fin 3) = min ((t.val / 6 % 16 + 1) * 64) 1023 ∧ win0_2.index t (2 : Fin 3) = 4 + t.val % 6
    ∧ win0_3.index t (0 : Fin 2) = 0 ∧ win0_3.index t (1 : Fin 2) = t.val % 6
    ∧ win0_4.index t (0 : Fin 2) = 0 ∧ win0_4.index t (1 : Fin 2) = t.val % 6
    ∧ win0_5.index t (0 : Fin 3) = t.val / 96 ∧ win0_5.index t (1 : Fin 3) = t.val / 6 % 16 ∧ win0_5.index t (2 : Fin 3) = t.val % 6 :=
  (by decide +kernel : ∀ t : Fin grid0.N, _)

theorem covers : (cfg0.win 5).Covers := by decide +kernel

/-- The block before, the block itself and the block after, read at an index; `s` is the place in the sequence. -/
theorem before_apply (c : Dev nD) (t : Fin cfg0.N) (q : Fin 8) (h : Fin 1024) (s : Fin 8192) (hs : s.val = (blockOf t * 64 - 1) * 8 + q.val) :
    (X0_0 m c t : Vec Ideal S1x8x1024 .f32) (ix3 0 q h) = Seq m c (batchOf t) (chanOf t h) s := by
  obtain ⟨-, e0, e1, e2, -⟩ := idx t
  obtain ⟨s, hs'⟩ := s
  obtain rfl : s = (blockOf t * 64 - 1) * 8 + q.val := hs
  unfold X0_0 Pipeline.Window.fill
  rw [dif_pos (moved0_0 t (ix3 0 q h))]
  blk_ext! [iblk, V, batchOf, chanOf, blockOf, e0, e1, e2]

theorem here_apply (c : Dev nD) (t : Fin cfg0.N) (q : Fin 512) (h : Fin 1024) :
    (X0_1 m c t : Vec Ideal S1x512x1024 .f32) (ix3 0 q h) = Seq m c (batchOf t) (chanOf t h) (placeOf t q) := by
  obtain ⟨-, -, -, -, e0, e1, e2, -⟩ := idx t
  unfold X0_1 Pipeline.Window.fill
  rw [dif_pos (moved0_1 t (ix3 0 q h))]
  blk_ext! [iblk, V, batchOf, chanOf, placeOf, blockOf, e0, e1, e2]

theorem after_apply (c : Dev nD) (t : Fin cfg0.N) (q : Fin 8) (h : Fin 1024) (s : Fin 8192) (hs : s.val = min ((blockOf t + 1) * 64) 1023 * 8 + q.val) :
    (X0_2 m c t : Vec Ideal S1x8x1024 .f32) (ix3 0 q h) = Seq m c (batchOf t) (chanOf t h) s := by
  obtain ⟨-, -, -, -, -, -, -, e0, e1, e2, -⟩ := idx t
  obtain ⟨s, hs'⟩ := s
  obtain rfl : s = min ((blockOf t + 1) * 64) 1023 * 8 + q.val := hs
  unfold X0_2 Pipeline.Window.fill
  rw [dif_pos (moved0_2 t (ix3 0 q h))]
  blk_ext! [iblk, V, batchOf, chanOf, blockOf, e0, e1, e2]

theorem w_apply (c : Dev nD) (t : Fin cfg0.N) (k : Fin 5) (h : Fin 1024) :
    (iblk m c 3 t : Vec Ideal S5x1024 .f32) (ix2 k h) = W m c k (chanOf t h) := by
  obtain ⟨-, -, -, -, -, -, -, -, -, -, e0, e1, -⟩ := idx t
  blk_ext! [iblk, V, chanOf, e0, e1]

theorem bias_apply (c : Dev nD) (t : Fin cfg0.N) (h : Fin 1024) :
    (iblk m c 4 t : Vec Ideal S1x1024 .f32) (ix2 0 h) = Bias m c (chanOf t h) := by
  obtain ⟨-, -, -, -, -, -, -, -, -, -, -, -, e0, e1, -⟩ := idx t
  blk_ext! [iblk, V, chanOf, e0, e1]

/-- A tap of the scratch is the sequence two places to the left of the tap, zero past its ends. -/
theorem scratch_apply (c : Dev nD) (t : Fin cfg0.N) (k : Fin 5) (r : Fin 512) (h : Fin 1024) :
    ext (F := Ideal) (grid0.coords t) (X0_0 m c t) (X0_1 m c t) (X0_2 m c t) (ix2 (⟨6 + k.val + r.val, by omega⟩ : Fin 528) h)
      = tapAt (Seq m c (batchOf t) (chanOf t h)) (placeOf t r) k := by
  have hb : (grid0.coords t 1).val = blockOf t := (idx t).1
  have hlt : blockOf t < 16 := Nat.mod_lt _ (by omega)
  have hpl : (placeOf t r).val = blockOf t * 512 + r.val := rfl
  refine ext_eq _ _ _ _ _ h _ (fun q hq => ?_) (fun q hq => ?_) (fun q hq => ?_)
  · have hq : 6 + k.val + r.val = q.val := hq
    rw [hb]
    unfold tapAt
    by_cases h0 : blockOf t = 0
    · rw [if_pos h0, dif_neg (by rw [hpl]; omega)]
    · rw [if_neg h0, dif_pos (by rw [hpl]; omega)]
      exact before_apply m c t q h _ (by show (placeOf t r).val + k.val - 2 = _; rw [hpl]; omega)
  · have hq : 6 + k.val + r.val = 8 + q.val := hq
    unfold tapAt
    rw [dif_pos (by rw [hpl]; omega), here_apply]
    exact congrArg _ (Fin.ext (by show blockOf t * 512 + q.val = (placeOf t r).val + k.val - 2; rw [hpl]; omega))
  · have hq : 6 + k.val + r.val = 520 + q.val := hq
    rw [hb]
    unfold tapAt
    by_cases h0 : blockOf t = 15
    · rw [if_pos h0, dif_neg (by rw [hpl]; omega)]
    · rw [if_neg h0, dif_pos (by rw [hpl]; omega)]
      exact after_apply m c t q h _ (by show (placeOf t r).val + k.val - 2 = _; rw [hpl]; omega)

/-- What the result holds. -/
def convolved (c : Dev nD) (i : S4x8192x6144.Idx) : EReal :=
  siluAt (fiveTaps (tapAt (Seq m c (i 0) (i 2)) (i 1)) (fun k => W m c k (i 2)) (Bias m c (i 2)))

/-- What point `t` leaves in the result's block. -/
theorem block (c : Dev nD) (t : Fin cfg0.N) (r : Fin 512) (h : Fin 1024) :
    outsAt0 (F := Ideal) m c t (ix3 0 r h) = convolved m c (ix3 (batchOf t) (placeOf t r) (chanOf t h)) := by
  unfold outsAt0
  rw [out_text]
  refine (text_apply _ _ _ _ _ _ _ _ _ _ _ r h).trans ?_
  unfold convolved
  refine congrArg siluAt ?_
  have hp : ∀ k : Fin 5, tap (F := Ideal) (ext (grid0.coords t) (X0_0 m c t) (X0_1 m c t) (X0_2 m c t)) k (ix2 r h) * weight (F := Ideal) (iblk m c 3 t) k (ix2 0 h)
      = tapAt (Seq m c (batchOf t) (chanOf t h)) (placeOf t r) k * W m c k (chanOf t h) := fun k =>
    congrArg₂ (· * ·) ((tap_apply _ k r h).trans (scratch_apply m c t k r h)) ((weight_apply _ k h).trans (w_apply m c t k h))
  rw [hp 0, hp 1, hp 2, hp 3, hp 4]
  exact (taps_sum _ (fun k => tapAt (Seq m c (batchOf t) (chanOf t h)) (placeOf t r) k * W m c k (chanOf t h))).trans
    (congrArg (_ + ·) (bias_apply m c t h))

/-- The run leaves the convolution in the result array. -/
theorem result (c : Dev nD) : (dats m 0 c).arrAt 5 cfg0.N = convolved m c := by
  refine (dats m 0 c).arrAt_eq_of_covers 5 _ covers fun t _ y => ?_
  obtain ⟨-, -, -, -, -, -, -, -, -, -, -, -, -, -, e0, e1, e2⟩ := idx t
  rw [after0_5]
  blk_simp
  obtain ⟨r, h, rfl⟩ : ∃ (r : Fin 512) (h : Fin 1024), y = ix3 0 r h := ⟨y 1, y 2, by funext x; fin_cases x; exact Subsingleton.elim (α := Fin 1) _ _; rfl; rfl⟩
  have he : (win0_5.blk t).view.emb (ix3 0 r h) = ix3 (batchOf t) (placeOf t r) (chanOf t h) := by
    blk_ext! [batchOf, placeOf, blockOf, chanOf, e0, e1, e2]
  rw [he]
  exact block m c t r h

end Cert.ConvIdeal.Block

end
-- ==== Proof.ConvRef.lean ====
/- What the reference of the convolution computes, read at an index. -/
module

public import proofs.«01_k».proof.Proof.Gen.RefConvIdeal.Read
public import proofs.«01_k».proof.Proof.GroupMath
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.ConvRef

open Layer
open Cert.RefConvIdeal Cert.RefConvIdeal.Gen Cert.RefConvIdeal.Read

variable (x0 : Vec Ideal S4x8192x10368 .f32) (x1 : Vec Ideal S5x6144 .f32) (x2 : Vec Ideal S6144 .f32)

/-- The sequence of one channel of one batch element. -/
def seqOf (b : Fin 4) (h : Fin 6144) (s : Fin 8192) : EReal := x0 (ix3 b s (⟨4096 + h.val, by omega⟩ : Fin 10368))

theorem channels_apply (b : Fin 4) (s : Fin 8192) (h : Fin 6144) : val_main_v0 (F := Ideal) x0 (ix3 b s h) = seqOf x0 b h s := by
  pointwise [val_main_v0, seqOf]

/-- The padded sequence, at the place a tap reads. -/
theorem padded_apply (b : Fin 4) (s : Fin 8192) (k : Fin 5) (h : Fin 6144) :
    val_main_v1 (F := Ideal) x0 (ix3 b (⟨s.val + k.val, by omega⟩ : Fin 8196) h) = tapAt (seqOf x0 b h) s k := by
  unfold val_main_v1 tapAt
  split
  · next hin =>
    rw [← channels_apply]
    refine pad_apply_of_inside _ _ _ _ _ _ _ _ (ix3 b (⟨s.val + k.val - 2, hin.2⟩ : Fin 8192) h) fun a => ?_
    fin_cases a
    · show b.val = 0 + b.val * (0 + 1); omega
    · show s.val + k.val = 2 + (s.val + k.val - 2) * (0 + 1); omega
    · show h.val = 0 + h.val * (0 + 1); omega
  · next hout =>
    refine (pad_apply_of_not_inside _ _ _ _ _ _ _ _ (1 : Fin 3) ?_).trans ?_
    · show ¬(2 ≤ s.val + k.val ∧ (s.val + k.val - 2) % (0 + 1) = 0 ∧ (s.val + k.val - 2) / (0 + 1) < 8192)
      rw [Nat.zero_add, Nat.div_one]
      exact fun hc => hout ⟨hc.1, hc.2.2⟩
    · exact sitofp_zero (φ := .f32)

/-- The five products and the bias. -/
theorem summed_apply (b : Fin 4) (s : Fin 8192) (h : Fin 6144) :
    val_main_v40 (F := Ideal) x0 x1 x2 (ix3 b s h) = fiveTaps (tapAt (seqOf x0 b h) s) (fun k => x1 (ix2 k h)) (x2 (ix1 h)) := by
  have e : val_main_v40 (F := Ideal) x0 x1 x2 (ix3 b s h)
      = (0 + val_main_v1 (F := Ideal) x0 (ix3 b (⟨s.val + 0, by omega⟩ : Fin 8196) h) * x1 (ix2 0 h)
          + val_main_v1 (F := Ideal) x0 (ix3 b (⟨s.val + 1, by omega⟩ : Fin 8196) h) * x1 (ix2 1 h)
          + val_main_v1 (F := Ideal) x0 (ix3 b (⟨s.val + 2, by omega⟩ : Fin 8196) h) * x1 (ix2 2 h)
          + val_main_v1 (F := Ideal) x0 (ix3 b (⟨s.val + 3, by omega⟩ : Fin 8196) h) * x1 (ix2 3 h)
          + val_main_v1 (F := Ideal) x0 (ix3 b (⟨s.val + 4, by omega⟩ : Fin 8196) h) * x1 (ix2 4 h)) + x2 (ix1 h) := by
    simp only [val_main_v40, val_main_v39, val_main_v38, val_main_v37, val_main_v36, val_main_v35, val_main_v34, val_main_v33, val_main_v32,
      val_main_v31, val_main_v30, val_main_v29, val_main_v28, val_main_v27, val_main_v26, val_main_v25, val_main_v24, val_main_v23, val_main_v22,
      val_main_v21, val_main_v20, val_main_v19, val_main_v18, val_main_v17, val_main_v16, val_main_v15, val_main_v14, val_main_v13, val_main_v12,
      val_main_v11, val_main_v10, val_main_v9, val_main_v8, val_main_cst, val_main_v7, val_main_v6, val_main_v5, val_main_v4, val_main_v3, val_main_v2]
    generalize val_main_v1 (F := Ideal) x0 = y
    pointwise []
    simp only [Nat.add_comm]
  rw [e, zero_add]
  have p := padded_apply x0 b s
  exact congrArg (· + _) (congrArg₂ (· + ·) (congrArg₂ (· + ·) (congrArg₂ (· + ·) (congrArg₂ (· + ·)
    (congrArg (· * _) (p 0 h)) (congrArg (· * _) (p 1 h))) (congrArg (· * _) (p 2 h))) (congrArg (· * _) (p 3 h))) (congrArg (· * _) (p 4 h)))

theorem result_apply (b : Fin 4) (s : Fin 8192) (h : Fin 6144) :
    val_main_v47 (F := Ideal) x0 x1 x2 (ix3 b s h) = siluAt (fiveTaps (tapAt (seqOf x0 b h) s) (fun k => x1 (ix2 k h)) (x2 (ix1 h))) := by
  rw [← summed_apply]
  simp only [val_main_v47, val_main_v46, val_main_v45, val_main_cst_1, val_main_v44, val_main_v43, val_main_cst_0, val_main_v42, val_main_v41]
  generalize val_main_v40 (F := Ideal) x0 x1 x2 = y
  pointwise [siluAt]
  rfl

end Cert.ConvRef

end
-- ==== Proof.ConvEq.lean ====
/- The convolution and its reference leave the same array. -/
module

public import proofs.«01_k».proof.Defs
public import proofs.«01_k».proof.Proof.Conv
public import proofs.«01_k».proof.Proof.ConvRef
public import proofs.«01_k».proof.Proof.Gen.RefConvIdeal.Run

@[expose] public section

set_option maxRecDepth 16384

noncomputable section

open Idealize.ShloMosaic Idealize.ShloMosaic.TcCoe Idealize.SL.Sem

namespace Cert.ConvEq

open Cert.ConvIdeal.Block

theorem algebraic : Cert.algebraic_ConvIdeal_RefConvIdeal := by
  intro m g m' g' _ hag
  refine ⟨fun c => convolved m c, (θ_run Cert.ConvIdeal.defs _ _).mono (fun _ h c => ⟨(h c).1.trans (result m c), (h c).2⟩) (Cert.ConvIdeal.Value.run_blocks m g), ?_⟩
  refine (θ_run Cert.RefConvIdeal.defs _ _).mono (fun _ h c => ⟨(h c).1.trans ?_, (h c).2⟩) (Cert.RefConvIdeal.Value.run (F := Ideal) m' g')
  obtain ⟨h0, h1, h2⟩ := hag c
  rw [Cert.RefConvIdeal.Read.val_main_v47_eq, h0, h1, h2]
  funext i
  obtain ⟨b, r, k, rfl⟩ : ∃ (b : Fin 4) (r : Fin 8192) (k : Fin 6144), i = ix3 b r k := ⟨i 0, i 1, i 2, by funext x; fin_cases x <;> rfl⟩
  exact Cert.ConvRef.result_apply _ _ _ b r k

end Cert.ConvEq

end
-- ==== Proof.Readout.lean ====
/-
  What the state-space readout leaves in its result. A point takes 256 rows and treats the 8 groups of 512 columns one
  after the other: sum of the directions, skipped input, gate, norm, gain.
-/
module

public import proofs.«01_k».proof.Proof.Gen.ReadoutIdeal.Value
public import proofs.«01_k».proof.Proof.GroupMath
public import Idealize.ShloMosaic.Lib.Tactic
public import Idealize.ShloMosaic.Lib.Pipeline.ValueKit.Point
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.ReadoutIdeal.Block

open Cert.ReadoutIdeal Cert.ReadoutIdeal.Gen Layer

/-! ## The eight groups -/

section
variable {F : FTy → Type} [FloatOps F]

theorem groupInb (n : Fin 8) : ∀ a, (![0, n.val * 512] : Fin 2 → Nat) a + S256x512.size a ≤ S256x4096.size a := by
  intro d; fin_cases d
  · show 0 + 256 ≤ 256; omega
  · show n.val * 512 + 512 ≤ 4096; omega
theorem gainInb (n : Fin 8) : ∀ a, (![0, n.val * 512] : Fin 2 → Nat) a + S1x512.size a ≤ S1x4096.size a := by
  intro d; fin_cases d
  · show 0 + 1 ≤ 1; omega
  · show n.val * 512 + 512 ≤ 4096; omega

/-- The columns of group `n` in a block of rows, and in a row of weights. -/
abbrev groupRect (n : Fin 8) : Rect S256x4096 := Rect.unit (s := S256x4096) ![0, n.val * 512] S256x512.size (groupInb n)
abbrev gainRect (n : Fin 8) : Rect S1x4096 := Rect.unit (s := S1x4096) ![0, n.val * 512] S1x512.size (gainInb n)

/-- Group `n` of a block: every group is the first group's text at its own columns. -/
def group (f b x z : Vec F S256x4096 .f32) (d g : Vec F S1x4096 .f32) (n : Fin 8) : FVec F S256x512 .bf16 :=
  k0_pay2 (View.ld f (groupRect n)) (View.ld b (groupRect n)) (View.ld d (gainRect n)) (View.ld x (groupRect n)) (View.ld z (groupRect n)) (View.ld g (gainRect n))

variable (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S256x4096 .bf16) (harg7 : arg7.IsWhole)
  (x0 x1 x2 x3 : Vec F S256x4096 .f32) (x4 x5 : Vec F S1x4096 .f32)

/-- The point stores the eight groups, the last one last. -/
theorem out_text :
    out0_A_6 c i arg1 harg1 arg2 harg2 arg3 harg3 arg4 harg4 arg5 harg5 arg6 harg6 arg7 harg7 x0 x1 x2 x3 x4 x5
      = View.canon (List.ofFn fun n : Fin 8 => (⟨groupRect n.rev, group x0 x1 x2 x3 x4 x5 n.rev⟩ : View.Piece (Elt F) S256x4096 .bf16)) := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread, harg6.read_unread]
  rfl

end

theorem group_text_apply (f b : Vec Ideal S256x512 .f32) (d : Vec Ideal S1x512 .f32) (x z : Vec Ideal S256x512 .f32) (g : Vec Ideal S1x512 .f32) (r : Fin 256) (e : Fin 512) :
    k0_pay2 (F := Ideal) f b d x z g (ix2 r e)
      = normGroup (fun a => readoutIn (f (ix2 r a)) (b (ix2 r a)) (d (ix2 0 a)) (x (ix2 r a)) (z (ix2 r a))) (fun a => g (ix2 0 a)) e := by
  pointwise [k0_pay2, normGroup, readoutIn, groupInvRms, siluAt]

theorem ld_group_apply (x : Vec Ideal S256x4096 .f32) (n : Fin 8) (r : Fin 256) (e : Fin 512) :
    View.ld x (groupRect n) (ix2 r e) = x (ix2 r (groupCol n e)) :=
  View.ld_unit_apply_of x _ _ _ _ (ix2 r (groupCol n e)) fun d => match d with | ⟨0, _⟩ => (Nat.zero_add r.val).symm | ⟨1, _⟩ => rfl
theorem ld_gain_apply (x : Vec Ideal S1x4096 .f32) (n : Fin 8) (e : Fin 512) :
    View.ld x (gainRect n) (ix2 0 e) = x (ix2 0 (groupCol n e)) :=
  View.ld_unit_apply_of x _ _ _ _ (ix2 0 (groupCol n e)) fun d => match d with | ⟨0, _⟩ => rfl | ⟨1, _⟩ => rfl

theorem group_apply (f b x z : Vec Ideal S256x4096 .f32) (d g : Vec Ideal S1x4096 .f32) (n : Fin 8) (r : Fin 256) (e : Fin 512) :
    group (F := Ideal) f b x z d g n (ix2 r e)
      = normGroup (fun a => readoutIn (f (ix2 r (groupCol n a))) (b (ix2 r (groupCol n a))) (d (ix2 0 (groupCol n a))) (x (ix2 r (groupCol n a))) (z (ix2 r (groupCol n a))))
          (fun a => g (ix2 0 (groupCol n a))) e := by
  unfold group
  rw [group_text_apply]
  congr 1
  · funext a
    rw [← ld_group_apply f n r a, ← ld_group_apply b n r a, ← ld_gain_apply d n a, ← ld_group_apply x n r a, ← ld_group_apply z n r a]
  · exact funext fun a => ld_gain_apply g n a

/-- What the point stores, at a row and a column. -/
theorem out_apply (f b x z : Vec Ideal S256x4096 .f32) (d g : Vec Ideal S1x4096 .f32) (r : Fin 256) (k : Fin 4096) :
    View.canon (List.ofFn fun n : Fin 8 => (⟨groupRect n.rev, group f b x z d g n.rev⟩ : View.Piece (Elt Ideal) S256x4096 .bf16)) (ix2 r k)
      = readoutRow (fun a => readoutIn (f (ix2 r a)) (b (ix2 r a)) (d (ix2 0 a)) (x (ix2 r a)) (z (ix2 r a))) (fun a => g (ix2 0 a)) k := by
  refine View.canon_ofFn_unit_eq_of_forall (Val := Elt Ideal) (e := .bf16) (S := S256x4096) (fun n : Fin 8 => ![0, n.rev.val * 512]) S256x512.size (fun n => groupInb n.rev) (fun n => group f b x z d g n.rev) _ _
    ⟨(groupOf k).rev, fun a => ?_⟩ fun n y hy => ?_
  · fin_cases a
    · exact ⟨Nat.zero_le _, (Nat.zero_add 256).symm ▸ r.isLt⟩
    · show ((groupOf k).rev.rev).val * 512 ≤ k.val ∧ k.val < ((groupOf k).rev.rev).val * 512 + 512
      rw [Fin.rev_rev]
      show k.val / 512 * 512 ≤ k.val ∧ k.val < k.val / 512 * 512 + 512
      omega
  · obtain ⟨r', e, rfl⟩ : ∃ (r' : Fin 256) (e : Fin 512), y = ix2 r' e := ⟨y 0, y 1, by funext x; fin_cases x <;> rfl⟩
    have h0 : r.val = 0 + r'.val := hy 0
    have h1 : k.val = n.rev.val * 512 + e.val := hy 1
    have hr : r' = r := Fin.ext (by omega)
    have hn : groupOf k = n.rev := Fin.ext (by show k.val / 512 = n.rev.val; omega)
    have he : inGroup k = e := Fin.ext (by show k.val % 512 = e.val; omega)
    unfold readoutRow
    rw [hn, he, hr]
    exact group_apply f b x z d g n.rev r e

/-! ## The arrays -/

variable (m : (ℓ : Loc nD τ sig) → Buf (Elt Ideal) ℓ)

/-- The argument arrays, as functions of a row and a column. Rows come batch element by batch element. -/
abbrev Yf (c : Dev nD) (r : Fin 32768) (k : Fin 4096) : EReal := m ((c : Thread nD τ).loc main_arg0) (ix3 (⟨r.val / 8192, by omega⟩ : Fin 4) (⟨r.val % 8192, by omega⟩ : Fin 8192) k)
abbrev Yb (c : Dev nD) (r : Fin 32768) (k : Fin 4096) : EReal := m ((c : Thread nD τ).loc main_arg1) (ix3 (⟨r.val / 8192, by omega⟩ : Fin 4) (⟨r.val % 8192, by omega⟩ : Fin 8192) k)
abbrev X (c : Dev nD) (r : Fin 32768) (k : Fin 4096) : EReal := m ((c : Thread nD τ).loc main_arg2) (ix3 (⟨r.val / 8192, by omega⟩ : Fin 4) (⟨r.val % 8192, by omega⟩ : Fin 8192) (⟨k.val, by omega⟩ : Fin 6144))
abbrev Z (c : Dev nD) (r : Fin 32768) (k : Fin 4096) : EReal := m ((c : Thread nD τ).loc main_arg3) (ix3 (⟨r.val / 8192, by omega⟩ : Fin 4) (⟨r.val % 8192, by omega⟩ : Fin 8192) (⟨k.val, by omega⟩ : Fin 10368))
abbrev Skip (c : Dev nD) (k : Fin 4096) : EReal := m ((c : Thread nD τ).loc main_arg4) (ix1 (skipOf k))
abbrev Gain (c : Dev nD) (k : Fin 4096) : EReal := m ((c : Thread nD τ).loc main_arg5) (ix1 k)

/-- The rows of point `t`. -/
def rowOf (t : Fin cfg0.N) (r : Fin 256) : Fin 32768 := ⟨t.val * 256 + r.val, by have h : t.val < 128 := lt_of_lt_of_eq t.isLt N_0; omega⟩

/-- The index maps of the windows, decided over the grid. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem covers : (cfg0.win 6).Covers := by decide +kernel

theorem forward_apply (c : Dev nD) (t : Fin cfg0.N) (r : Fin 256) (k : Fin 4096) :
    (iblk m c 0 t : Vec Ideal S256x4096 .f32) (ix2 r k) = Yf m c (rowOf t r) k := by
  obtain ⟨e0, e1, -⟩ := idx t
  blk_ext! [iblk, V, rowOf, e0, e1]

theorem backward_apply (c : Dev nD) (t : Fin cfg0.N) (r : Fin 256) (k : Fin 4096) :
    (iblk m c 1 t : Vec Ideal S256x4096 .f32) (ix2 r k) = Yb m c (rowOf t r) k := by
  obtain ⟨-, -, e0, e1, -⟩ := idx t
  blk_ext! [iblk, V, rowOf, e0, e1]

theorem input_apply (c : Dev nD) (t : Fin cfg0.N) (r : Fin 256) (k : Fin 4096) :
    (X0_2 m c t : Vec Ideal S256x4096 .f32) (ix2 r k) = X m c (rowOf t r) k := by
  obtain ⟨-, -, -, -, e0, e1, -⟩ := idx t
  unfold X0_2 Pipeline.Window.fill
  rw [dif_pos (moved0_2 t (ix2 r k))]
  blk_ext! [iblk, V, rowOf, e0, e1]

theorem gates_apply (c : Dev nD) (t : Fin cfg0.N) (r : Fin 256) (k : Fin 4096) :
    (X0_3 m c t : Vec Ideal S256x4096 .f32) (ix2 r k) = Z m c (rowOf t r) k := by
  obtain ⟨-, -, -, -, -, -, e0, e1, -⟩ := idx t
  unfold X0_3 Pipeline.Window.fill
  rw [dif_pos (moved0_3 t (ix2 r k))]
  blk_ext! [iblk, V, rowOf, e0, e1]

theorem skips_apply (c : Dev nD) (t : Fin cfg0.N) (k : Fin 4096) :
    (iblk m c 4 t : Vec Ideal S1x4096 .f32) (ix2 0 k) = Skip m c k := by
  obtain ⟨-, -, -, -, -, -, -, -, e0, e1, -⟩ := idx t
  blk_ext! [iblk, V, skipOf, e0, e1]

theorem gains_apply (c : Dev nD) (t : Fin cfg0.N) (k : Fin 4096) :
    (iblk m c 5 t : Vec Ideal S1x4096 .f32) (ix2 0 k) = Gain m c k := by
  obtain ⟨-, -, -, -, -, -, -, -, -, -, e0, e1, -⟩ := idx t
  blk_ext! [iblk, V, e0, e1]

/-- What the result holds. -/
def readout (c : Dev nD) (i : S32768x4096.Idx) : EReal :=
  readoutRow (fun k => readoutIn (Yf m c (i 0) k) (Yb m c (i 0) k) (Skip m c k) (X m c (i 0) k) (Z m c (i 0) k)) (Gain m c) (i 1)

/-- What point `t` leaves in the result's block. -/
theorem block (c : Dev nD) (t : Fin cfg0.N) (r : Fin 256) (k : Fin 4096) :
    outsAt0 (F := Ideal) m c t (ix2 r k) = readout m c (ix2 (rowOf t r) k) := by
  unfold outsAt0
  rw [out_text]
  refine (out_apply _ _ _ _ _ _ r k).trans ?_
  unfold readout
  refine congrArg₂ (fun y g => readoutRow y g k) (funext fun a => ?_) (funext fun a => gains_apply m c t a)
  exact congr (congr (congr (congrArg₂ readoutIn (forward_apply m c t r a) (backward_apply m c t r a)) (skips_apply m c t a)) (input_apply m c t r a)) (gates_apply m c t r a)

/-- The run leaves the readout in the result array. -/
theorem result (c : Dev nD) : (dats m 0 c).arrAt 6 cfg0.N = readout m c := by
  refine (dats m 0 c).arrAt_eq_of_covers 6 _ covers fun t _ y => ?_
  obtain ⟨-, -, -, -, -, -, -, -, -, -, -, -, e0, e1⟩ := idx t
  rw [after0_6]
  blk_simp
  obtain ⟨r, k, rfl⟩ : ∃ (r : Fin 256) (k : Fin 4096), y = ix2 r k := ⟨y 0, y 1, by funext x; fin_cases x <;> rfl⟩
  have he : (win0_6.blk t).view.emb (ix2 r k) = ix2 (rowOf t r) k := by
    blk_ext! [rowOf, e0, e1]
  rw [he]
  exact block m c t r k

end Cert.ReadoutIdeal.Block

end
-- ==== Proof.ReadoutRef.lean ====
/-
  What the reference of the state-space readout computes, read at an index: the row's gated sums, normalised group by group.
-/
module

public import proofs.«01_k».proof.Proof.Gen.RefReadoutIdeal.Read
public import proofs.«01_k».proof.Proof.InProjRef
public import proofs.«01_k».proof.Proof.GroupMath
public import Idealize.ShloMosaic.Lib.Pointwise

@[expose] public section

set_option maxRecDepth 16384

noncomputable section

open Idealize.ShloMosaic Idealize.ShloMosaic.TcCoe Idealize.SL.Sem

namespace Cert.ReadoutRef

open Layer
open Cert.InProjRef (batch place)
open Cert.RefReadoutIdeal Cert.RefReadoutIdeal.Gen Cert.RefReadoutIdeal.Read

variable (x0 x1 : Vec Ideal S4x8192x4096 .f32) (x2 : Vec Ideal S4x8192x6144 .f32) (x3 : Vec Ideal S4x8192x10368 .f32)
  (x4 : Vec Ideal S64 .f32) (x5 : Vec Ideal S4096 .f32)

/-- Column `k` among the convolved columns, and among the projected ones. -/
def inConv (k : Fin 4096) : Fin 6144 := ⟨k.val, by omega⟩
def inProj (k : Fin 4096) : Fin 10368 := ⟨k.val, by omega⟩

/-- Both directions and the skipped input. -/
theorem summed_apply (b : Fin 4) (s : Fin 8192) (k : Fin 4096) :
    val_main_v9 (F := Ideal) x0 x1 x2 x4 (ix3 b s k)
      = x0 (ix3 b s k) + x1 (ix3 b s k) + x4 (ix1 (skipOf k)) * x2 (ix3 b s (inConv k)) := by
  pointwise [val_main_v9, val_main_v8, val_main_v7, val_main_v6, val_main_v5, val_main_v4, val_main_v3, val_main_v2, val_main_v1, val_main_v0,
    skipOf, inConv]
  have e : k.val / 512 * 8 + k.val / 64 % 8 = k.val / 64 := by omega
  simp only [e]

theorem gate_apply (b : Fin 4) (s : Fin 8192) (k : Fin 4096) :
    val_main_v17 (F := Ideal) x3 (ix3 b s k) = siluAt (x3 (ix3 b s (inProj k))) := by
  pointwise [val_main_v17, val_main_v16, val_main_v15, val_main_cst_0, val_main_v14, val_main_v13, val_main_cst, val_main_v12, val_main_v11,
    val_main_v10, siluAt, inProj]
  rfl

/-- The gated row. -/
theorem gated_apply (b : Fin 4) (s : Fin 8192) (k : Fin 4096) :
    val_main_v18 (F := Ideal) x0 x1 x2 x3 x4 (ix3 b s k)
      = readoutIn (x0 (ix3 b s k)) (x1 (ix3 b s k)) (x4 (ix1 (skipOf k))) (x2 (ix3 b s (inConv k))) (x3 (ix3 b s (inProj k))) := by
  have p : val_main_v18 (F := Ideal) x0 x1 x2 x3 x4 (ix3 b s k)
      = val_main_v9 (F := Ideal) x0 x1 x2 x4 (ix3 b s k) * val_main_v17 (F := Ideal) x3 (ix3 b s k) := rfl
  rw [p, summed_apply, gate_apply]
  rfl

theorem grouped_apply (b : Fin 4) (s : Fin 8192) (n : Fin 8) (e : Fin 512) :
    val_main_v19 (F := Ideal) x0 x1 x2 x3 x4 (ix4 b s n e) = val_main_v18 (F := Ideal) x0 x1 x2 x3 x4 (ix3 b s (groupCol n e)) := by
  unfold val_main_v19
  generalize val_main_v18 (F := Ideal) x0 x1 x2 x3 x4 = y
  pointwise [groupCol]

theorem gains_apply (n : Fin 8) (e : Fin 512) : val_main_v20 (F := Ideal) x5 (ix2 n e) = x5 (ix1 (groupCol n e)) := by
  pointwise [val_main_v20, groupCol]

/-- The normalised groups. -/
theorem normed_apply (b : Fin 4) (s : Fin 8192) (n : Fin 8) (e : Fin 512) :
    val_main_v33 (F := Ideal) x0 x1 x2 x3 x4 x5 (ix4 b s n e)
      = normGroup (fun a => val_main_v19 (F := Ideal) x0 x1 x2 x3 x4 (ix4 b s n a)) (fun a => val_main_v20 (F := Ideal) x5 (ix2 n a)) e := by
  simp only [val_main_v33, val_main_v32, val_main_v31, val_main_v30, val_main_v29, val_main_v28, val_main_v27, val_main_v26, val_main_cst_3,
    val_main_v25, val_main_v24, val_main_cst_2, val_main_v23, val_main_v22, val_main_cst_1, val_main_v21]
  generalize val_main_v19 (F := Ideal) x0 x1 x2 x3 x4 = y
  generalize val_main_v20 (F := Ideal) x5 = g
  pointwise [normGroup, groupInvRms]

theorem result_apply (r : Fin 32768) (k : Fin 4096) :
    val_main_v35 (F := Ideal) x0 x1 x2 x3 x4 x5 (ix2 r k)
      = readoutRow (fun a => readoutIn (x0 (ix3 (batch r) (place r) a)) (x1 (ix3 (batch r) (place r) a)) (x4 (ix1 (skipOf a)))
            (x2 (ix3 (batch r) (place r) (inConv a))) (x3 (ix3 (batch r) (place r) (inProj a))))
          (fun a => x5 (ix1 a)) k := by
  have e : val_main_v35 (F := Ideal) x0 x1 x2 x3 x4 x5 (ix2 r k)
      = val_main_v33 (F := Ideal) x0 x1 x2 x3 x4 x5 (ix4 (batch r) (place r) (groupOf k) (inGroup k)) := by
    unfold val_main_v35 val_main_v34
    generalize val_main_v33 (F := Ideal) x0 x1 x2 x3 x4 x5 = y
    pointwise [batch, place, groupOf, inGroup]
  rw [e, normed_apply]
  simp only [grouped_apply, gated_apply, gains_apply]
  rfl

end Cert.ReadoutRef

end
-- ==== Proof.ReadoutEq.lean ====
/- The state-space readout and its reference leave the same array. -/
module

public import proofs.«01_k».proof.Defs
public import proofs.«01_k».proof.Proof.Readout
public import proofs.«01_k».proof.Proof.ReadoutRef
public import proofs.«01_k».proof.Proof.Gen.RefReadoutIdeal.Run

@[expose] public section

set_option maxRecDepth 16384

noncomputable section

open Idealize.ShloMosaic Idealize.ShloMosaic.TcCoe Idealize.SL.Sem

namespace Cert.ReadoutEq

open Cert.ReadoutIdeal.Block

theorem algebraic : Cert.algebraic_ReadoutIdeal_RefReadoutIdeal := by
  intro m g m' g' _ hag
  refine ⟨fun c => readout m c, (θ_run Cert.ReadoutIdeal.defs _ _).mono (fun _ h c => ⟨(h c).1.trans (result m c), (h c).2⟩) (Cert.ReadoutIdeal.Value.run_blocks m g), ?_⟩
  refine (θ_run Cert.RefReadoutIdeal.defs _ _).mono (fun _ h c => ⟨(h c).1.trans ?_, (h c).2⟩) (Cert.RefReadoutIdeal.Value.run (F := Ideal) m' g')
  obtain ⟨h0, h1, h2, h3, h4, h5⟩ := hag c
  rw [Cert.RefReadoutIdeal.Read.val_main_v35_eq, h0, h1, h2, h3, h4, h5]
  funext i
  obtain ⟨r, k, rfl⟩ : ∃ (r : Fin 32768) (k : Fin 4096), i = ix2 r k := ⟨i 0, i 1, by funext x; fin_cases x <;> rfl⟩
  exact Cert.ReadoutRef.result_apply _ _ _ _ _ _ r k

end Cert.ReadoutEq

end
-- ==== Proof.AdaMath.lean ====
/- The modulation's rows: eight conditioning rows, and what a layer's table makes of one of them. -/
module

public import proofs.«01_k».proof.Proof.HeadMath

@[expose] public section

noncomputable section

open Idealize.ShloMosaic

namespace Layer

/-- The conditioning rows: one per batch element, one for the context, and three rows of zeros. -/
def condRow (latent : Fin 4 → Fin 2048 → EReal) (context : Fin 2048 → EReal) (r : Fin 8) (d : Fin 2048) : EReal :=
  if h : r.val < 4 then latent ⟨r.val, h⟩ d else if r.val < 5 then context d else 0

/-- One entry of a row's modulation. -/
def modulation (x w : Fin 2048 → EReal) (b : EReal) : EReal := (∑ d, siluAt (x d) * w d) + b

theorem siluAt_zero : siluAt 0 = 0 := zero_mul _

end Layer

end
-- ==== Proof.Ada.lean ====
/-
  What the modulation leaves in its result: for each layer and each conditioning row, the activated row times the layer's
  weight, plus the layer's bias. A point takes one layer and 768 columns, and all eight rows.
-/
module

public import proofs.«01_k».proof.Proof.Gen.AdaIdeal.Value
public import proofs.«01_k».proof.Proof.AdaMath
public import Idealize.ShloMosaic.Lib.Tactic
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.AdaIdeal.Block

open Cert.AdaIdeal Cert.AdaIdeal.Gen Layer

theorem hz3 : (![0, 0, 0] : Fin 3 → Nat) = fun _ => 0 := funext fun a => by fin_cases a <;> rfl
theorem hz2 : (![0, 0] : Fin 2 → Nat) = fun _ => 0 := funext fun a => by fin_cases a <;> rfl

theorem out_text (x0 : Vec Ideal S8x2048 .f32) (x1 : Vec Ideal S1x2048x768 .f32) (x2 : Vec Ideal S1x1x768 .f32) :
    out0_3 (F := Ideal) x0 x1 x2 = k0_pay1 x0 x1 x2 := by
  unfold out0_3
  rw [View.canon_unit_zero (S := S1x8x768) hz3, View.ld_unit_zero (S := S8x2048) hz2, View.ld_unit_zero (S := S1x2048x768) hz3,
    View.ld_unit_zero (S := S1x1x768) hz3]

theorem text_apply (x0 : Vec Ideal S8x2048 .f32) (x1 : Vec Ideal S1x2048x768 .f32) (x2 : Vec Ideal S1x1x768 .f32) (r : Fin 8) (k : Fin 768) :
    k0_pay1 (F := Ideal) x0 x1 x2 (ix3 0 r k) = modulation (fun d => x0 (ix2 r d)) (fun d => x1 (ix3 0 d k)) (x2 (ix3 0 0 k)) := by
  pointwise [k0_pay1, modulation, siluAt]

/-! ## The arrays -/

variable (m : (ℓ : Loc nD τ sig) → Buf (Elt Ideal) ℓ)

abbrev C (c : Dev nD) : Fin 8 → Fin 2048 → EReal :=
  condRow (fun b d => m ((c : Thread nD τ).loc main_arg0) (ix2 b d)) (fun d => m ((c : Thread nD τ).loc main_arg1) (ix1 d))
abbrev W (c : Dev nD) (l : Fin 4) (d : Fin 2048) (k : Fin 12288) : EReal := m ((c : Thread nD τ).loc main_arg2) (ix3 l d k)
abbrev B (c : Dev nD) (l : Fin 4) (k : Fin 12288) : EReal := m ((c : Thread nD τ).loc main_arg3) (ix2 l k)

/-- The layer and the columns of point `t`. -/
def layerOf (t : Fin cfg0.N) : Fin 4 := ⟨t.val / 16, by have h : t.val < 64 := lt_of_lt_of_eq t.isLt N_0; omega⟩
def colOf (t : Fin cfg0.N) (k : Fin 768) : Fin 12288 := ⟨t.val % 16 * 768 + k.val, by omega⟩

theorem idx : ∀ t : Fin cfg0.N, win0_0.index t (0 : Fin 2) = 0 ∧ win0_0.index t (1 : Fin 2) = 0
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = t.val % 16
    ∧ win0_3.index t (0 : Fin 3) = t.val / 16 ∧ win0_3.index t (1 : Fin 3) = 0 ∧ win0_3.index t (2 : Fin 3) = t.val % 16 :=
  (by decide +kernel : ∀ t : Fin grid0.N, _)

theorem covers : (cfg0.win 3).Covers := by decide +kernel

/-- The kernel's rows, as the host lays them one below the other. -/
theorem stacked_eq (c : Dev nD) :
    (V m c main_v2 : Vec Ideal S8x2048 .f32)
      = concatenate S8x2048 0 [⟨S4x2048, (m ((c : Thread nD τ).loc main_arg0) : Vec Ideal S4x2048 .f32)⟩,
          ⟨S1x2048, broadcastInDim S1x2048 ![1] bcast_S2048_S1x2048_1 (m ((c : Thread nD τ).loc main_arg1) : Vec Ideal S2048 .f32)⟩,
          ⟨S3x2048, broadcastInDim S3x2048 ![] bcast_S_S3x2048 (constant (F := Ideal) S_ .f32 0x00000000#32)⟩]
          concatenates_S4x2048_S1x2048_S3x2048_S8x2048_d0 := by
  rfl

theorem stacked_apply (x : Vec Ideal S4x2048 .f32) (y : Vec Ideal S2048 .f32) (r : Fin 8) (d : Fin 2048) :
    concatenate S8x2048 0 [⟨S4x2048, x⟩, ⟨S1x2048, broadcastInDim S1x2048 ![1] bcast_S2048_S1x2048_1 y⟩,
          ⟨S3x2048, broadcastInDim S3x2048 ![] bcast_S_S3x2048 (constant (F := Ideal) S_ .f32 0x00000000#32)⟩]
          concatenates_S4x2048_S1x2048_S3x2048_S8x2048_d0 (ix2 r d)
      = condRow (fun b a => x (ix2 b a)) (fun a => y (ix1 a)) r d := by
  have e : r.val - 4 < 1 ↔ r.val < 5 := by omega
  pointwise [condRow]
  simp only [e, dite_eq_ite]

theorem c_apply (c : Dev nD) (t : Fin cfg0.N) (r : Fin 8) (d : Fin 2048) :
    (iblk m c 0 t : Vec Ideal S8x2048 .f32) (ix2 r d) = C m c r d := by
  obtain ⟨e0, e1, -⟩ := idx t
  have e : (iblk m c 0 t : Vec Ideal S8x2048 .f32) (ix2 r d) = (V m c main_v2 : Vec Ideal S8x2048 .f32) (ix2 r d) := by
    unfold iblk
    generalize V m c (Pipeline.arrRef spec0 0) = y
    blk_ext! [e0, e1]
  rw [e, stacked_eq]
  exact stacked_apply _ _ r d

theorem w_apply (c : Dev nD) (t : Fin cfg0.N) (d : Fin 2048) (k : Fin 768) :
    (iblk m c 1 t : Vec Ideal S1x2048x768 .f32) (ix3 0 d k) = W m c (layerOf t) d (colOf t k) := by
  obtain ⟨-, -, e0, e1, e2, -⟩ := idx t
  blk_ext! [iblk, V, layerOf, colOf, e0, e1, e2]

theorem bias_apply (c : Dev nD) (t : Fin cfg0.N) (k : Fin 768) :
    (iblk m c 2 t : Vec Ideal S1x1x768 .f32) (ix3 0 0 k) = B m c (layerOf t) (colOf t k) := by
  obtain ⟨-, -, -, -, -, e0, e1, e2, -⟩ := idx t
  blk_ext! [iblk, V, layerOf, colOf, e0, e1, e2]

/-- What the result holds. -/
def modulated (c : Dev nD) (i : S4x8x12288.Idx) : EReal :=
  modulation (C m c (i 1)) (fun d => W m c (i 0) d (i 2)) (B m c (i 0) (i 2))

theorem block (c : Dev nD) (t : Fin cfg0.N) (r : Fin 8) (k : Fin 768) :
    out0_3 (F := Ideal) (iblk m c 0 t) (iblk m c 1 t) (iblk m c 2 t) (ix3 0 r k) = modulated m c (ix3 (layerOf t) r (colOf t k)) := by
  rw [out_text]
  refine (text_apply _ _ _ r k).trans ?_
  unfold modulated
  congr 1
  · exact funext fun d => c_apply m c t r d
  · exact funext fun d => w_apply m c t d k
  · exact bias_apply m c t k

/-- The run leaves the modulation in the result array. -/
theorem result (c : Dev nD) : (dats m 0 c).arrAt 3 cfg0.N = modulated m c := by
  refine (dats m 0 c).arrAt_eq_of_covers 3 _ covers fun t _ y => ?_
  obtain ⟨-, -, -, -, -, -, -, -, e0, e1, e2⟩ := idx t
  rw [after0_3]
  blk_simp
  obtain ⟨r, k, rfl⟩ : ∃ (r : Fin 8) (k : Fin 768), y = ix3 0 r k := ⟨y 1, y 2, by funext x; fin_cases x; exact Subsingleton.elim (α := Fin 1) _ _; rfl; rfl⟩
  have he : (win0_3.blk t).view.emb (ix3 0 r k) = ix3 (layerOf t) r (colOf t k) := by
    blk_ext! [layerOf, colOf, e0, e1, e2]
  rw [he]
  exact block m c t r k

end Cert.AdaIdeal.Block

end
-- ==== Proof.AdaRef.lean ====
/- What the reference of the modulation computes, read at an index. -/
module

public import proofs.«01_k».proof.Proof.Gen.RefAdaIdeal.Read
public import proofs.«01_k».proof.Proof.AdaMath
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

namespace Cert.AdaRef

open Layer
open Cert.RefAdaIdeal Cert.RefAdaIdeal.Gen Cert.RefAdaIdeal.Read

variable (x0 : Vec Ideal S4x2048 .f32) (x1 : Vec Ideal S2048 .f32) (x2 : Vec Ideal S4x2048x12288 .f32) (x3 : Vec Ideal S4x12288 .f32)

/-- The eight conditioning rows. -/
abbrev rows : Fin 8 → Fin 2048 → EReal := condRow (fun b d => x0 (ix2 b d)) (fun d => x1 (ix1 d))

theorem five_apply (r : Fin 5) (d : Fin 2048) : val_main_v1 (F := Ideal) x0 x1 (ix2 r d) = rows x0 x1 (⟨r.val, by omega⟩ : Fin 8) d := by
  unfold rows condRow
  rw [if_pos r.isLt]
  pointwise [val_main_v1, val_main_v0]

theorem active_apply (r : Fin 5) (d : Fin 2048) : val_main_v8 (F := Ideal) x0 x1 (ix2 r d) = siluAt (val_main_v1 (F := Ideal) x0 x1 (ix2 r d)) := by
  simp only [val_main_v8, val_main_v7, val_main_v6, val_main_cst_0, val_main_v5, val_main_v4, val_main_cst, val_main_v3, val_main_v2]
  generalize val_main_v1 (F := Ideal) x0 x1 = y
  pointwise [siluAt]
  rfl

/-- The activated rows, with the three zero rows below them. -/
theorem padded_apply (r : Fin 8) (d : Fin 2048) : val_main_v9 (F := Ideal) x0 x1 (ix2 r d) = siluAt (rows x0 x1 r d) := by
  unfold val_main_v9
  by_cases h : r.val < 5
  · have e : val_main_v8 (F := Ideal) x0 x1 (ix2 ⟨r.val, h⟩ d) = siluAt (rows x0 x1 r d) := by rw [active_apply, five_apply]
    rw [← e]
    refine pad_apply_of_inside _ _ _ _ _ _ _ _ (ix2 (⟨r.val, h⟩ : Fin 5) d) fun a => ?_
    fin_cases a
    · show r.val = 0 + r.val * (0 + 1); omega
    · show d.val = 0 + d.val * (0 + 1); omega
  · have e : rows x0 x1 r d = 0 := by
      unfold rows condRow
      rw [dif_neg (by omega), if_neg h]
    rw [e, siluAt_zero]
    refine (pad_apply_of_not_inside _ _ _ _ _ _ _ _ (0 : Fin 2) ?_).trans (sitofp_zero (φ := .f32))
    show ¬(0 ≤ r.val ∧ (r.val - 0) % (0 + 1) = 0 ∧ (r.val - 0) / (0 + 1) < 5)
    rw [Nat.zero_add, Nat.div_one]
    exact fun hc => h hc.2.2

theorem product_apply (l : Fin 4) (r : Fin 8) (k : Fin 12288) :
    val_main_v14 (F := Ideal) x0 x1 x2 x3 (ix3 l r k) = (∑ d, x2 (ix3 l d k) * val_main_v9 (F := Ideal) x0 x1 (ix2 r d)) + x3 (ix2 l k) := by
  simp only [val_main_v14, val_main_v13, val_main_v12, val_main_v11, val_main_v10]
  generalize val_main_v9 (F := Ideal) x0 x1 = y
  pointwise []

theorem result_apply (l : Fin 4) (r : Fin 8) (k : Fin 12288) :
    val_main_v14 (F := Ideal) x0 x1 x2 x3 (ix3 l r k) = modulation (rows x0 x1 r) (fun d => x2 (ix3 l d k)) (x3 (ix2 l k)) := by
  rw [product_apply]
  unfold modulation
  exact congrArg (· + _) (Finset.sum_congr rfl fun d _ => by rw [padded_apply, mul_comm])

end Cert.AdaRef

end
-- ==== Proof.AdaEq.lean ====
/- The modulation and its reference leave the same array. -/
module

public import proofs.«01_k».proof.Defs
public import proofs.«01_k».proof.Proof.Ada
public import proofs.«01_k».proof.Proof.AdaRef
public import proofs.«01_k».proof.Proof.Gen.RefAdaIdeal.Run

@[expose] public section

set_option maxRecDepth 16384

noncomputable section

open Idealize.ShloMosaic Idealize.ShloMosaic.TcCoe Idealize.SL.Sem

namespace Cert.AdaEq

open Cert.AdaIdeal.Block

theorem algebraic : Cert.algebraic_AdaIdeal_RefAdaIdeal := by
  intro m g m' g' _ hag
  refine ⟨fun c => modulated m c, (θ_run Cert.AdaIdeal.defs _ _).mono (fun _ h c => ⟨(h c).1.trans (result m c), (h c).2⟩) (Cert.AdaIdeal.Value.run_blocks m g), ?_⟩
  refine (θ_run Cert.RefAdaIdeal.defs _ _).mono (fun _ h c => ⟨(h c).1.trans ?_, (h c).2⟩) (Cert.RefAdaIdeal.Value.run (F := Ideal) m' g')
  obtain ⟨h0, h1, h2, h3⟩ := hag c
  rw [Cert.RefAdaIdeal.Read.val_main_v14_eq, h0, h1, h2, h3]
  funext i
  obtain ⟨b, r, k, rfl⟩ : ∃ (b : Fin 4) (r : Fin 8) (k : Fin 12288), i = ix3 b r k := ⟨i 0, i 1, i 2, by funext x; fin_cases x <;> rfl⟩
  exact Cert.AdaRef.result_apply _ _ _ _ b r k

end Cert.AdaEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.RefMlpIdeal
public import proofs.«01_k».proof.Proof.Gen.InProjA
public import proofs.«01_k».proof.Proof.Gen.InProjA.Skeleton
public import proofs.«01_k».proof.Proof.Gen.InProjA.Launch
public import proofs.«01_k».proof.Proof.Gen.InProjA.Points
public import proofs.«01_k».proof.Proof.Gen.InProjA.Frame
public import proofs.«01_k».proof.Proof.Gen.InProjAIdeal
public import proofs.«01_k».proof.Proof.Gen.InProjAIdeal.Skeleton
public import proofs.«01_k».proof.Proof.Gen.InProjAIdeal.Launch
public import proofs.«01_k».proof.Proof.Gen.InProjAIdeal.Points
public import proofs.«01_k».proof.Proof.Gen.InProjAIdeal.Frame
public import proofs.«01_k».proof.Proof.Gen.RefInProjAIdeal
public import proofs.«01_k».proof.Proof.Gen.OutProjA
public import proofs.«01_k».proof.Proof.Gen.OutProjA.Skeleton
public import proofs.«01_k».proof.Proof.Gen.OutProjA.Launch
public import proofs.«01_k».proof.Proof.Gen.OutProjA.Points
public import proofs.«01_k».proof.Proof.Gen.OutProjA.Frame
public import proofs.«01_k».proof.Proof.Gen.OutProjAIdeal
public import proofs.«01_k».proof.Proof.Gen.OutProjAIdeal.Skeleton
public import proofs.«01_k».proof.Proof.Gen.OutProjAIdeal.Launch
public import proofs.«01_k».proof.Proof.Gen.OutProjAIdeal.Points
public import proofs.«01_k».proof.Proof.Gen.OutProjAIdeal.Frame
public import proofs.«01_k».proof.Proof.Gen.RefOutProjAIdeal
public import proofs.«01_k».proof.Proof.Gen.InProjC
public import proofs.«01_k».proof.Proof.Gen.InProjC.Skeleton
public import proofs.«01_k».proof.Proof.Gen.InProjC.Launch
public import proofs.«01_k».proof.Proof.Gen.InProjC.Points
public import proofs.«01_k».proof.Proof.Gen.InProjC.Frame
public import proofs.«01_k».proof.Proof.Gen.InProjCIdeal
public import proofs.«01_k».proof.Proof.Gen.InProjCIdeal.Skeleton
public import proofs.«01_k».proof.Proof.Gen.InProjCIdeal.Launch
public import proofs.«01_k».proof.Proof.Gen.InProjCIdeal.Points
public import proofs.«01_k».proof.Proof.Gen.InProjCIdeal.Frame
public import proofs.«01_k».proof.Proof.Gen.RefInProjCIdeal
public import proofs.«01_k».proof.Proof.Gen.OutProjC
public import proofs.«01_k».proof.Proof.Gen.OutProjC.Skeleton
public import proofs.«01_k».proof.Proof.Gen.OutProjC.Launch
public import proofs.«01_k».proof.Proof.Gen.OutProjC.Points
public import proofs.«01_k».proof.Proof.Gen.OutProjC.Frame
public import proofs.«01_k».proof.Proof.Gen.OutProjCIdeal
public import proofs.«01_k».proof.Proof.Gen.OutProjCIdeal.Skeleton
public import proofs.«01_k».proof.Proof.Gen.OutProjCIdeal.Launch
public import proofs.«01_k».proof.Proof.Gen.OutProjCIdeal.Points
public import proofs.«01_k».proof.Proof.Gen.OutProjCIdeal.Frame
public import proofs.«01_k».proof.Proof.Gen.RefOutProjCIdeal
public import proofs.«01_k».proof.Proof.Gen.InProjB
public import proofs.«01_k».proof.Proof.Gen.InProjB.Skeleton
public import proofs.«01_k».proof.Proof.Gen.InProjB.Launch
public import proofs.«01_k».proof.Proof.Gen.InProjB.Points
public import proofs.«01_k».proof.Proof.Gen.InProjB.Frame
public import proofs.«01_k».proof.Proof.Gen.InProjBIdeal
public import proofs.«01_k».proof.Proof.Gen.InProjBIdeal.Skeleton
public import proofs.«01_k».proof.Proof.Gen.InProjBIdeal.Launch
public import proofs.«01_k».proof.Proof.Gen.InProjBIdeal.Points
public import proofs.«01_k».proof.Proof.Gen.InProjBIdeal.Frame
public import proofs.«01_k».proof.Proof.Gen.RefInProjBIdeal
public import proofs.«01_k».proof.Proof.Gen.OutProjB
public import proofs.«01_k».proof.Proof.Gen.OutProjB.Skeleton
public import proofs.«01_k».proof.Proof.Gen.OutProjB.Launch
public import proofs.«01_k».proof.Proof.Gen.OutProjB.Points
public import proofs.«01_k».proof.Proof.Gen.OutProjB.Frame
public import proofs.«01_k».proof.Proof.Gen.OutProjBIdeal
public import proofs.«01_k».proof.Proof.Gen.OutProjBIdeal.Skeleton
public import proofs.«01_k».proof.Proof.Gen.OutProjBIdeal.Launch
public import proofs.«01_k».proof.Proof.Gen.OutProjBIdeal.Points
public import proofs.«01_k».proof.Proof.Gen.OutProjBIdeal.Frame
public import proofs.«01_k».proof.Proof.Gen.RefOutProjBIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.RefConvIdeal
public import proofs.«01_k».proof.Proof.Gen.Readout
public import proofs.«01_k».proof.Proof.Gen.Readout.Skeleton
public import proofs.«01_k».proof.Proof.Gen.Readout.Launch
public import proofs.«01_k».proof.Proof.Gen.Readout.Points
public import proofs.«01_k».proof.Proof.Gen.Readout.Frame
public import proofs.«01_k».proof.Proof.Gen.ReadoutIdeal
public import proofs.«01_k».proof.Proof.Gen.ReadoutIdeal.Skeleton
public import proofs.«01_k».proof.Proof.Gen.ReadoutIdeal.Launch
public import proofs.«01_k».proof.Proof.Gen.ReadoutIdeal.Points
public import proofs.«01_k».proof.Proof.Gen.ReadoutIdeal.Frame
public import proofs.«01_k».proof.Proof.Gen.RefReadoutIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.RefAdaIdeal
public import proofs.«01_k».proof.Proof.Gen.Pre_scores_finite
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpIdeal.Value
public import proofs.«01_k».proof.Proof.Gen.RefMlpIdeal.Run
public import proofs.«01_k».proof.Proof.Gen.RefMlpIdeal.Read
public import proofs.«01_k».proof.Proof.Gen.InProjAIdeal.Value
public import proofs.«01_k».proof.Proof.Gen.RefInProjAIdeal.Run
public import proofs.«01_k».proof.Proof.Gen.RefInProjAIdeal.Read
public import proofs.«01_k».proof.Proof.Gen.OutProjAIdeal.Value
public import proofs.«01_k».proof.Proof.Gen.RefOutProjAIdeal.Run
public import proofs.«01_k».proof.Proof.Gen.RefOutProjAIdeal.Read
public import proofs.«01_k».proof.Proof.Gen.InProjCIdeal.Value
public import proofs.«01_k».proof.Proof.Gen.RefInProjCIdeal.Run
public import proofs.«01_k».proof.Proof.Gen.RefInProjCIdeal.Read
public import proofs.«01_k».proof.Proof.Gen.OutProjCIdeal.Value
public import proofs.«01_k».proof.Proof.Gen.RefOutProjCIdeal.Run
public import proofs.«01_k».proof.Proof.Gen.RefOutProjCIdeal.Read
public import proofs.«01_k».proof.Proof.Gen.InProjBIdeal.Value
public import proofs.«01_k».proof.Proof.Gen.RefInProjBIdeal.Run
public import proofs.«01_k».proof.Proof.Gen.RefInProjBIdeal.Read
public import proofs.«01_k».proof.Proof.Gen.OutProjBIdeal.Value
public import proofs.«01_k».proof.Proof.Gen.RefOutProjBIdeal.Run
public import proofs.«01_k».proof.Proof.Gen.RefOutProjBIdeal.Read
public import proofs.«01_k».proof.Proof.Gen.ConvIdeal.Value
public import proofs.«01_k».proof.Proof.Gen.RefConvIdeal.Run
public import proofs.«01_k».proof.Proof.Gen.RefConvIdeal.Read
public import proofs.«01_k».proof.Proof.Gen.ReadoutIdeal.Value
public import proofs.«01_k».proof.Proof.Gen.RefReadoutIdeal.Run
public import proofs.«01_k».proof.Proof.Gen.RefReadoutIdeal.Read
public import proofs.«01_k».proof.Proof.Gen.AdaIdeal.Value
public import proofs.«01_k».proof.Proof.Gen.RefAdaIdeal.Run
public import proofs.«01_k».proof.Proof.Gen.RefAdaIdeal.Read
public import proofs.«01_k».proof.Proof.SwaEq
public import proofs.«01_k».proof.Proof.MlpEq
public import proofs.«01_k».proof.Proof.InProjAEq
public import proofs.«01_k».proof.Proof.OutProjAEq
public import proofs.«01_k».proof.Proof.InProjCEq
public import proofs.«01_k».proof.Proof.OutProjCEq
public import proofs.«01_k».proof.Proof.InProjBEq
public import proofs.«01_k».proof.Proof.OutProjBEq
public import proofs.«01_k».proof.Proof.ConvEq
public import proofs.«01_k».proof.Proof.ReadoutEq
public import proofs.«01_k».proof.Proof.AdaEq

@[expose] public section

noncomputable section

namespace Cert.Proof

open Idealize.ShloMosaic Idealize.SL.Sem Cert.Kernel

/-! ## The references' frames: the generated run, and a program without semaphores leaves none raised -/

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_refMlp : Cert.quiescent_RefMlpIdeal := fun m g _ =>
  (θ_run Cert.RefMlpIdeal.defs _ _).mono (fun r h => ⟨fun c => (h c).2, sem_eq_zero_of_no_sems (by decide) r.2⟩)
    (Cert.RefMlpIdeal.Value.run (F := Ideal) m g)

theorem frame_refInProjA : Cert.quiescent_RefInProjAIdeal := fun m g _ =>
  (θ_run Cert.RefInProjAIdeal.defs _ _).mono (fun r h => ⟨fun c => (h c).2, sem_eq_zero_of_no_sems (by decide) r.2⟩)
    (Cert.RefInProjAIdeal.Value.run (F := Ideal) m g)

theorem frame_refOutProjA : Cert.quiescent_RefOutProjAIdeal := fun m g _ =>
  (θ_run Cert.RefOutProjAIdeal.defs _ _).mono (fun r h => ⟨fun c => (h c).2, sem_eq_zero_of_no_sems (by decide) r.2⟩)
    (Cert.RefOutProjAIdeal.Value.run (F := Ideal) m g)

theorem frame_refInProjC : Cert.quiescent_RefInProjCIdeal := fun m g _ =>
  (θ_run Cert.RefInProjCIdeal.defs _ _).mono (fun r h => ⟨fun c => (h c).2, sem_eq_zero_of_no_sems (by decide) r.2⟩)
    (Cert.RefInProjCIdeal.Value.run (F := Ideal) m g)

theorem frame_refOutProjC : Cert.quiescent_RefOutProjCIdeal := fun m g _ =>
  (θ_run Cert.RefOutProjCIdeal.defs _ _).mono (fun r h => ⟨fun c => (h c).2, sem_eq_zero_of_no_sems (by decide) r.2⟩)
    (Cert.RefOutProjCIdeal.Value.run (F := Ideal) m g)

theorem frame_refInProjB : Cert.quiescent_RefInProjBIdeal := fun m g _ =>
  (θ_run Cert.RefInProjBIdeal.defs _ _).mono (fun r h => ⟨fun c => (h c).2, sem_eq_zero_of_no_sems (by decide) r.2⟩)
    (Cert.RefInProjBIdeal.Value.run (F := Ideal) m g)

theorem frame_refOutProjB : Cert.quiescent_RefOutProjBIdeal := fun m g _ =>
  (θ_run Cert.RefOutProjBIdeal.defs _ _).mono (fun r h => ⟨fun c => (h c).2, sem_eq_zero_of_no_sems (by decide) r.2⟩)
    (Cert.RefOutProjBIdeal.Value.run (F := Ideal) m g)

theorem frame_refConv : Cert.quiescent_RefConvIdeal := fun m g _ =>
  (θ_run Cert.RefConvIdeal.defs _ _).mono (fun r h => ⟨fun c => (h c).2, sem_eq_zero_of_no_sems (by decide) r.2⟩)
    (Cert.RefConvIdeal.Value.run (F := Ideal) m g)

theorem frame_refReadout : Cert.quiescent_RefReadoutIdeal := fun m g _ =>
  (θ_run Cert.RefReadoutIdeal.defs _ _).mono (fun r h => ⟨fun c => (h c).2, sem_eq_zero_of_no_sems (by decide) r.2⟩)
    (Cert.RefReadoutIdeal.Value.run (F := Ideal) m g)

theorem frame_refAda : Cert.quiescent_RefAdaIdeal := fun m g _ =>
  (θ_run Cert.RefAdaIdeal.defs _ _).mono (fun r h => ⟨fun c => (h c).2, sem_eq_zero_of_no_sems (by decide) r.2⟩)
    (Cert.RefAdaIdeal.Value.run (F := Ideal) m g)

theorem claim : Cert.Claim :=
  ⟨Cert.Kernel.Gen.facts, Cert.KernelIdeal.Gen.facts, Cert.ReferenceIdeal.Gen.facts,
    Cert.Mlp.Gen.facts, Cert.MlpIdeal.Gen.facts, Cert.RefMlpIdeal.Gen.facts,
    Cert.InProjA.Gen.facts, Cert.InProjAIdeal.Gen.facts, Cert.RefInProjAIdeal.Gen.facts,
    Cert.OutProjA.Gen.facts, Cert.OutProjAIdeal.Gen.facts, Cert.RefOutProjAIdeal.Gen.facts,
    Cert.InProjC.Gen.facts, Cert.InProjCIdeal.Gen.facts, Cert.RefInProjCIdeal.Gen.facts,
    Cert.OutProjC.Gen.facts, Cert.OutProjCIdeal.Gen.facts, Cert.RefOutProjCIdeal.Gen.facts,
    Cert.InProjB.Gen.facts, Cert.InProjBIdeal.Gen.facts, Cert.RefInProjBIdeal.Gen.facts,
    Cert.OutProjB.Gen.facts, Cert.OutProjBIdeal.Gen.facts, Cert.RefOutProjBIdeal.Gen.facts,
    Cert.Conv.Gen.facts, Cert.ConvIdeal.Gen.facts, Cert.RefConvIdeal.Gen.facts,
    Cert.Readout.Gen.facts, Cert.ReadoutIdeal.Gen.facts, Cert.RefReadoutIdeal.Gen.facts,
    Cert.Ada.Gen.facts, Cert.AdaIdeal.Gen.facts, Cert.RefAdaIdeal.Gen.facts,
    Cert.Pre_scores_finite.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Mlp.Gen.frame m g, fun m g _ => Cert.MlpIdeal.Gen.frame m g, frame_refMlp,
    fun m g _ => Cert.InProjA.Gen.frame m g, fun m g _ => Cert.InProjAIdeal.Gen.frame m g, frame_refInProjA,
    fun m g _ => Cert.OutProjA.Gen.frame m g, fun m g _ => Cert.OutProjAIdeal.Gen.frame m g, frame_refOutProjA,
    fun m g _ => Cert.InProjC.Gen.frame m g, fun m g _ => Cert.InProjCIdeal.Gen.frame m g, frame_refInProjC,
    fun m g _ => Cert.OutProjC.Gen.frame m g, fun m g _ => Cert.OutProjCIdeal.Gen.frame m g, frame_refOutProjC,
    fun m g _ => Cert.InProjB.Gen.frame m g, fun m g _ => Cert.InProjBIdeal.Gen.frame m g, frame_refInProjB,
    fun m g _ => Cert.OutProjB.Gen.frame m g, fun m g _ => Cert.OutProjBIdeal.Gen.frame m g, frame_refOutProjB,
    fun m g _ => Cert.Conv.Gen.frame m g, fun m g _ => Cert.ConvIdeal.Gen.frame m g, frame_refConv,
    fun m g _ => Cert.Readout.Gen.frame m g, fun m g _ => Cert.ReadoutIdeal.Gen.frame m g, frame_refReadout,
    fun m g _ => Cert.Ada.Gen.frame m g, fun m g _ => Cert.AdaIdeal.Gen.frame m g, frame_refAda,
    trivial, Cert.SwaEq.algebraic, trivial, Cert.MlpEq.algebraic, trivial, Cert.InProjAEq.algebraic, trivial, Cert.OutProjAEq.algebraic, trivial, Cert.InProjCEq.algebraic, trivial, Cert.OutProjCEq.algebraic, trivial, Cert.InProjBEq.algebraic, trivial, Cert.OutProjBEq.algebraic, trivial, Cert.ConvEq.algebraic, trivial, Cert.ReadoutEq.algebraic, trivial, Cert.AdaEq.algebraic⟩

end Cert.Proof

end
